-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v34_0)) (v1 : (c : Dev Cert.Kernel5Ideal.nD) → Buf (Elt Ideal) ((c.tc : Thread Cert.Kernel5Ideal.nD Cert.Kernel5Ideal.τ).loc Cert.Kernel5Ideal.main_v34_1)) (v2 : (c : Dev Cert.Kernel5Ideal.nD) → Buf (Elt Ideal) ((c.tc : Thread Cert.Kernel5Ideal.nD Cert.Kernel5Ideal.τ).loc Cert.Kernel5Ideal.main_v34_2)) (v3 : (c : Dev Cert.Kernel5Ideal.nD) → Buf (Elt Ideal) ((c.tc : Thread Cert.Kernel5Ideal.nD Cert.Kernel5Ideal.τ).loc Cert.Kernel5Ideal.main_v34_3)) (v4 : (c : Dev Cert.Kernel5Ideal.nD) → Buf (Elt Ideal) ((c.tc : Thread Cert.Kernel5Ideal.nD Cert.Kernel5Ideal.τ).loc Cert.Kernel5Ideal.main_v34_4)) (v5 : (c : Dev Cert.Kernel5Ideal.nD) → Buf (Elt Ideal) ((c.tc : Thread Cert.Kernel5Ideal.nD Cert.Kernel5Ideal.τ).loc Cert.Kernel5Ideal.main_v34_5)) (v6 : (c : Dev Cert.Kernel5Ideal.nD) → Buf (Elt Ideal) ((c.tc : Thread Cert.Kernel5Ideal.nD Cert.Kernel5Ideal.τ).loc Cert.Kernel5Ideal.main_v34_6)) (v7 : (c : Dev Cert.Kernel5Ideal.nD) → Buf (Elt Ideal) ((c.tc : Thread Cert.Kernel5Ideal.nD Cert.Kernel5Ideal.τ).loc Cert.Kernel5Ideal.main_v34_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34_0) = v0 c
          ∧ r.2.mem ((c.tc : Thread Cert.Kernel5Ideal.nD Cert.Kernel5Ideal.τ).loc Cert.Kernel5Ideal.main_v34_1) = v1 c
          ∧ r.2.mem ((c.tc : Thread Cert.Kernel5Ideal.nD Cert.Kernel5Ideal.τ).loc Cert.Kernel5Ideal.main_v34_2) = v2 c
          ∧ r.2.mem ((c.tc : Thread Cert.Kernel5Ideal.nD Cert.Kernel5Ideal.τ).loc Cert.Kernel5Ideal.main_v34_3) = v3 c
          ∧ r.2.mem ((c.tc : Thread Cert.Kernel5Ideal.nD Cert.Kernel5Ideal.τ).loc Cert.Kernel5Ideal.main_v34_4) = v4 c
          ∧ r.2.mem ((c.tc : Thread Cert.Kernel5Ideal.nD Cert.Kernel5Ideal.τ).loc Cert.Kernel5Ideal.main_v34_5) = v5 c
          ∧ r.2.mem ((c.tc : Thread Cert.Kernel5Ideal.nD Cert.Kernel5Ideal.τ).loc Cert.Kernel5Ideal.main_v34_6) = v6 c
          ∧ r.2.mem ((c.tc : Thread Cert.Kernel5Ideal.nD Cert.Kernel5Ideal.τ).loc Cert.Kernel5Ideal.main_v34_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v80) = v0 c
          ∧ r.2.mem ((c.tc : Thread Cert.Reference5Ideal.nD Cert.Reference5Ideal.τ).loc Cert.Reference5Ideal.main_v82) = v1 c
          ∧ r.2.mem ((c.tc : Thread Cert.Reference5Ideal.nD Cert.Reference5Ideal.τ).loc Cert.Reference5Ideal.main_v83) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_v86) = v4 c
          ∧ r.2.mem ((c.tc : Thread Cert.Reference5Ideal.nD Cert.Reference5Ideal.τ).loc Cert.Reference5Ideal.main_v88) = v5 c
          ∧ r.2.mem ((c.tc : Thread Cert.Reference5Ideal.nD Cert.Reference5Ideal.τ).loc Cert.Reference5Ideal.main_v96) = v6 c
          ∧ r.2.mem ((c.tc : Thread Cert.Reference5Ideal.nD Cert.Reference5Ideal.τ).loc Cert.Reference5Ideal.main_v104) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_inputs.lean ====
abbrev S4x8192x1024 : Shape := ⟨3, ![4, 8192, 1024]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v31 : IVec S_ 1) (main_v34 : IVec S1x64 1) : IVec S_ 1 :=
  let main_c_11 : IVec S_ 1 := constantI S_ 1 1#1
  let main_v35 : IVec S_ 1 := (fun x v => Host.reduce IntOp.andi x v reducesTo_S1x64_S_d0_1 h_S_) main_v34 main_c_11
  let main_v36 : IVec S_ 1 := andi main_v31 main_v35
  main_v36

def fn_part1 {F : FTy → Type} [FloatOps F] (main_arg4 : FVec F S1x64 .f32) (main_arg5 : FVec F S1x64 .f32) (main_arg6 : FVec F S1x64 .f32) (main_v16 : IVec S_ 1) (main_v17 : FVec F S1x64 .f32) : IVec S_ 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_c_5 : IVec S_ 1 := constantI S_ 1 1#1
  let main_v20 : IVec S_ 1 := (fun x v => Host.reduce IntOp.andi x v reducesTo_S1x64_S_d0_1 h_S_) main_v19 main_c_5
  let main_v21 : IVec S_ 1 := andi main_v16 main_v20
  let main_v22 : FVec F S1x64 .f32 := Host.absf main_arg4
  let main_cst_6 : FVec F S_ .f32 := constant S_ .f32 0x7F800000#32
  let main_v23 : FVec F S1x64 .f32 := broadcastInDim S1x64 ![] bcast_S_S1x64 main_cst_6
  let main_v24 : IVec S1x64 1 := cmpf .olt main_v22 main_v23
  let main_c_7 : IVec S_ 1 := constantI S_ 1 1#1
  let main_v25 : IVec S_ 1 := (fun x v => Host.reduce IntOp.andi x v reducesTo_S1x64_S_d0_1 h_S_) main_v24 main_c_7
  let main_v26 : IVec S_ 1 := andi main_v21 main_v25
  let main_v27 : FVec F S1x64 .f32 := Host.absf main_arg5
  let main_cst_8 : FVec F S_ .f32 := constant S_ .f32 0x7F800000#32
  let main_v28 : FVec F S1x64 .f32 := broadcastInDim S1x64 ![] bcast_S_S1x64 main_cst_8
  let main_v29 : IVec S1x64 1 := cmpf .olt main_v27 main_v28
  let main_c_9 : IVec S_ 1 := constantI S_ 1 1#1
  let main_v30 : IVec S_ 1 := (fun x v => Host.reduce IntOp.andi x v reducesTo_S1x64_S_d0_1 h_S_) main_v29 main_c_9
  let main_v31 : IVec S_ 1 := andi main_v26 main_v30
  let main_v32 : FVec F S1x64 .f32 := Host.absf main_arg6
  let main_cst_10 : FVec F S_ .f32 := constant S_ .f32 0x7F800000#32
  let main_v33 : FVec F S1x64 .f32 := broadcastInDim S1x64 ![] bcast_S_S1x64 main_cst_10
  let main_v34 : IVec S1x64 1 := cmpf .olt main_v32 main_v33
  fn_part2 (F := F) main_v31 main_v34

def fn {F : FTy → Type} [FloatOps F] (main_arg0 : FVec F S4x8192x1024 .bf16) (main_arg1 : FVec F S4x8192x1024 .bf16) (main_arg2 : FVec F S4x8192x1024 .bf16) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  let main_v11 : FVec F S4x8192x1024 .f32 := (extf .f32 · bitsLt_bf16_f32) main_arg2
  let main_v12 : FVec F S4x8192x1024 .f32 := Host.absf main_v11
  let main_cst_2 : FVec F S_ .f32 := constant S_ .f32 0x7F800000#32
  let main_v13 : FVec F S4x8192x1024 .f32 := broadcastInDim S4x8192x1024 ![] bcast_S_S4x8192x1024 main_cst_2
  let main_v14 : IVec S4x8192x1024 1 := cmpf .olt main_v12 main_v13
  let main_c_3 : IVec S_ 1 := constantI S_ 1 1#1
  let main_v15 : IVec S_ 1 := (fun x v => Host.reduce IntOp.andi x v reducesTo_S4x8192x1024_S_d0_1_2 h_S_) main_v14 main_c_3
  let main_v16 : IVec S_ 1 := andi main_v10 main_v15
  let main_v17 : FVec F S1x64 .f32 := Host.absf main_arg3
  fn_part1 (F := F) main_arg4 main_arg5 main_arg6 main_v16 main_v17
-- ==== Kernel.lean ====
abbrev S4x8192x1024 : Shape := ⟨3, ![4, 8192, 1024]⟩
abbrev S1x64 : Shape := ⟨2, ![1, 64]⟩
abbrev S1x128 : Shape := ⟨2, ![1, 128]⟩
abbrev S64 : Shape := ⟨1, ![64]⟩
abbrev S128 : Shape := ⟨1, ![128]⟩
abbrev S1x512x128 : Shape := ⟨3, ![1, 512, 128]⟩
abbrev S1x8192x128 : Shape := ⟨3, ![1, 8192, 128]⟩
abbrev S1024x1 : Shape := ⟨2, ![1024, 1]⟩
abbrev S1024x128 : Shape := ⟨2, ![1024, 128]⟩
abbrev S512x128 : Shape := ⟨2, ![512, 128]⟩
abbrev S1024x512 : Shape := ⟨2, ![1024, 512]⟩
abbrev S1024 : Shape := ⟨1, ![1024]⟩
abbrev S1 : Shape := ⟨1, ![1]⟩
abbrev S1x1 : Shape := ⟨2, ![1, 1]⟩
abbrev S512x1 : Shape := ⟨2, ![512, 1]⟩
abbrev S512 : Shape := ⟨1, ![512]⟩

abbrev nBuf : Space → Nat
  | .hbm => 19
  | .vmem => 16
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S128, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x128, .f32⟩
  | .hbm, ⟨18, _⟩ => ⟨S4x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x128, .bf16⟩
  | .local _ .vmem, ⟨12, _⟩ => ⟨S1x512x128, .bf16⟩
  | .local _ .vmem, ⟨13, _⟩ => ⟨S1024x1, .f32⟩
  | .local _ .vmem, ⟨14, _⟩ => ⟨S1024x1, .f32⟩
  | .local _ .vmem, ⟨15, _⟩ => ⟨S1024x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 8, 16], ![false, false, false]⟩

@[reducible] def k0_t1_loop (i : grid0.Coords) : Scf.Loop 32 :=
  let c0_i32_49 : BitVec 32 := 0#32
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let v104 : BitVec 32 := Scalar.subi v103 c0_i32_49
  let c1_i32_50 : BitVec 32 := 1#32
  let v106 : BitVec 32 := Scalar.divsi v104 c1_i32_50
  let v107 : BitVec 32 := Scalar.muli v106 c1_i32_50
  let v108 : BitVec 32 := Scalar.addi c0_i32_49 v107
  let c1_i32_51 : BitVec 32 := 1#32
  ⟨c0_i32_49, v108, c1_i32_51⟩
def k0_mult1 (i : grid0.Coords) (k0_t1 : Fin (k0_t1_loop i).trips) : BitVec 32 :=
  let c0_i32_49 : BitVec 32 := 0#32
  let c1_i32_51 : BitVec 32 := 1#32
  let arg15 : BitVec 32 := Scf.iv c0_i32_49 c1_i32_51 k0_t1
  let c512_i32_84 : BitVec 32 := 512#32
  let v164 : BitVec 32 := Scalar.muli arg15 c512_i32_84
  v164
def k0_off1 (i : grid0.Coords) (k0_t1 : Fin (k0_t1_loop i).trips) : Fin 3 → Nat :=
  let c0_85 : Index := 0#32
  let c0_i32_49 : BitVec 32 := 0#32
  let c1_i32_51 : BitVec 32 := 1#32
  let arg15 : BitVec 32 := Scf.iv c0_i32_49 c1_i32_51 k0_t1
  let c512_i32_84 : BitVec 32 := 512#32
  let v164 : BitVec 32 := Scalar.muli arg15 c512_i32_84
  let v165 : BitVec 32 := v164
  let v166 : Index := Scalar.indexCast v165
  let c0_86 : Index := 0#32
  ![0, v166.toNat, 0]
@[reducible] def k0_t2_loop (i : grid0.Coords) : Scf.Loop 32 :=
  let c0_i32_49 : BitVec 32 := 0#32
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let v104 : BitVec 32 := Scalar.subi v103 c0_i32_49
  let c1_i32_50 : BitVec 32 := 1#32
  let v106 : BitVec 32 := Scalar.divsi v104 c1_i32_50
  let v107 : BitVec 32 := Scalar.muli v106 c1_i32_50
  let v108 : BitVec 32 := Scalar.addi c0_i32_49 v107
  let v105 : BitVec 32 := Scalar.addi c0_i32_49 v104
  let c1_i32_52 : BitVec 32 := 1#32
  ⟨v108, v105, c1_i32_52⟩
def k0_mult2 (i : grid0.Coords) (k0_t2 : Fin (k0_t2_loop i).trips) : BitVec 32 :=
  let c0_i32_49 : BitVec 32 := 0#32
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let v104 : BitVec 32 := Scalar.subi v103 c0_i32_49
  let c1_i32_50 : BitVec 32 := 1#32
  let v106 : BitVec 32 := Scalar.divsi v104 c1_i32_50
  let v107 : BitVec 32 := Scalar.muli v106 c1_i32_50
  let v108 : BitVec 32 := Scalar.addi c0_i32_49 v107
  let c1_i32_52 : BitVec 32 := 1#32
  let arg15 : BitVec 32 := Scf.iv v108 c1_i32_52 k0_t2
  let c512_i32_84 : BitVec 32 := 512#32
  let v164 : BitVec 32 := Scalar.muli arg15 c512_i32_84
  v164
def k0_off2 (i : grid0.Coords) (k0_t2 : Fin (k0_t2_loop i).trips) : Fin 3 → Nat :=
  let c0_85 : Index := 0#32
  let c0_i32_49 : BitVec 32 := 0#32
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let v104 : BitVec 32 := Scalar.subi v103 c0_i32_49
  let c1_i32_50 : BitVec 32 := 1#32
  let v106 : BitVec 32 := Scalar.divsi v104 c1_i32_50
  let v107 : BitVec 32 := Scalar.muli v106 c1_i32_50
  let v108 : BitVec 32 := Scalar.addi c0_i32_49 v107
  let c1_i32_52 : BitVec 32 := 1#32
  let arg15 : BitVec 32 := Scf.iv v108 c1_i32_52 k0_t2
  let c512_i32_84 : BitVec 32 := 512#32
  let v164 : BitVec 32 := Scalar.muli arg15 c512_i32_84
  let v165 : BitVec 32 := v164
  let v166 : Index := Scalar.indexCast v165
  let c0_86 : Index := 0#32
  ![0, v166.toNat, 0]
@[reducible] def k0_t3_loop (i : grid0.Coords) : Scf.Loop 32 :=
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let v109 : BitVec 32 := Scalar.subi v82 v103
  let c1_i32_54 : BitVec 32 := 1#32
  let v111 : BitVec 32 := Scalar.divsi v109 c1_i32_54
  let v112 : BitVec 32 := Scalar.muli v111 c1_i32_54
  let v113 : BitVec 32 := Scalar.addi v103 v112
  let c1_i32_55 : BitVec 32 := 1#32
  ⟨v103, v113, c1_i32_55⟩
def k0_mult3 (i : grid0.Coords) (k0_t3 : Fin (k0_t3_loop i).trips) : BitVec 32 :=
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let c1_i32_55 : BitVec 32 := 1#32
  let arg15 : BitVec 32 := Scf.iv v103 c1_i32_55 k0_t3
  let c512_i32_84 : BitVec 32 := 512#32
  let v164 : BitVec 32 := Scalar.muli arg15 c512_i32_84
  v164
def k0_off3 (i : grid0.Coords) (k0_t3 : Fin (k0_t3_loop i).trips) : Fin 3 → Nat :=
  let c0_85 : Index := 0#32
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let c1_i32_55 : BitVec 32 := 1#32
  let arg15 : BitVec 32 := Scf.iv v103 c1_i32_55 k0_t3
  let c512_i32_84 : BitVec 32 := 512#32
  let v164 : BitVec 32 := Scalar.muli arg15 c512_i32_84
  let v165 : BitVec 32 := v164
  let v166 : Index := Scalar.indexCast v165
  let c0_86 : Index := 0#32
  ![0, v166.toNat, 0]
@[reducible] def k0_t4_loop (i : grid0.Coords) : Scf.Loop 32 :=
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let v109 : BitVec 32 := Scalar.subi v82 v103
  let c1_i32_54 : BitVec 32 := 1#32
  let v111 : BitVec 32 := Scalar.divsi v109 c1_i32_54
  let v112 : BitVec 32 := Scalar.muli v111 c1_i32_54
  let v113 : BitVec 32 := Scalar.addi v103 v112
  let v110 : BitVec 32 := Scalar.addi v103 v109
  let c1_i32_56 : BitVec 32 := 1#32
  ⟨v113, v110, c1_i32_56⟩
def k0_mult4 (i : grid0.Coords) (k0_t4 : Fin (k0_t4_loop i).trips) : BitVec 32 :=
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let v109 : BitVec 32 := Scalar.subi v82 v103
  let c1_i32_54 : BitVec 32 := 1#32
  let v111 : BitVec 32 := Scalar.divsi v109 c1_i32_54
  let v112 : BitVec 32 := Scalar.muli v111 c1_i32_54
  let v113 : BitVec 32 := Scalar.addi v103 v112
  let c1_i32_56 : BitVec 32 := 1#32
  let arg15 : BitVec 32 := Scf.iv v113 c1_i32_56 k0_t4
  let c512_i32_84 : BitVec 32 := 512#32
  let v164 : BitVec 32 := Scalar.muli arg15 c512_i32_84
  v164
def k0_off4 (i : grid0.Coords) (k0_t4 : Fin (k0_t4_loop i).trips) : Fin 3 → Nat :=
  let c0_85 : Index := 0#32
  let c16_i32 : BitVec 32 := 16#32
  let c0_i32 : BitVec 32 := 0#32
  let arg2 : BitVec 32 := BitVec.ofNat 32 (i 2).val
  let c512_i32 : BitVec 32 := 512#32
  let v23 : BitVec 32 := Scalar.muli arg2 c512_i32
  let v24 : BitVec 32 := Scalar.addi c0_i32 v23
  let c512_i32_18 : BitVec 32 := 512#32
  let v42 : BitVec 32 := Scalar.addi v24 c512_i32_18
  let c1_i32_19 : BitVec 32 := 1#32
  let v43 : BitVec 32 := Scalar.subi v42 c1_i32_19
  let c0_i32_21 : BitVec 32 := 0#32
  let v45 : BitVec 1 := Scalar.cmpi .sgt v43 c0_i32_21
  let v46 : BitVec 32 := Scalar.extui v45
  let c0_i32_22 : BitVec 32 := 0#32
  let v47 : BitVec 1 := Scalar.cmpi .slt v43 c0_i32_22
  let v48 : BitVec 32 := Scalar.extui v47
  let v49 : BitVec 32 := Scalar.subi v46 v48
  let c64_i32_20 : BitVec 32 := 64#32
  let c0_i32_23 : BitVec 32 := 0#32
  let v50 : BitVec 1 := Scalar.cmpi .sgt c64_i32_20 c0_i32_23
  let v51 : BitVec 32 := Scalar.extui v50
  let c0_i32_24 : BitVec 32 := 0#32
  let v52 : BitVec 1 := Scalar.cmpi .slt c64_i32_20 c0_i32_24
  let v53 : BitVec 32 := Scalar.extui v52
  let v54 : BitVec 32 := Scalar.subi v51 v53
  let v55 : BitVec 1 := Scalar.cmpi .ne v49 v54
  let v56 : BitVec 32 := Scalar.remsi v43 c64_i32_20
  let c0_i32_25 : BitVec 32 := 0#32
  let v57 : BitVec 1 := Scalar.cmpi .ne v56 c0_i32_25
  let v58 : BitVec 1 := Scalar.andi v55 v57
  let v44 : BitVec 32 := Scalar.divsi v43 c64_i32_20
  let c1_i32_26 : BitVec 32 := 1#32
  let v59 : BitVec 32 := Scalar.subi v44 c1_i32_26
  let v60 : BitVec 32 := Scalar.select v58 v59 v44
  let c64_i32_27 : BitVec 32 := 64#32
  let v61 : BitVec 32 := Scalar.muli v60 c64_i32_27
  let c64_i32_28 : BitVec 32 := 64#32
  let v62 : BitVec 32 := Scalar.addi v61 c64_i32_28
  let c1_i32_29 : BitVec 32 := 1#32
  let v63 : BitVec 32 := Scalar.subi v62 c1_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c512_i32_30 : BitVec 32 := 512#32
  let c0_i32_33 : BitVec 32 := 0#32
  let v70 : BitVec 1 := Scalar.cmpi .sgt c512_i32_30 c0_i32_33
  let v71 : BitVec 32 := Scalar.extui v70
  let c0_i32_34 : BitVec 32 := 0#32
  let v72 : BitVec 1 := Scalar.cmpi .slt c512_i32_30 c0_i32_34
  let v73 : BitVec 32 := Scalar.extui v72
  let v74 : BitVec 32 := Scalar.subi v71 v73
  let v75 : BitVec 1 := Scalar.cmpi .ne v69 v74
  let v76 : BitVec 32 := Scalar.remsi v63 c512_i32_30
  let c0_i32_35 : BitVec 32 := 0#32
  let v77 : BitVec 1 := Scalar.cmpi .ne v76 c0_i32_35
  let v78 : BitVec 1 := Scalar.andi v75 v77
  let v64 : BitVec 32 := Scalar.divsi v63 c512_i32_30
  let c1_i32_36 : BitVec 32 := 1#32
  let v79 : BitVec 32 := Scalar.subi v64 c1_i32_36
  let v80 : BitVec 32 := Scalar.select v78 v79 v64
  let c1_i32_37 : BitVec 32 := 1#32
  let v81 : BitVec 32 := Scalar.addi v80 c1_i32_37
  let v82 : BitVec 32 := Scalar.minsi c16_i32 v81
  let c0_i32_47 : BitVec 32 := 0#32
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c64_i32_12 : BitVec 32 := 64#32
  let c0_i32_15 : BitVec 32 := 0#32
  let v31 : BitVec 1 := Scalar.cmpi .sgt c64_i32_12 c0_i32_15
  let v32 : BitVec 32 := Scalar.extui v31
  let c0_i32_16 : BitVec 32 := 0#32
  let v33 : BitVec 1 := Scalar.cmpi .slt c64_i32_12 c0_i32_16
  let v34 : BitVec 32 := Scalar.extui v33
  let v35 : BitVec 32 := Scalar.subi v32 v34
  let v36 : BitVec 1 := Scalar.cmpi .ne v30 v35
  let v37 : BitVec 32 := Scalar.remsi v24 c64_i32_12
  let c0_i32_17 : BitVec 32 := 0#32
  let v38 : BitVec 1 := Scalar.cmpi .ne v37 c0_i32_17
  let v39 : BitVec 1 := Scalar.andi v36 v38
  let v25 : BitVec 32 := Scalar.divsi v24 c64_i32_12
  let c1_i32 : BitVec 32 := 1#32
  let v40 : BitVec 32 := Scalar.subi v25 c1_i32
  let v41 : BitVec 32 := Scalar.select v39 v40 v25
  let c64_i32_38 : BitVec 32 := 64#32
  let v83 : BitVec 32 := Scalar.muli v41 c64_i32_38
  let c64_i32_39 : BitVec 32 := 64#32
  let v84 : BitVec 32 := Scalar.addi v83 c64_i32_39
  let c0_i32_41 : BitVec 32 := 0#32
  let v86 : BitVec 1 := Scalar.cmpi .sgt v84 c0_i32_41
  let v87 : BitVec 32 := Scalar.extui v86
  let c0_i32_42 : BitVec 32 := 0#32
  let v88 : BitVec 1 := Scalar.cmpi .slt v84 c0_i32_42
  let v89 : BitVec 32 := Scalar.extui v88
  let v90 : BitVec 32 := Scalar.subi v87 v89
  let c512_i32_40 : BitVec 32 := 512#32
  let c0_i32_43 : BitVec 32 := 0#32
  let v91 : BitVec 1 := Scalar.cmpi .sgt c512_i32_40 c0_i32_43
  let v92 : BitVec 32 := Scalar.extui v91
  let c0_i32_44 : BitVec 32 := 0#32
  let v93 : BitVec 1 := Scalar.cmpi .slt c512_i32_40 c0_i32_44
  let v94 : BitVec 32 := Scalar.extui v93
  let v95 : BitVec 32 := Scalar.subi v92 v94
  let v96 : BitVec 1 := Scalar.cmpi .ne v90 v95
  let v97 : BitVec 32 := Scalar.remsi v84 c512_i32_40
  let c0_i32_45 : BitVec 32 := 0#32
  let v98 : BitVec 1 := Scalar.cmpi .ne v97 c0_i32_45
  let v99 : BitVec 1 := Scalar.andi v96 v98
  let v85 : BitVec 32 := Scalar.divsi v84 c512_i32_40
  let c1_i32_46 : BitVec 32 := 1#32
  let v100 : BitVec 32 := Scalar.subi v85 c1_i32_46
  let v101 : BitVec 32 := Scalar.select v99 v100 v85
  let v102 : BitVec 32 := Scalar.maxsi c0_i32_47 v101
  let v103 : BitVec 32 := Scalar.minsi v82 v102
  let v109 : BitVec 32 := Scalar.subi v82 v103
  let c1_i32_54 : BitVec 32 := 1#32
  let v111 : BitVec 32 := Scalar.divsi v109 c1_i32_54
  let v112 : BitVec 32 := Scalar.muli v111 c1_i32_54
  let v113 : BitVec 32 := Scalar.addi v103 v112
  let c1_i32_56 : BitVec 32 := 1#32
  let arg15 : BitVec 32 := Scf.iv v113 c1_i32_56 k0_t4
  let c512_i32_84 : BitVec 32 := 512#32
  let v164 : BitVec 32 := Scalar.muli arg15 c512_i32_84
  let v165 : BitVec 32 := v164
  let v166 : Index := Scalar.indexCast v165
  let c0_86 : Index := 0#32
  ![0, v166.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S1x64 : Shape := ⟨2, ![1, 64]⟩
abbrev S1x128 : Shape := ⟨2, ![1, 128]⟩
abbrev S4x8192x8x2x64 : Shape := ⟨5, ![4, 8192, 8, 2, 64]⟩
abbrev S4x8192x8x128 : Shape := ⟨4, ![4, 8192, 8, 128]⟩
abbrev S8192 : Shape := ⟨1, ![8192]⟩
abbrev S64 : Shape := ⟨1, ![64]⟩
abbrev S_ : Shape := ⟨0, ![]⟩
abbrev S4x8x2x8192x8192 : Shape := ⟨5, ![4, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S128 : Shape := ⟨1, ![128]⟩
abbrev S1x1x1x128 : Shape := ⟨4, ![1, 1, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S4x8192x1024, .f32⟩
  | .hbm, ⟨9, _⟩ => ⟨S4x8192x8x2x64, .f32⟩
  | .hbm, ⟨10, _⟩ => ⟨S4x8192x1024, .f32⟩
  | .hbm, ⟨11, _⟩ => ⟨S4x8192x8x2x64, .f32⟩
  | .hbm, ⟨12, _⟩ => ⟨S4x8192x1024, .f32⟩
  | .hbm, ⟨13, _⟩ => ⟨S4x8192x8x128, .f32⟩
  | .hbm, ⟨14, _⟩ => ⟨S8192, .i32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x8x2x8192x8192, .f32⟩
  | .hbm, ⟨31, _⟩ => ⟨S1x8192, .i32⟩
  | .hbm, ⟨32, _⟩ => ⟨S_, .i32⟩
  | .hbm, ⟨33, _⟩ => ⟨S_, .i32⟩
  | .hbm, ⟨34, _⟩ => ⟨S1x8192, .i32⟩
  | .hbm, ⟨35, _⟩ => ⟨S1x8192, .i32⟩
  | .hbm, ⟨36, _⟩ => ⟨S1x8192, .i32⟩
  | .hbm, ⟨37, _⟩ => ⟨S_, .i32⟩
  | .hbm, ⟨38, _⟩ => ⟨S1x8192, .i32⟩
  | .hbm, ⟨39, _⟩ => ⟨S1x8192, .i1⟩
  | .hbm, ⟨40, _⟩ => ⟨S1x8192, .i32⟩
  | .hbm, ⟨41, _⟩ => ⟨S1x8192, .i32⟩
  | .hbm, ⟨42, _⟩ => ⟨S_, .i32⟩
  | .hbm, ⟨43, _⟩ => ⟨S1x8192, .i32⟩
  | .hbm, ⟨44, _⟩ => ⟨S1x8192, .i1⟩
  | .hbm, ⟨45, _⟩ => ⟨S1x8192, .i1⟩
  | .hbm, ⟨46, _⟩ => ⟨S_, .i32⟩
  | .hbm, ⟨47, _⟩ => ⟨S1x8192, .i32⟩
  | .hbm, ⟨48, _⟩ => ⟨S1x8192, .i32⟩
  | .hbm, ⟨49, _⟩ => ⟨S1x8192, .i32⟩
  | .hbm, ⟨50, _⟩ => ⟨S8192x1, .i32⟩
  | .hbm, ⟨51, _⟩ => ⟨S_, .i32⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S_, .i32⟩
  | .hbm, ⟨57, _⟩ => ⟨S8192x1, .i32⟩
  | .hbm, ⟨58, _⟩ => ⟨S8192x1, .i1⟩
  | .hbm, ⟨59, _⟩ => ⟨S8192x1, .i32⟩
  | .hbm, ⟨60, _⟩ => ⟨S8192x1, .i32⟩
  | .hbm, ⟨61, _⟩ => ⟨S_, .i32⟩
  | .hbm, ⟨62, _⟩ => ⟨S8192x1, .i32⟩
  | .hbm, ⟨63, _⟩ => ⟨S8192x1, .i1⟩
  | .hbm, ⟨64, _⟩ => ⟨S8192x1, .i1⟩
  | .hbm, ⟨65, _⟩ => ⟨S_, .i32⟩
  | .hbm, ⟨66, _⟩ => ⟨S8192x1, .i32⟩
  | .hbm, ⟨67, _⟩ => ⟨S8192x1, .i32⟩
  | .hbm, ⟨68, _⟩ => ⟨S8192x1, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S_, .f32⟩
  | .hbm, ⟨73, _⟩ => ⟨S_, .f32⟩
  | .hbm, ⟨74, _⟩ => ⟨S4x8x2x8192x8192, .i1⟩
  | .hbm, ⟨75, _⟩ => ⟨S4x8x2x8192x8192, .f32⟩
  | .hbm, ⟨76, _⟩ => ⟨S4x8x2x8192x8192, .f32⟩
  | .hbm, ⟨77, _⟩ => ⟨S_, .f32⟩
  | .hbm, ⟨78, _⟩ => ⟨S4x8x2x8192, .f32⟩
  | .hbm, ⟨79, _⟩ => ⟨S_, .f32⟩
  | .hbm, ⟨80, _⟩ => ⟨S4x8x2x8192, .f32⟩
  | .hbm, ⟨81, _⟩ => ⟨S4x8x2x8192, .f32⟩
  | .hbm, ⟨82, _⟩ => ⟨S4x8x2x8192x1, .f32⟩
  | .hbm, ⟨83, _⟩ => ⟨S4x8x2x8192x8192, .f32⟩
  | .hbm, ⟨84, _⟩ => ⟨S4x8x2x8192x8192, .f32⟩
  | .hbm, ⟨85, _⟩ => ⟨S4x8x2x8192x8192, .f32⟩
  | .hbm, ⟨86, _⟩ => ⟨S_, .f32⟩
  | .hbm, ⟨87, _⟩ => ⟨S4x8x2x8192, .f32⟩
  | .hbm, ⟨88, _⟩ => ⟨S4x8x2x8192x1, .f32⟩
  | .hbm, ⟨89, _⟩ => ⟨S4x8x2x8192x8192, .f32⟩
  | .hbm, ⟨90, _⟩ => ⟨S4x8x2x8192x8192, .f32⟩
  | .hbm, ⟨91, _⟩ => ⟨S4x8x1x8192x8192, .f32⟩
  | .hbm, ⟨92, _⟩ => ⟨S4x8x8192x8192, .f32⟩
  | .hbm, ⟨93, _⟩ => ⟨S4x8x1x8192x8192, .f32⟩
  | .hbm, ⟨94, _⟩ => ⟨S4x8x8192x8192, .f32⟩
  | .hbm, ⟨95, _⟩ => ⟨S4x8x8192x8192, .f32⟩
  | .hbm, ⟨96, _⟩ => ⟨S4x8x8192x8192, .f32⟩
  | .hbm, ⟨97, _⟩ => ⟨S4x8x8192x8192, .f32⟩
  | .hbm, ⟨98, _⟩ => ⟨S4x8x128x8192, .f32⟩
  | .hbm, ⟨99, _⟩ => ⟨S4x8192x8x128, .f32⟩
  | .hbm, ⟨100, _⟩ => ⟨S4x8192x8x128, .f32⟩
  | .hbm, ⟨101, _⟩ => ⟨S_, .f32⟩
  | .hbm, ⟨102, _⟩ => ⟨S4x8192x8, .f32⟩
  | .hbm, ⟨103, _⟩ => ⟨S4x8192x8x1, .f32⟩
  | .hbm, ⟨104, _⟩ => ⟨S_, .f32⟩
  | .hbm, ⟨105, _⟩ => ⟨S4x8192x8x1, .f32⟩
  | .hbm, ⟨106, _⟩ => ⟨S4x8192x8x1, .f32⟩
  | .hbm, ⟨107, _⟩ => ⟨S_, .f32⟩
  | .hbm, ⟨108, _⟩ => ⟨S4x8192x8x1, .f32⟩
  | .hbm, ⟨109, _⟩ => ⟨S4x8192x8x1, .f32⟩
  | .hbm, ⟨110, _⟩ => ⟨S4x8192x8x1, .f32⟩
  | .hbm, ⟨111, _⟩ => ⟨S4x8192x8x128, .f32⟩
  | .hbm, ⟨112, _⟩ => ⟨S4x8192x8x128, .f32⟩
  | .hbm, ⟨113, _⟩ => ⟨S128, .f32⟩
  | .hbm, ⟨114, _⟩ => ⟨S1x1x1x128, .f32⟩
  | .hbm, ⟨115, _⟩ => ⟨S4x8192x8x128, .f32⟩
  | .hbm, ⟨116, _⟩ => ⟨S4x8192x8x128, .f32⟩
  | .hbm, ⟨117, _⟩ => ⟨S_, .f32⟩
  | .hbm, ⟨118, _⟩ => ⟨S4x8192x8x128, .f32⟩
  | .hbm, ⟨119, _⟩ => ⟨S4x8192x8x128, .f32⟩
  | .hbm, ⟨120, _⟩ => ⟨S4x8192x1024, .f32⟩
  | .hbm, ⟨121, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_3 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v27 : Ref sig .tc := ⟨.hbm, 76, rfl⟩
abbrev main_cst_4 : Ref sig .tc := ⟨.hbm, 77, rfl⟩
abbrev main_v28 : Ref sig .tc := ⟨.hbm, 78, rfl⟩
abbrev main_cst_5 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_6 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_7 : Ref sig .tc := ⟨.hbm, 101, rfl⟩
abbrev main_v49 : Ref sig .tc := ⟨.hbm, 102, rfl⟩
abbrev main_v50 : Ref sig .tc := ⟨.hbm, 103, rfl⟩
abbrev main_cst_8 : Ref sig .tc := ⟨.hbm, 104, rfl⟩
abbrev main_v51 : Ref sig .tc := ⟨.hbm, 105, rfl⟩
abbrev main_v52 : Ref sig .tc := ⟨.hbm, 106, rfl⟩
abbrev main_cst_9 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_10 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩

abbrev nD : Nat := 1
abbrev τ : Topo := Topo.v7x

variable {F : FTy → Type} [FloatOps F]
-- ==== Kernel2.lean ====
abbrev S32768x1024 : Shape := ⟨2, ![32768, 1024]⟩
abbrev S32768x2048 : Shape := ⟨2, ![32768, 2048]⟩
abbrev S1x1024x4096 : Shape := ⟨3, ![1, 1024, 4096]⟩
abbrev S1024x4096 : Shape := ⟨2, ![1024, 4096]⟩
abbrev S1024x1024 : Shape := ⟨2, ![1024, 1024]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S1x1024x4096, .f32⟩
  | .hbm, ⟨3, _⟩ => ⟨S1024x4096, .f32⟩
  | .hbm, ⟨4, _⟩ => ⟨S1024x4096, .bf16⟩
  | .hbm, ⟨5, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S32768x1024 : Shape := ⟨2, ![32768, 1024]⟩
abbrev S32768x2048 : Shape := ⟨2, ![32768, 2048]⟩
abbrev S1x1024x4096 : Shape := ⟨3, ![1, 1024, 4096]⟩
abbrev S1024x4096 : Shape := ⟨2, ![1024, 4096]⟩
abbrev S32768x4096 : Shape := ⟨2, ![32768, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S1x1024x4096, .f32⟩
  | .hbm, ⟨3, _⟩ => ⟨S32768x1024, .f32⟩
  | .hbm, ⟨4, _⟩ => ⟨S1024x4096, .f32⟩
  | .hbm, ⟨5, _⟩ => ⟨S32768x4096, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel3.lean ====
abbrev S32768x2048 : Shape := ⟨2, ![32768, 2048]⟩
abbrev S32768x1024 : Shape := ⟨2, ![32768, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x2048, .bf16⟩
  | .hbm, ⟨3, _⟩ => ⟨S32768x2048, .bf16⟩
  | .hbm, ⟨4, _⟩ => ⟨S1x1024x2048, .f32⟩
  | .hbm, ⟨5, _⟩ => ⟨S1x2048x2048, .f32⟩
  | .hbm, ⟨6, _⟩ => ⟨S1x2048, .f32⟩
  | .hbm, ⟨7, _⟩ => ⟨S1024x2048, .f32⟩
  | .hbm, ⟨8, _⟩ => ⟨S1024x2048, .bf16⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S32768x2048, .f32⟩
  | .hbm, ⟨14, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1024x2048, .bf16⟩
  | .local _ .vmem, ⟨9, _⟩ => ⟨S2048x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x2048 : Shape := ⟨2, ![32768, 2048]⟩
abbrev S32768x1024 : Shape := ⟨2, ![32768, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x2048, .bf16⟩
  | .hbm, ⟨3, _⟩ => ⟨S32768x2048, .bf16⟩
  | .hbm, ⟨4, _⟩ => ⟨S1x1024x2048, .f32⟩
  | .hbm, ⟨5, _⟩ => ⟨S1x2048x2048, .f32⟩
  | .hbm, ⟨6, _⟩ => ⟨S1x2048, .f32⟩
  | .hbm, ⟨7, _⟩ => ⟨S32768x1024, .f32⟩
  | .hbm, ⟨8, _⟩ => ⟨S1024x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S2048x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x2048, .f32⟩
  | .hbm, ⟨29, _⟩ => ⟨S32768x2048, .f32⟩
  | .hbm, ⟨30, _⟩ => ⟨S2048, .f32⟩
  | .hbm, ⟨31, _⟩ => ⟨S1x2048, .f32⟩
  | .hbm, ⟨32, _⟩ => ⟨S32768x2048, .f32⟩
  | .hbm, ⟨33, _⟩ => ⟨S32768x2048, .f32⟩
  | .hbm, ⟨34, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel4.lean ====
abbrev S32768x2048 : Shape := ⟨2, ![32768, 2048]⟩
abbrev S32768x256 : Shape := ⟨2, ![32768, 256]⟩
abbrev S1x2048x2048 : Shape := ⟨3, ![1, 2048, 2048]⟩
abbrev S1x256x2048 : Shape := ⟨3, ![1, 256, 2048]⟩
abbrev S1x2048 : Shape := ⟨2, ![1, 2048]⟩
abbrev S2048 : Shape := ⟨1, ![2048]⟩
abbrev S2048x2048 : Shape := ⟨2, ![2048, 2048]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x256, .f32⟩
  | .hbm, ⟨3, _⟩ => ⟨S1x2048x2048, .f32⟩
  | .hbm, ⟨4, _⟩ => ⟨S1x256x2048, .f32⟩
  | .hbm, ⟨5, _⟩ => ⟨S1x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S256x2048, .f32⟩
  | .hbm, ⟨10, _⟩ => ⟨S256x2048, .bf16⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x2048 : Shape := ⟨2, ![32768, 2048]⟩
abbrev S32768x256 : Shape := ⟨2, ![32768, 256]⟩
abbrev S1x2048x2048 : Shape := ⟨3, ![1, 2048, 2048]⟩
abbrev S1x256x2048 : Shape := ⟨3, ![1, 256, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x2048 : Shape := ⟨2, ![2048, 2048]⟩
abbrev S256x2048 : Shape := ⟨2, ![256, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x256, .f32⟩
  | .hbm, ⟨3, _⟩ => ⟨S1x2048x2048, .f32⟩
  | .hbm, ⟨4, _⟩ => ⟨S1x256x2048, .f32⟩
  | .hbm, ⟨5, _⟩ => ⟨S1x2048, .f32⟩
  | .hbm, ⟨6, _⟩ => ⟨S2048, .f32⟩
  | .hbm, ⟨7, _⟩ => ⟨S32768x2048, .f32⟩
  | .hbm, ⟨8, _⟩ => ⟨S32768x2048, .f32⟩
  | .hbm, ⟨9, _⟩ => ⟨S2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S2048x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S_, .f32⟩
  | .hbm, ⟨34, _⟩ => ⟨S32768x2048, .f32⟩
  | .hbm, ⟨35, _⟩ => ⟨S32768x2048, .f32⟩
  | .hbm, ⟨36, _⟩ => ⟨S256x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x2048, .f32⟩
  | .hbm, ⟨52, _⟩ => ⟨S32768x2048, .f32⟩
  | .hbm, ⟨53, _⟩ => ⟨S1x2048, .f32⟩
  | .hbm, ⟨54, _⟩ => ⟨S32768x2048, .f32⟩
  | .hbm, ⟨55, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel5.lean ====
abbrev S4x8192x2048 : Shape := ⟨3, ![4, 8192, 2048]⟩
abbrev S1x2048 : Shape := ⟨2, ![1, 2048]⟩
abbrev S1x2048x8192 : Shape := ⟨3, ![1, 2048, 8192]⟩
abbrev S32768x2048 : Shape := ⟨2, ![32768, 2048]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S2048 : Shape := ⟨1, ![2048]⟩
abbrev S2048x8192 : Shape := ⟨2, ![2048, 8192]⟩
abbrev S32768x1024 : Shape := ⟨2, ![32768, 1024]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 70
  | .vmem => 26
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x8192, .f32⟩
  | .hbm, ⟨3, _⟩ => ⟨S32768x2048, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S_, .i1⟩
  | .hbm, ⟨32, _⟩ => ⟨S8192, .i1⟩
  | .hbm, ⟨33, _⟩ => ⟨S8192, .i1⟩
  | .hbm, ⟨34, _⟩ => ⟨S8192, .i1⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .f32⟩
  | .hbm, ⟨42, _⟩ => ⟨S8192x1, .f32⟩
  | .hbm, ⟨43, _⟩ => ⟨S1x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x32, .f32⟩
  | .hbm, ⟨48, _⟩ => ⟨S8192x32, .f32⟩
  | .hbm, ⟨49, _⟩ => ⟨S8192x64, .f32⟩
  | .hbm, ⟨50, _⟩ => ⟨S1x8192x1x64, .f32⟩
  | .hbm, ⟨51, _⟩ => ⟨S1x8192x8x64, .f32⟩
  | .hbm, ⟨52, _⟩ => ⟨S8192x512, .f32⟩
  | .hbm, ⟨53, _⟩ => ⟨S8192x32, .f32⟩
  | .hbm, ⟨54, _⟩ => ⟨S8192x64, .f32⟩
  | .hbm, ⟨55, _⟩ => ⟨S1x8192x1x64, .f32⟩
  | .hbm, ⟨56, _⟩ => ⟨S1x8192x8x64, .f32⟩
  | .hbm, ⟨57, _⟩ => ⟨S8192x512, .f32⟩
  | .hbm, ⟨58, _⟩ => ⟨S2048, .f32⟩
  | .hbm, ⟨59, _⟩ => ⟨S1x2048, .f32⟩
  | .hbm, ⟨60, _⟩ => ⟨S2048x8192, .f32⟩
  | .hbm, ⟨61, _⟩ => ⟨S2048x8192, .bf16⟩
  | .hbm, ⟨62, _⟩ => ⟨S32768x1024, .bf16⟩
  | .hbm, ⟨63, _⟩ => ⟨S32768x1024, .bf16⟩
  | .hbm, ⟨64, _⟩ => ⟨S32768x1024, .f32⟩
  | .hbm, ⟨65, _⟩ => ⟨S32768x1024, .bf16⟩
  | .hbm, ⟨66, _⟩ => ⟨S32768x1024, .f32⟩
  | .hbm, ⟨67, _⟩ => ⟨S32768x1024, .bf16⟩
  | .hbm, ⟨68, _⟩ => ⟨S32768x2048, .bf16⟩
  | .hbm, ⟨69, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .f32⟩
  | .local _ .vmem, ⟨18, _⟩ => ⟨S1024x512, .f32⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34_0 : Ref sig .tc := ⟨.hbm, 62, rfl⟩
abbrev main_v34_1 : Ref sig .tc := ⟨.hbm, 63, rfl⟩
abbrev main_v34_2 : Ref sig .tc := ⟨.hbm, 64, rfl⟩
abbrev main_v34_3 : Ref sig .tc := ⟨.hbm, 65, rfl⟩
abbrev main_v34_4 : Ref sig .tc := ⟨.hbm, 66, rfl⟩
abbrev main_v34_5 : Ref sig .tc := ⟨.hbm, 67, rfl⟩
abbrev main_v34_6 : Ref sig .tc := ⟨.hbm, 68, rfl⟩
abbrev main_v34_7 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c4_i32 : BitVec 32 := 4#32
  let v9 : BitVec 1 := Scalar.cmpi .slt arg1 c4_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c4_i32_5 : BitVec 32 := 4#32
  let v13 : BitVec 1 := Scalar.cmpi .sge arg1 c4_i32_5
  let c6_i32 : BitVec 32 := 6#32
  let v14 : BitVec 1 := Scalar.cmpi .slt arg1 c6_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c6_i32_7 : BitVec 32 := 6#32
  let v18 : BitVec 1 := Scalar.cmpi .sge arg1 c6_i32_7
  let c8_i32 : BitVec 32 := 8#32
  let v19 : BitVec 1 := Scalar.cmpi .slt arg1 c8_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c8_i32_9 : BitVec 32 := 8#32
  let v23 : BitVec 1 := Scalar.cmpi .sge arg1 c8_i32_9
  let c12_i32 : BitVec 32 := 12#32
  let v24 : BitVec 1 := Scalar.cmpi .slt arg1 c12_i32
  let v25 : BitVec 1 := Scalar.andi v23 v24
  let v26 : BitVec 32 := Scalar.extui v25
  let c0_i32_10 : BitVec 32 := 0#32
  let v27 : BitVec 1 := Scalar.cmpi .ne v26 c0_i32_10
  v27

def k0_cond7 (i : grid0.Coords) : BitVec 1 :=
  let arg1 : BitVec 32 := BitVec.ofNat 32 (i 1).val
  let c12_i32_11 : BitVec 32 := 12#32
  let v28 : BitVec 1 := Scalar.cmpi .sge arg1 c12_i32_11
  let c16_i32 : BitVec 32 := 16#32
  let v29 : BitVec 1 := Scalar.cmpi .slt arg1 c16_i32
  let v30 : BitVec 1 := Scalar.andi v28 v29
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S4x8192x2048 : Shape := ⟨3, ![4, 8192, 2048]⟩
abbrev S1x2048 : Shape := ⟨2, ![1, 2048]⟩
abbrev S1x2048x8192 : Shape := ⟨3, ![1, 2048, 8192]⟩
abbrev S_ : Shape := ⟨0, ![]⟩
abbrev S4x8192 : Shape := ⟨2, ![4, 8192]⟩
abbrev S4x8192x1 : Shape := ⟨3, ![4, 8192, 1]⟩
abbrev S2048 : Shape := ⟨1, ![2048]⟩
abbrev S1x1x2048 : Shape := ⟨3, ![1, 1, 2048]⟩
abbrev S2048x8192 : Shape := ⟨2, ![2048, 8192]⟩
abbrev S4x8192x8192 : Shape := ⟨3, ![4, 8192, 8192]⟩
abbrev S4x8192x1024 : Shape := ⟨3, ![4, 8192, 1024]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x1x32 : Shape := ⟨4, ![8192, 1, 1, 32]⟩
abbrev S4x8192x8x2x64 : Shape := ⟨5, ![4, 8192, 8, 2, 64]⟩
abbrev S4x8192x8x2x32 : Shape := ⟨5, ![4, 8192, 8, 2, 32]⟩
abbrev S1x8192x1x1x32 : Shape := ⟨5, ![1, 8192, 1, 1, 32]⟩
abbrev S32768x1024 : Shape := ⟨2, ![32768, 1024]⟩
abbrev S32768x2048 : Shape := ⟨2, ![32768, 2048]⟩

abbrev nBuf : Space → Nat
  | .hbm => 119
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x8192, .f32⟩
  | .hbm, ⟨3, _⟩ => ⟨S4x8192x2048, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x2048, .f32⟩
  | .hbm, ⟨15, _⟩ => ⟨S4x8192x2048, .f32⟩
  | .hbm, ⟨16, _⟩ => ⟨S2048, .f32⟩
  | .hbm, ⟨17, _⟩ => ⟨S1x1x2048, .f32⟩
  | .hbm, ⟨18, _⟩ => ⟨S4x8192x2048, .f32⟩
  | .hbm, ⟨19, _⟩ => ⟨S4x8192x2048, .f32⟩
  | .hbm, ⟨20, _⟩ => ⟨S2048x8192, .f32⟩
  | .hbm, ⟨21, _⟩ => ⟨S4x8192x8192, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x2048, .f32⟩
  | .hbm, ⟨27, _⟩ => ⟨S4x8192x2048, .f32⟩
  | .hbm, ⟨28, _⟩ => ⟨S8192, .i32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S8192, .f32⟩
  | .hbm, ⟨41, _⟩ => ⟨S8192x1, .f32⟩
  | .hbm, ⟨42, _⟩ => ⟨S1x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x1x1x32, .f32⟩
  | .hbm, ⟨48, _⟩ => ⟨S8192x32, .f32⟩
  | .hbm, ⟨49, _⟩ => ⟨S8192x1x1x32, .f32⟩
  | .hbm, ⟨50, _⟩ => ⟨S4x8192x8x2x64, .f32⟩
  | .hbm, ⟨51, _⟩ => ⟨S4x8192x8x2x32, .f32⟩
  | .hbm, ⟨52, _⟩ => ⟨S4x8192x8x2x32, .f32⟩
  | .hbm, ⟨53, _⟩ => ⟨S1x8192x1x1x32, .f32⟩
  | .hbm, ⟨54, _⟩ => ⟨S4x8192x8x2x32, .f32⟩
  | .hbm, ⟨55, _⟩ => ⟨S4x8192x8x2x32, .f32⟩
  | .hbm, ⟨56, _⟩ => ⟨S1x8192x1x1x32, .f32⟩
  | .hbm, ⟨57, _⟩ => ⟨S4x8192x8x2x32, .f32⟩
  | .hbm, ⟨58, _⟩ => ⟨S4x8192x8x2x32, .f32⟩
  | .hbm, ⟨59, _⟩ => ⟨S4x8192x8x2x32, .f32⟩
  | .hbm, ⟨60, _⟩ => ⟨S1x8192x1x1x32, .f32⟩
  | .hbm, ⟨61, _⟩ => ⟨S4x8192x8x2x32, .f32⟩
  | .hbm, ⟨62, _⟩ => ⟨S4x8192x8x2x32, .f32⟩
  | .hbm, ⟨63, _⟩ => ⟨S1x8192x1x1x32, .f32⟩
  | .hbm, ⟨64, _⟩ => ⟨S4x8192x8x2x32, .f32⟩
  | .hbm, ⟨65, _⟩ => ⟨S4x8192x8x2x32, .f32⟩
  | .hbm, ⟨66, _⟩ => ⟨S4x8192x8x2x32, .f32⟩
  | .hbm, ⟨67, _⟩ => ⟨S4x8192x8x2x64, .f32⟩
  | .hbm, ⟨68, _⟩ => ⟨S_, .f32⟩
  | .hbm, ⟨69, _⟩ => ⟨S4x8192x8x2x64, .f32⟩
  | .hbm, ⟨70, _⟩ => ⟨S4x8192x8x2x64, .f32⟩
  | .hbm, ⟨71, _⟩ => ⟨S4x8192x8x2x64, .f32⟩
  | .hbm, ⟨72, _⟩ => ⟨S4x8192x8x2x32, .f32⟩
  | .hbm, ⟨73, _⟩ => ⟨S4x8192x8x2x32, .f32⟩
  | .hbm, ⟨74, _⟩ => ⟨S1x8192x1x1x32, .f32⟩
  | .hbm, ⟨75, _⟩ => ⟨S4x8192x8x2x32, .f32⟩
  | .hbm, ⟨76, _⟩ => ⟨S4x8192x8x2x32, .f32⟩
  | .hbm, ⟨77, _⟩ => ⟨S1x8192x1x1x32, .f32⟩
  | .hbm, ⟨78, _⟩ => ⟨S4x8192x8x2x32, .f32⟩
  | .hbm, ⟨79, _⟩ => ⟨S4x8192x8x2x32, .f32⟩
  | .hbm, ⟨80, _⟩ => ⟨S4x8192x8x2x32, .f32⟩
  | .hbm, ⟨81, _⟩ => ⟨S1x8192x1x1x32, .f32⟩
  | .hbm, ⟨82, _⟩ => ⟨S4x8192x8x2x32, .f32⟩
  | .hbm, ⟨83, _⟩ => ⟨S4x8192x8x2x32, .f32⟩
  | .hbm, ⟨84, _⟩ => ⟨S1x8192x1x1x32, .f32⟩
  | .hbm, ⟨85, _⟩ => ⟨S4x8192x8x2x32, .f32⟩
  | .hbm, ⟨86, _⟩ => ⟨S4x8192x8x2x32, .f32⟩
  | .hbm, ⟨87, _⟩ => ⟨S4x8192x8x2x32, .f32⟩
  | .hbm, ⟨88, _⟩ => ⟨S4x8192x8x2x64, .f32⟩
  | .hbm, ⟨89, _⟩ => ⟨S32768x1024, .f32⟩
  | .hbm, ⟨90, _⟩ => ⟨S32768x1024, .bf16⟩
  | .hbm, ⟨91, _⟩ => ⟨S32768x1024, .f32⟩
  | .hbm, ⟨92, _⟩ => ⟨S32768x1024, .bf16⟩
  | .hbm, ⟨93, _⟩ => ⟨S32768x1024, .f32⟩
  | .hbm, ⟨94, _⟩ => ⟨S32768x1024, .f32⟩
  | .hbm, ⟨95, _⟩ => ⟨S32768x1024, .bf16⟩
  | .hbm, ⟨96, _⟩ => ⟨S32768x1024, .f32⟩
  | .hbm, ⟨97, _⟩ => ⟨S32768x1024, .f32⟩
  | .hbm, ⟨98, _⟩ => ⟨S32768x1024, .bf16⟩
  | .hbm, ⟨99, _⟩ => ⟨S4x8192x2048, .f32⟩
  | .hbm, ⟨100, _⟩ => ⟨S4x8192x2048, .f32⟩
  | .hbm, ⟨101, _⟩ => ⟨S_, .f32⟩
  | .hbm, ⟨102, _⟩ => ⟨S4x8192x2048, .f32⟩
  | .hbm, ⟨103, _⟩ => ⟨S4x8192x2048, .f32⟩
  | .hbm, ⟨104, _⟩ => ⟨S_, .f32⟩
  | .hbm, ⟨105, _⟩ => ⟨S4x8192x2048, .f32⟩
  | .hbm, ⟨106, _⟩ => ⟨S4x8192x2048, .f32⟩
  | .hbm, ⟨107, _⟩ => ⟨S32768x2048, .f32⟩
  | .hbm, ⟨108, _⟩ => ⟨S32768x2048, .bf16⟩
  | .hbm, ⟨109, _⟩ => ⟨S4x8192x2048, .f32⟩
  | .hbm, ⟨110, _⟩ => ⟨S4x8192x2048, .f32⟩
  | .hbm, ⟨111, _⟩ => ⟨S_, .f32⟩
  | .hbm, ⟨112, _⟩ => ⟨S4x8192x2048, .f32⟩
  | .hbm, ⟨113, _⟩ => ⟨S4x8192x2048, .f32⟩
  | .hbm, ⟨114, _⟩ => ⟨S_, .f32⟩
  | .hbm, ⟨115, _⟩ => ⟨S4x8192x2048, .f32⟩
  | .hbm, ⟨116, _⟩ => ⟨S4x8192x2048, .f32⟩
  | .hbm, ⟨117, _⟩ => ⟨S32768x2048, .f32⟩
  | .hbm, ⟨118, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_cst_6 : Ref sig .tc := ⟨.hbm, 101, rfl⟩
abbrev main_v91 : Ref sig .tc := ⟨.hbm, 102, rfl⟩
abbrev main_v92 : Ref sig .tc := ⟨.hbm, 103, rfl⟩
abbrev main_cst_7 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_8 : Ref sig .tc := ⟨.hbm, 111, rfl⟩
abbrev main_v99 : Ref sig .tc := ⟨.hbm, 112, rfl⟩
abbrev main_v100 : Ref sig .tc := ⟨.hbm, 113, rfl⟩
abbrev main_cst_9 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩

abbrev nD : Nat := 1
abbrev τ : Topo := Topo.v7x

variable {F : FTy → Type} [FloatOps F]
-- ==== Kernel6.lean ====
abbrev S256x2048 : Shape := ⟨2, ![256, 2048]⟩
abbrev S256x256 : Shape := ⟨2, ![256, 256]⟩
abbrev S1x2048x2048 : Shape := ⟨3, ![1, 2048, 2048]⟩
abbrev S1x256x2048 : Shape := ⟨3, ![1, 256, 2048]⟩
abbrev S1x2048 : Shape := ⟨2, ![1, 2048]⟩
abbrev S2048 : Shape := ⟨1, ![2048]⟩
abbrev S2048x2048 : Shape := ⟨2, ![2048, 2048]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x2048, .bf16⟩
  | .hbm, ⟨2, _⟩ => ⟨S256x256, .f32⟩
  | .hbm, ⟨3, _⟩ => ⟨S1x2048x2048, .f32⟩
  | .hbm, ⟨4, _⟩ => ⟨S1x256x2048, .f32⟩
  | .hbm, ⟨5, _⟩ => ⟨S1x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S256x2048, .f32⟩
  | .hbm, ⟨10, _⟩ => ⟨S256x2048, .bf16⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S256x2048, .f32⟩
  | .local _ .vmem, ⟨0, _⟩ => ⟨S256x2048, .f32⟩
  | .local _ .vmem, ⟨1, _⟩ => ⟨S256x2048, .bf16⟩
  | .local _ .vmem, ⟨2, _⟩ => ⟨S256x256, .f32⟩
  | .local _ .vmem, ⟨3, _⟩ => ⟨S2048x2048, .bf16⟩
  | .local _ .vmem, ⟨4, _⟩ => ⟨S256x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S256x2048 : Shape := ⟨2, ![256, 2048]⟩
abbrev S256x256 : Shape := ⟨2, ![256, 256]⟩
abbrev S1x2048x2048 : Shape := ⟨3, ![1, 2048, 2048]⟩
abbrev S1x256x2048 : Shape := ⟨3, ![1, 256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x2048 : Shape := ⟨2, ![2048, 2048]⟩

abbrev nBuf : Space → Nat
  | .hbm => 56
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .bf16⟩
  | .hbm, ⟨2, _⟩ => ⟨S256x256, .f32⟩
  | .hbm, ⟨3, _⟩ => ⟨S1x2048x2048, .f32⟩
  | .hbm, ⟨4, _⟩ => ⟨S1x256x2048, .f32⟩
  | .hbm, ⟨5, _⟩ => ⟨S1x2048, .f32⟩
  | .hbm, ⟨6, _⟩ => ⟨S2048, .f32⟩
  | .hbm, ⟨7, _⟩ => ⟨S256x2048, .f32⟩
  | .hbm, ⟨8, _⟩ => ⟨S256x2048, .f32⟩
  | .hbm, ⟨9, _⟩ => ⟨S2048, .f32⟩
  | .hbm, ⟨10, _⟩ => ⟨S256x2048, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S2048x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x2048, .f32⟩
  | .hbm, ⟨52, _⟩ => ⟨S256x2048, .f32⟩
  | .hbm, ⟨53, _⟩ => ⟨S1x2048, .f32⟩
  | .hbm, ⟨54, _⟩ => ⟨S256x2048, .f32⟩
  | .hbm, ⟨55, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Tactic
public import Idealize.ShloMosaic.Lib.VecWindow
public import Idealize.ShloMosaic.Lib.Pipeline.ValueKit
public import Idealize.ShloMosaic.Lib.Pointwise

/-! What the attention body leaves in its output block, as one expression in the blocks it loads: the running maximum,
    the running sum and the accumulator after the key blocks before the diagonal one, then the masked diagonal block. -/

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

/-- Two zero offsets. -/
theorem hz2 : (![0, 0] : Fin 2 → Nat) = fun _ => 0 := funext fun a => by fin_cases a <;> rfl

/-- Three zero offsets. -/
theorem hz3 : (![0, 0, 0] : Fin 3 → Nat) = fun _ => 0 := funext fun a => by fin_cases a <;> rfl

variable {F : FTy → Type} [FloatOps F] [Named F]

/-- The products of the queries (both components stacked) with one block of keys. -/
def scores (qs : FVec F S1024x128 .bf16) (kb : FVec F S512x128 .bf16) : FVec F S1024x512 .f32 :=
  matmul dot_S1024x128_S512x128_S1024x512_1_1_0_0_n_n none qs kb (constant S1024x512 .f32 0x00000000#32)

/-- The same products where the key's chunk is at most the query's, and the mask constant elsewhere; the block's first
    query position is the word `wq`, its first key position the word `wk`. -/
def maskedScores (qs : FVec F S1024x128 .bf16) (wq wk : BitVec 32) (kb : FVec F S512x128 .bf16) : FVec F S1024x512 .f32 :=
  select (cmpi .sle
      (shrsi (addi (broadcast S1024x512 wk) (iota .tc S1024x512 32 [1] iota_S1024x512_d1_w32)) (broadcast S1024x512 6#32))
      (shrsi (addi (broadcast S1024x512 wq) (andi (iota .tc S1024x512 32 [0] iota_S1024x512_d0_w32) (broadcast S1024x512 511#32)))
        (broadcast S1024x512 6#32)))
    (scores qs kb) (broadcast S1024x512 (Named.named κ "mask" 0xF149F2CA#32))

/-- The running maximum after a block of scores. -/
def newM (s : FVec F S1024x512 .f32) (M : FVec F S1024x1 .f32) : FVec F S1024x1 .f32 :=
  maximumf M (shapeCast S1024x1 (multiReduction .maximumf [1] S1024 s 0xFF800000#32 reduces_S1024x512_S1024 (.inl rfl) rfl) shapeCasts_S1024_S1024x1)

/-- The factor that brings the earlier sums to the new maximum. -/
def rescale (s : FVec F S1024x512 .f32) (M : FVec F S1024x1 .f32) : FVec F S1024x1 .f32 := exp (subf M (newM s M))

/-- The block's exponentials at the new maximum. -/
def expo (s : FVec F S1024x512 .f32) (M : FVec F S1024x1 .f32) : FVec F S1024x512 .f32 :=
  exp (subf s (broadcastTo S1024x512 (newM s M) broadcasts_S1024x1_S1024x512))

/-- The running sum after a block. -/
def newL (s : FVec F S1024x512 .f32) (M L : FVec F S1024x1 .f32) : FVec F S1024x1 .f32 :=
  addf (mulf (rescale s M) L)
    (shapeCast S1024x1 (multiReduction .add [1] S1024 (expo s M) 0x00000000#32 reduces_S1024x512_S1024 (.inl rfl) rfl) shapeCasts_S1024_S1024x1)

/-- The accumulator after a block. -/
def newA (s : FVec F S1024x512 .f32) (M : FVec F S1024x1 .f32) (A : FVec F S1024x128 .f32) (vb : FVec F S512x128 .bf16) : FVec F S1024x128 .f32 :=
  addf (mulf (broadcastTo S1024x128 (rescale s M) broadcasts_S1024x1_S1024x128) A)
    (matmul dot_S1024x512_S512x128_S1024x128_1_0_0_1_n_n none (truncf .bf16 (expo s M) bitsLt_bf16_f32) vb (constant S1024x128 .f32 0x00000000#32))

/-- Maximum, sum and accumulator together. -/
abbrev State (F : FTy → Type) [FloatOps F] : Type := FVec F S1024x1 .f32 × FVec F S1024x1 .f32 × FVec F S1024x128 .f32

/-- One block: scores `s`, values `vb`. -/
def step (s : FVec F S1024x512 .f32) (vb : FVec F S512x128 .bf16) (S : State F) : State F :=
  (newM s S.1, newL s S.1 S.2.1, newA s S.1 S.2.2 vb)

/-- Block `n` of the keys or values: rows `512 n` to `512 n + 511` (row numbers taken modulo the number of rows). -/
def blk (n : ℕ) (X : Vec F S1x8192x128 .bf16) : FVec F S512x128 .bf16 :=
  fun j => X (ix3 ⟨0, Nat.one_pos⟩ ⟨(512 * n + (j 0).val) % 8192, Nat.mod_lt _ (Nat.succ_pos _)⟩ ⟨(j 1).val, (j 1).isLt⟩)

/-- The state before the diagonal block: the initial one, then the blocks 0, 1, … in turn. -/
def before (qs : FVec F S1024x128 .bf16) (x1 x2 : Vec F S1x8192x128 .bf16) : ℕ → State F
  | 0 => (k0_pay27, k0_pay28, k0_pay29)
  | n + 1 => step (scores qs (blk n x1)) (blk n x2) (before qs x1 x2 n)

/-- The final state at query block `n`. -/
def final (qs : FVec F S1024x128 .bf16) (x1 x2 : Vec F S1x8192x128 .bf16) (n : ℕ) : State F :=
  step (maskedScores qs (BitVec.ofNat 32 (512 * n)) (BitVec.ofNat 32 (512 * n)) (blk n x1)) (blk n x2) (before qs x1 x2 n)

/-- The block stored, from the final state and the small operands: rows 0 to 511 of the state are the first component,
    the others the second. -/
def outOf (S : State F) (x3 x4 x5 x6 : Vec F S1x64 .f32) (x7 : Vec F S1x128 .f32) : FVec F S1x512x128 .bf16 :=
  k0_pay1 (k0_pay36 x3 x4 x5 x6
    (View.ld S.2.2 (Rect.unit (s := S1024x128) ![0, 0] S512x128.size (by decide)))
    (View.ld S.2.1 (Rect.unit (s := S1024x1) ![0, 0] S512x1.size (by decide)))
    (View.ld S.2.2 (Rect.unit (s := S1024x128) ![512, 0] S512x128.size (by decide)))
    (View.ld S.2.1 (Rect.unit (s := S1024x1) ![512, 0] S512x1.size (by decide)))) x7

/-- A load of 512 rows, its leading axis dropped, is the block. -/
theorem load_blk (X : Vec F S1x8192x128 .bf16) (n : ℕ) (hn : n < 16) {off : Fin 3 → ℕ} (h : off = ![0, 512 * n, 0])
    (inb : ∀ a, off a + S1x512x128.size a ≤ S1x8192x128.size a) :
    shapeCast S512x128 (View.ld X (Rect.unit off S1x512x128.size inb)) shapeCasts_S1x512x128_S512x128 = blk n X := by
  subst h
  funext j
  have h0 : (j 0).val < 512 := (j 0).isLt
  have h1 : (j 1).val < 128 := (j 1).isLt
  refine (shapeCast_apply _ _ j (ix3 ⟨0, Nat.one_pos⟩ ⟨(j 0).val, h0⟩ ⟨(j 1).val, h1⟩)
    (by rewrite [Shape.rowMajor_val_two, Shape.rowMajor_val_three]; show (0 * 512 + (j 0).val) * 128 + (j 1).val = _; rw [Nat.zero_mul, Nat.zero_add]; rfl)).trans ?_
  unfold blk
  refine View.ld_unit_apply_of X _ _ inb _ _ (fun a => ?_)
  match a with
  | ⟨0, _⟩ => rfl
  | ⟨1, _⟩ => show (512 * n + (j 0).val) % 8192 = 512 * n + (j 0).val; exact Nat.mod_eq_of_lt (by omega)
  | ⟨2, _⟩ => exact (Nat.zero_add (j 1).val).symm

section Trips

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x512x128 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole)

/-- One unmasked block: what it leaves in the three buffers. -/
theorem trip1_read (v10 : FVec F S1024x128 .bf16) (v41 v63 c512_i32_30 v64 v69 v71 : BitVec 32) (v72 : BitVec 1) (X4 : BufTy.Contents (Elt F) arg4.view.ty) (X5 : BufTy.Contents (Elt F) arg5.view.ty) (k : Fin (k0_t1_loop i).trips) (hk : k.val < 16)
    (f12 : BufTy.Contents (Elt F) arg12.view.ty) (f13 : BufTy.Contents (Elt F) arg13.view.ty) (f14 : BufTy.Contents (Elt F) arg14.view.ty) :
    (arg12.view.read (Elt F) (arg12.view.writes (Elt F) f12 (tripL_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 k f12 f13 f14).1),
      arg13.view.read (Elt F) (arg13.view.writes (Elt F) f13 (tripL_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 k f12 f13 f14).2.1),
      arg14.view.read (Elt F) (arg14.view.writes (Elt F) f14 (tripL_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 k f12 f13 f14).2.2)) = step (scores v10 (blk k.val (arg4.view.read (Elt F) X4))) (blk k.val (arg5.view.read (Elt F) X5)) (arg12.view.read (Elt F) f12, arg13.view.read (Elt F) f13, arg14.view.read (Elt F) f14) := by
  have e4 := load_blk (arg4.view.read (Elt F) X4) k.val hk (k0_off1_eq i k) (k0_off1_inb i k)
  have e5 := load_blk (arg5.view.read (Elt F) X5) k.val hk (k0_off1_eq i k) (k0_off1_inb i k)
  unfold tripL_k0_t1 trip_k0_t1
  dsimp only
  sl_unfold_words
  rw [View.read_writes_full, View.read_writes_full, View.read_writes_full]
  simp only [View.readAt_eq_ld, View.ld_unit_zero (S := S1024x1) hz2, View.ld_unit_zero (S := S1024x128) hz2]
  unfold k0_pay30 step newL newA rescale expo newM scores
  rw [← e4, ← e5]
  simp only [shapeCast_self]
  rfl

/-- The masked block: what it leaves in the three buffers. -/
theorem trip3_read (v10 : FVec F S1024x128 .bf16) (v24 v103 v109 : BitVec 32) (X4 : BufTy.Contents (Elt F) arg4.view.ty) (X5 : BufTy.Contents (Elt F) arg5.view.ty) (k : Fin (k0_t3_loop i).trips) (n : ℕ)
    (hn : n < 16) (hk : k0_off3 i k = ![0, 512 * n, 0]) (f12 : BufTy.Contents (Elt F) arg12.view.ty) (f13 : BufTy.Contents (Elt F) arg13.view.ty) (f14 : BufTy.Contents (Elt F) arg14.view.ty) :
    (arg12.view.read (Elt F) (arg12.view.writes (Elt F) f12 (tripL_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 k f12 f13 f14).1),
      arg13.view.read (Elt F) (arg13.view.writes (Elt F) f13 (tripL_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 k f12 f13 f14).2.1),
      arg14.view.read (Elt F) (arg14.view.writes (Elt F) f14 (tripL_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 k f12 f13 f14).2.2)) = step (maskedScores v10 v24 (Scalar.muli (Scf.iv v103 1#32 k) 512#32) (blk n (arg4.view.read (Elt F) X4))) (blk n (arg5.view.read (Elt F) X5)) (arg12.view.read (Elt F) f12, arg13.view.read (Elt F) f13, arg14.view.read (Elt F) f14) := by
  have e4 := load_blk (arg4.view.read (Elt F) X4) n hn hk (k0_off3_inb i k)
  have e5 := load_blk (arg5.view.read (Elt F) X5) n hn hk (k0_off3_inb i k)
  unfold tripL_k0_t3 trip_k0_t3
  dsimp only
  sl_unfold_words
  rw [View.read_writes_full, View.read_writes_full, View.read_writes_full]
  simp only [View.readAt_eq_ld, View.ld_unit_zero (S := S1024x1) hz2, View.ld_unit_zero (S := S1024x128) hz2]
  unfold k0_pay33 k0_pay32 k0_pay19 k0_pay18 k0_pay17 k0_pay16 k0_pay15 k0_pay14 step newL newA rescale expo newM maskedScores scores
  rw [← e4, ← e5]
  simp only [shapeCast_self]
  rfl

/-- The buffers after the first `n` unmasked blocks, from contents that read as the initial state. -/
theorem loop1_read (v10 : FVec F S1024x128 .bf16) (v41 v63 c512_i32_30 v64 v69 v71 : BitVec 32) (v72 : BitVec 1) (X4 : BufTy.Contents (Elt F) arg4.view.ty) (X5 : BufTy.Contents (Elt F) arg5.view.ty) (f12 : BufTy.Contents (Elt F) arg12.view.ty) (f13 : BufTy.Contents (Elt F) arg13.view.ty) (f14 : BufTy.Contents (Elt F) arg14.view.ty)
    (h0 : (arg12.view.read (Elt F) f12, arg13.view.read (Elt F) f13, arg14.view.read (Elt F) f14) = (k0_pay27, k0_pay28, k0_pay29)) (n : ℕ) (hn : n ≤ (k0_t1_loop i).trips) (hn' : n ≤ 16) :
    (arg12.view.read (Elt F) (arg12.view.writes (Elt F) f12 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 n).1),
      arg13.view.read (Elt F) (arg13.view.writes (Elt F) f13 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 n).2.1),
      arg14.view.read (Elt F) (arg14.view.writes (Elt F) f14 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 n).2.2)) = before v10 (arg4.view.read (Elt F) X4) (arg5.view.read (Elt F) X5) n := by
  induction n with
  | zero => exact h0
  | succ n ih =>
    have e := pb_k0_t1_succ (F := F) Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 ⟨n, hn⟩
    dsimp only at e
    rw [e]
    rw [View.writes_append, View.writes_append, View.writes_append, trip1_read c i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 ⟨n, hn⟩ hn', ih (Nat.le_of_succ_le hn) (Nat.le_of_succ_le hn')]
    rfl

/-- The unmasked loop has as many trips as blocks before the diagonal one. -/
theorem trips1 : (k0_t1_loop i).trips = (i 2).val := by
  unfold k0_t1_loop
  generalize i 2 = a
  revert a
  show ∀ a : Fin 16, _
  decide +kernel

/-- The masked loop starts at the diagonal block. -/
theorem start3 : (k0_t3_loop i).lb = BitVec.ofNat 32 (i 2).val := by
  unfold k0_t3_loop
  generalize i 2 = a
  revert a
  show ∀ a : Fin 16, _
  decide +kernel

/-- The masked loop has one trip. -/
theorem trips3 : (k0_t3_loop i).trips = 1 := by
  unfold k0_t3_loop
  generalize i 2 = a
  revert a
  show ∀ a : Fin 16, _
  decide +kernel

/-- The first loop has no remainder. -/
theorem trips2 : (k0_t2_loop i).trips = 0 := Nat.le_zero.1 (k0_t2_abs i).2.1

/-- The second loop has no remainder. -/
theorem trips4 : (k0_t4_loop i).trips = 0 := Nat.le_zero.1 (k0_t4_abs i).2.1

/-- The masked trip loads the diagonal block. -/
theorem off3 (k : Fin (k0_t3_loop i).trips) : k0_off3 i k = ![0, 512 * (i 2).val, 0] := by
  have hk : k.val = 0 := Nat.lt_one_iff.1 (k.isLt.trans_eq (trips3 i))
  show ![0, (Scalar.indexCast (Scalar.muli (Scf.iv (k0_t3_loop i).lb 1#32 k.val) 512#32)).toNat, 0] = _
  rw [hk, start3]
  generalize i 2 = a
  revert a
  show ∀ a : Fin 16, _
  decide +kernel

/-- The masked loop's one trip, from any contents. -/
theorem loop3_read (v10 : FVec F S1024x128 .bf16) (v24 v103 v109 : BitVec 32) (h24 : v24 = BitVec.ofNat 32 (512 * (i 2).val))
    (h103 : v103 = BitVec.ofNat 32 (i 2).val) (X4 : BufTy.Contents (Elt F) arg4.view.ty) (X5 : BufTy.Contents (Elt F) arg5.view.ty) (g12 : BufTy.Contents (Elt F) arg12.view.ty) (g13 : BufTy.Contents (Elt F) arg13.view.ty) (g14 : BufTy.Contents (Elt F) arg14.view.ty) :
    (arg12.view.read (Elt F) (arg12.view.writes (Elt F) g12 (pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 g12 g13 g14 (Scf.trips (k0_t3_loop i).lb (k0_t3_loop i).ub (k0_t3_loop i).st)).1),
      arg13.view.read (Elt F) (arg13.view.writes (Elt F) g13 (pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 g12 g13 g14 (Scf.trips (k0_t3_loop i).lb (k0_t3_loop i).ub (k0_t3_loop i).st)).2.1),
      arg14.view.read (Elt F) (arg14.view.writes (Elt F) g14 (pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 g12 g13 g14 (Scf.trips (k0_t3_loop i).lb (k0_t3_loop i).ub (k0_t3_loop i).st)).2.2)) = step (maskedScores v10 (BitVec.ofNat 32 (512 * (i 2).val)) (BitVec.ofNat 32 (512 * (i 2).val)) (blk (i 2).val (arg4.view.read (Elt F) X4))) (blk (i 2).val (arg5.view.read (Elt F) X5)) (arg12.view.read (Elt F) g12, arg13.view.read (Elt F) g13, arg14.view.read (Elt F) g14) := by
  have h1 : (Scf.trips (k0_t3_loop i).lb (k0_t3_loop i).ub (k0_t3_loop i).st) = 1 := trips3 i
  have e := pb_k0_t3_succ (F := F) Variants.none c none i arg3 harg3 arg4 harg4 arg5 harg5 arg6 harg6 arg7 harg7 arg8 harg8 arg9 harg9 arg10 harg10 arg11 harg11 arg12 harg12 arg13 harg13 arg14 harg14 v10 v24 v103 v109 X4 X5 g12 g13 g14 ⟨0, by rw [trips3]; exact Nat.one_pos⟩
  have hw : Scalar.muli (Scf.iv v103 1#32 0) 512#32 = BitVec.ofNat 32 (512 * (i 2).val) := by
    rw [h103]
    generalize i 2 = a
    revert a
    show ∀ a : Fin 16, _
    decide +kernel
  have t := trip3_read c i arg3 harg3 arg4 harg4 arg5 harg5 arg6 harg6 arg7 harg7 arg8 harg8 arg9 harg9 arg10 harg10 arg11 harg11 arg12 harg12 arg13 harg13 arg14 harg14 v10 v24 v103 v109 X4 X5 ⟨0, by rw [trips3]; exact Nat.one_pos⟩ (i 2).val (i 2).isLt (off3 i _) g12 g13 g14
  dsimp only at e t
  rw [hw, h24] at t
  rw [h1, h24]
  rw [h24] at e
  rw [e, pb_k0_t3.eq_1]
  simp only [List.append_nil, View.writes_nil]
  exact t

/-- So the remainder of the first loop changes nothing. -/
theorem loop2_nil (v10 : FVec F S1024x128 .bf16) (v41 v63 c512_i32_30 v64 v69 v71 : BitVec 32) (v72 : BitVec 1) (v108 : BitVec 32) (X4 : BufTy.Contents (Elt F) arg4.view.ty) (X5 : BufTy.Contents (Elt F) arg5.view.ty) (g12 : BufTy.Contents (Elt F) arg12.view.ty) (g13 : BufTy.Contents (Elt F) arg13.view.ty) (g14 : BufTy.Contents (Elt F) arg14.view.ty) :
    pb_k0_t2 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 v108 X4 X5 g12 g13 g14 0 = ([], [], []) := by
  rfl

/-- Nor does that of the second. -/
theorem loop4_nil (v10 : FVec F S1024x128 .bf16) (v24 v103 v109 v113 : BitVec 32) (X4 : BufTy.Contents (Elt F) arg4.view.ty) (X5 : BufTy.Contents (Elt F) arg5.view.ty) (g12 : BufTy.Contents (Elt F) arg12.view.ty) (g13 : BufTy.Contents (Elt F) arg13.view.ty) (g14 : BufTy.Contents (Elt F) arg14.view.ty) :
    pb_k0_t4 Variants.none c none i arg3 harg3 arg4 harg4 arg5 harg5 arg6 harg6 arg7 harg7 arg8 harg8 arg9 harg9 arg10 harg10 arg11 harg11 arg12 harg12 arg13 harg13 arg14 harg14 v10 v24 v103 v109 v113 X4 X5 g12 g13 g14 0 = ([], [], []) := by
  rfl

/-- The three buffers after both loops. -/
theorem state_read (v10 : FVec F S1024x128 .bf16) (v41 v63 c512_i32_30 v64 v69 v71 : BitVec 32) (v72 : BitVec 1) (v24 v103 v109 : BitVec 32) (h24 : v24 = BitVec.ofNat 32 (512 * (i 2).val))
    (h103 : v103 = BitVec.ofNat 32 (i 2).val) (X4 : BufTy.Contents (Elt F) arg4.view.ty) (X5 : BufTy.Contents (Elt F) arg5.view.ty) (f12 : BufTy.Contents (Elt F) arg12.view.ty) (f13 : BufTy.Contents (Elt F) arg13.view.ty) (f14 : BufTy.Contents (Elt F) arg14.view.ty)
    (h0 : (arg12.view.read (Elt F) f12, arg13.view.read (Elt F) f13, arg14.view.read (Elt F) f14) = (k0_pay27, k0_pay28, k0_pay29)) :
    (arg12.view.read (Elt F) (arg12.view.writes (Elt F) (arg12.view.writes (Elt F) f12 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).1) (pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 (arg12.view.writes (Elt F) f12 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).1) (arg13.view.writes (Elt F) f13 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.1) (arg14.view.writes (Elt F) f14 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.2) (Scf.trips (k0_t3_loop i).lb (k0_t3_loop i).ub (k0_t3_loop i).st)).1),
      arg13.view.read (Elt F) (arg13.view.writes (Elt F) (arg13.view.writes (Elt F) f13 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.1) (pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 (arg12.view.writes (Elt F) f12 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).1) (arg13.view.writes (Elt F) f13 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.1) (arg14.view.writes (Elt F) f14 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.2) (Scf.trips (k0_t3_loop i).lb (k0_t3_loop i).ub (k0_t3_loop i).st)).2.1),
      arg14.view.read (Elt F) (arg14.view.writes (Elt F) (arg14.view.writes (Elt F) f14 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.2) (pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 (arg12.view.writes (Elt F) f12 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).1) (arg13.view.writes (Elt F) f13 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.1) (arg14.view.writes (Elt F) f14 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.2) (Scf.trips (k0_t3_loop i).lb (k0_t3_loop i).ub (k0_t3_loop i).st)).2.2)) = final v10 (arg4.view.read (Elt F) X4) (arg5.view.read (Elt F) X5) (i 2).val := by
  have hl : (Scf.trips (k0_t1_loop i).lb (k0_t1_loop i).ub (k0_t1_loop i).st) = (i 2).val := trips1 i
  rw [loop3_read c i arg3 harg3 arg4 harg4 arg5 harg5 arg6 harg6 arg7 harg7 arg8 harg8 arg9 harg9 arg10 harg10 arg11 harg11 arg12 harg12 arg13 harg13 arg14 harg14 v10 v24 v103 v109 h24 h103 X4 X5, hl, loop1_read c i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 h0 (i 2).val (le_of_eq (trips1 i).symm) (le_of_lt (i 2).isLt)]
  rfl

/-- The sums of weights after the loop over unmasked blocks. -/
theorem state_sum (v10 : FVec F S1024x128 .bf16) (v41 v63 c512_i32_30 v64 v69 v71 : BitVec 32) (v72 : BitVec 1) (v24 v103 v109 : BitVec 32) (h24 : v24 = BitVec.ofNat 32 (512 * (i 2).val))
    (h103 : v103 = BitVec.ofNat 32 (i 2).val) (X4 : BufTy.Contents (Elt F) arg4.view.ty) (X5 : BufTy.Contents (Elt F) arg5.view.ty) (f12 : BufTy.Contents (Elt F) arg12.view.ty) (f13 : BufTy.Contents (Elt F) arg13.view.ty) (f14 : BufTy.Contents (Elt F) arg14.view.ty)
    (h0 : (arg12.view.read (Elt F) f12, arg13.view.read (Elt F) f13, arg14.view.read (Elt F) f14) = (k0_pay27, k0_pay28, k0_pay29)) :
    arg13.view.read (Elt F) (arg13.view.writes (Elt F) (arg13.view.writes (Elt F) f13 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.1) (pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 (arg12.view.writes (Elt F) f12 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).1) (arg13.view.writes (Elt F) f13 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.1) (arg14.view.writes (Elt F) f14 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.2) (Scf.trips (k0_t3_loop i).lb (k0_t3_loop i).ub (k0_t3_loop i).st)).2.1) = (final v10 (arg4.view.read (Elt F) X4) (arg5.view.read (Elt F) X5) (i 2).val).2.1 :=
  congrArg (fun S => S.2.1) (state_read c i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 v24 v103 v109 h24 h103 X4 X5 f12 f13 f14 h0)

/-- The weighted sums of values after the loop over unmasked blocks. -/
theorem state_acc (v10 : FVec F S1024x128 .bf16) (v41 v63 c512_i32_30 v64 v69 v71 : BitVec 32) (v72 : BitVec 1) (v24 v103 v109 : BitVec 32) (h24 : v24 = BitVec.ofNat 32 (512 * (i 2).val))
    (h103 : v103 = BitVec.ofNat 32 (i 2).val) (X4 : BufTy.Contents (Elt F) arg4.view.ty) (X5 : BufTy.Contents (Elt F) arg5.view.ty) (f12 : BufTy.Contents (Elt F) arg12.view.ty) (f13 : BufTy.Contents (Elt F) arg13.view.ty) (f14 : BufTy.Contents (Elt F) arg14.view.ty)
    (h0 : (arg12.view.read (Elt F) f12, arg13.view.read (Elt F) f13, arg14.view.read (Elt F) f14) = (k0_pay27, k0_pay28, k0_pay29)) :
    arg14.view.read (Elt F) (arg14.view.writes (Elt F) (arg14.view.writes (Elt F) f14 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.2) (pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 (arg12.view.writes (Elt F) f12 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).1) (arg13.view.writes (Elt F) f13 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.1) (arg14.view.writes (Elt F) f14 (pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 f12 f13 f14 (Scf.trips (k0_t1_loop i).lb (k0_t1_loop i).ub (k0_t1_loop i).st)).2.2) (Scf.trips (k0_t3_loop i).lb (k0_t3_loop i).ub (k0_t3_loop i).st)).2.2) = (final v10 (arg4.view.read (Elt F) X4) (arg5.view.read (Elt F) X5) (i 2).val).2.2 :=
  congrArg (fun S => S.2.2) (state_read c i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 v24 v103 v109 h24 h103 X4 X5 f12 f13 f14 h0)

/-- The sums of weights after the loop over masked blocks. -/
theorem state_sum' (v10 : FVec F S1024x128 .bf16) (v41 v63 c512_i32_30 v64 v69 v71 : BitVec 32) (v72 : BitVec 1) (v24 v103 v109 : BitVec 32) (h24 : v24 = BitVec.ofNat 32 (512 * (i 2).val))
    (h103 : v103 = BitVec.ofNat 32 (i 2).val) (X4 : BufTy.Contents (Elt F) arg4.view.ty) (X5 : BufTy.Contents (Elt F) arg5.view.ty) (H12 : List (View.Piece (Elt F) S1024x1 .f32)) (H13 : List (View.Piece (Elt F) S1024x1 .f32)) (H14 : List (View.Piece (Elt F) S1024x128 .f32))
    (h0 : (arg12.view.read (Elt F) (arg12.view.writes (Elt F) arg12.view.junk H12), arg13.view.read (Elt F) (arg13.view.writes (Elt F) arg13.view.junk H13), arg14.view.read (Elt F) (arg14.view.writes (Elt F) arg14.view.junk H14)) = (k0_pay27, k0_pay28, k0_pay29)) :
    arg13.view.read (Elt F) (arg13.view.writes (Elt F) arg13.view.junk ((pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 (arg12.view.writes (Elt F) arg12.view.junk ((pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 (arg12.view.writes (Elt F) arg12.view.junk H12) (arg13.view.writes (Elt F) arg13.view.junk H13) (arg14.view.writes (Elt F) arg14.view.junk H14) (Scf.trips (k0_t1_loop i).lb (k0_t1_loop i).ub (k0_t1_loop i).st)).1 ++ H12)) (arg13.view.writes (Elt F) arg13.view.junk ((pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 (arg12.view.writes (Elt F) arg12.view.junk H12) (arg13.view.writes (Elt F) arg13.view.junk H13) (arg14.view.writes (Elt F) arg14.view.junk H14) (Scf.trips (k0_t1_loop i).lb (k0_t1_loop i).ub (k0_t1_loop i).st)).2.1 ++ H13)) (arg14.view.writes (Elt F) arg14.view.junk ((pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 (arg12.view.writes (Elt F) arg12.view.junk H12) (arg13.view.writes (Elt F) arg13.view.junk H13) (arg14.view.writes (Elt F) arg14.view.junk H14) (Scf.trips (k0_t1_loop i).lb (k0_t1_loop i).ub (k0_t1_loop i).st)).2.2 ++ H14)) (Scf.trips (k0_t3_loop i).lb (k0_t3_loop i).ub (k0_t3_loop i).st)).2.1 ++ ((pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 (arg12.view.writes (Elt F) arg12.view.junk H12) (arg13.view.writes (Elt F) arg13.view.junk H13) (arg14.view.writes (Elt F) arg14.view.junk H14) (Scf.trips (k0_t1_loop i).lb (k0_t1_loop i).ub (k0_t1_loop i).st)).2.1 ++ H13))) = (final v10 (arg4.view.read (Elt F) X4) (arg5.view.read (Elt F) X5) (i 2).val).2.1 := by
  rw [← state_sum c i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 v24 v103 v109 h24 h103 X4 X5 (arg12.view.writes (Elt F) arg12.view.junk H12) (arg13.view.writes (Elt F) arg13.view.junk H13) (arg14.view.writes (Elt F) arg14.view.junk H14) h0]
  simp only [View.writes_append]

/-- The weighted sums of values after the loop over masked blocks. -/
theorem state_acc' (v10 : FVec F S1024x128 .bf16) (v41 v63 c512_i32_30 v64 v69 v71 : BitVec 32) (v72 : BitVec 1) (v24 v103 v109 : BitVec 32) (h24 : v24 = BitVec.ofNat 32 (512 * (i 2).val))
    (h103 : v103 = BitVec.ofNat 32 (i 2).val) (X4 : BufTy.Contents (Elt F) arg4.view.ty) (X5 : BufTy.Contents (Elt F) arg5.view.ty) (H12 : List (View.Piece (Elt F) S1024x1 .f32)) (H13 : List (View.Piece (Elt F) S1024x1 .f32)) (H14 : List (View.Piece (Elt F) S1024x128 .f32))
    (h0 : (arg12.view.read (Elt F) (arg12.view.writes (Elt F) arg12.view.junk H12), arg13.view.read (Elt F) (arg13.view.writes (Elt F) arg13.view.junk H13), arg14.view.read (Elt F) (arg14.view.writes (Elt F) arg14.view.junk H14)) = (k0_pay27, k0_pay28, k0_pay29)) :
    arg14.view.read (Elt F) (arg14.view.writes (Elt F) arg14.view.junk ((pb_k0_t3 Variants.none c none i arg3 harg3 arg4 harg4 arg5 harg5 arg6 harg6 arg7 harg7 arg8 harg8 arg9 harg9 arg10 harg10 arg11 harg11 arg12 harg12 arg13 harg13 arg14 harg14 v10 v24 v103 v109 X4 X5 (arg12.view.writes (Elt F) arg12.view.junk ((pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 (arg12.view.writes (Elt F) arg12.view.junk H12) (arg13.view.writes (Elt F) arg13.view.junk H13) (arg14.view.writes (Elt F) arg14.view.junk H14) (Scf.trips (k0_t1_loop i).lb (k0_t1_loop i).ub (k0_t1_loop i).st)).1 ++ H12)) (arg13.view.writes (Elt F) arg13.view.junk ((pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 (arg12.view.writes (Elt F) arg12.view.junk H12) (arg13.view.writes (Elt F) arg13.view.junk H13) (arg14.view.writes (Elt F) arg14.view.junk H14) (Scf.trips (k0_t1_loop i).lb (k0_t1_loop i).ub (k0_t1_loop i).st)).2.1 ++ H13)) (arg14.view.writes (Elt F) arg14.view.junk ((pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 (arg12.view.writes (Elt F) arg12.view.junk H12) (arg13.view.writes (Elt F) arg13.view.junk H13) (arg14.view.writes (Elt F) arg14.view.junk H14) (Scf.trips (k0_t1_loop i).lb (k0_t1_loop i).ub (k0_t1_loop i).st)).2.2 ++ H14)) (Scf.trips (k0_t3_loop i).lb (k0_t3_loop i).ub (k0_t3_loop i).st)).2.2 ++ ((pb_k0_t1 Variants.none c none i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 X4 X5 (arg12.view.writes (Elt F) arg12.view.junk H12) (arg13.view.writes (Elt F) arg13.view.junk H13) (arg14.view.writes (Elt F) arg14.view.junk H14) (Scf.trips (k0_t1_loop i).lb (k0_t1_loop i).ub (k0_t1_loop i).st)).2.2 ++ H14))) = (final v10 (arg4.view.read (Elt F) X4) (arg5.view.read (Elt F) X5) (i 2).val).2.2 := by
  rw [← state_acc c i arg3 harg3 arg4 harg4 arg5 harg5 arg6 harg6 arg7 harg7 arg8 harg8 arg9 harg9 arg10 harg10 arg11 harg11 arg12 harg12 arg13 harg13 arg14 harg14 v10 v41 v63 c512_i32_30 v64 v69 v71 v72 v24 v103 v109 h24 h103 X4 X5 (arg12.view.writes (Elt F) arg12.view.junk H12) (arg13.view.writes (Elt F) arg13.view.junk H13) (arg14.view.writes (Elt F) arg14.view.junk H14) h0]
  simp only [View.writes_append]

/-- The word of the block's first query position. -/
theorem word24 : kernelRun0_A.sl.v24 i = BitVec.ofNat 32 (512 * (i 2).val) := by
  sl_unfold_words
  generalize i 2 = a
  revert a
  show ∀ a : Fin 16, _
  decide +kernel

/-- The word of the diagonal block. -/
theorem word103 : kernelRun0_A.sl.v103 i = BitVec.ofNat 32 (i 2).val := by
  rw [← start3 i]
  sl_unfold_words
  rfl

/-- The buffers' contents at the start read as the initial state. -/
theorem start_read :
    (arg12.view.read (Elt F) (arg12.view.writes (Elt F) arg12.view.junk kernelRun0_A.sl.HS0_1),
      arg13.view.read (Elt F) (arg13.view.writes (Elt F) arg13.view.junk kernelRun0_A.sl.HS1_1),
      arg14.view.read (Elt F) (arg14.view.writes (Elt F) arg14.view.junk kernelRun0_A.sl.HS2_1)) = (k0_pay27, k0_pay28, k0_pay29) := by
  unfold kernelRun0_A.sl.HS0_1 kernelRun0_A.sl.HS1_1 kernelRun0_A.sl.HS2_1
  rw [View.read_writes_full, View.read_writes_full, View.read_writes_full]

/-- What the body leaves in its output block. -/
theorem out_value (x0 : Vec F S1x512x128 .bf16) (x1 : Vec F S1x8192x128 .bf16) (x2 : Vec F S1x8192x128 .bf16) (x3 : Vec F S1x64 .f32) (x4 : Vec F S1x64 .f32) (x5 : Vec F S1x64 .f32) (x6 : Vec F S1x64 .f32) (x7 : Vec F S1x128 .f32) :
    out0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 x7 = outOf (final (k0_pay26 x0) x1 x2 (i 2).val) x3 x4 x5 x6 x7 := by
  have e1 := state_sum' c i arg3 harg3 arg4 harg4 arg5 harg5 arg6 harg6 arg7 harg7 arg8 harg8 arg9 harg9 arg10 harg10 arg11 harg11 arg12 harg12 arg13 harg13 arg14 harg14 (kernelRun0_A.sl.r c arg3 harg3 x0) (kernelRun0_A.sl.v41 i) (kernelRun0_A.sl.v63 i) 512#32 (kernelRun0_A.sl.v64 i) (kernelRun0_A.sl.v69 i) 1#32 0#1
    (kernelRun0_A.sl.v24 i) (kernelRun0_A.sl.v103 i) (kernelRun0_A.sl.v109 i) (word24 i) (word103 i) (harg4.unread x1) (harg5.unread x2)
    kernelRun0_A.sl.HS0_1 kernelRun0_A.sl.HS1_1
    kernelRun0_A.sl.HS2_1 (start_read arg12 arg13 arg14)
  have e2 := state_acc' c i arg3 harg3 arg4 harg4 arg5 harg5 arg6 harg6 arg7 harg7 arg8 harg8 arg9 harg9 arg10 harg10 arg11 harg11 arg12 harg12 arg13 harg13 arg14 harg14 (kernelRun0_A.sl.r c arg3 harg3 x0) (kernelRun0_A.sl.v41 i) (kernelRun0_A.sl.v63 i) 512#32 (kernelRun0_A.sl.v64 i) (kernelRun0_A.sl.v69 i) 1#32 0#1
    (kernelRun0_A.sl.v24 i) (kernelRun0_A.sl.v103 i) (kernelRun0_A.sl.v109 i) (word24 i) (word103 i) (harg4.unread x1) (harg5.unread x2)
    kernelRun0_A.sl.HS0_1 kernelRun0_A.sl.HS1_1
    kernelRun0_A.sl.HS2_1 (start_read arg12 arg13 arg14)
  have eq : kernelRun0_A.sl.r c arg3 harg3 x0 = k0_pay26 x0 := by
    unfold kernelRun0_A.sl.r
    rw [View.readAt_eq_ld, View.ld_unit_zero hz3, Memref.IsWhole.read_unread]
  have t1 : (Scf.trips (k0_t1_loop i).lb (k0_t1_loop i).ub (k0_t1_loop i).st) = (i 2).val := trips1 i
  have t3 : (Scf.trips (k0_t3_loop i).lb (k0_t3_loop i).ub (k0_t3_loop i).st) = 1 := trips3 i
  rw [eq, t1, t3] at e1 e2
  rw [Memref.IsWhole.read_unread, Memref.IsWhole.read_unread] at e1 e2
  unfold out0_A_8
  unfold kernelRun0_A
  dsimp only
  rw [View.read_writes_full]
  unfold kernelRun0_A.sl.r_1 kernelRun0_A.sl.r_2
  unfold kernelRun0_A.sl.v133 kernelRun0_A.sl.v134 kernelRun0_A.sl.v137 kernelRun0_A.sl.v138
  rw [eq]
  rw [t1, t3, show (Scf.trips (k0_t2_loop i).lb (k0_t2_loop i).ub (k0_t2_loop i).st) = 0 from trips2 i, show (Scf.trips (k0_t4_loop i).lb (k0_t4_loop i).ub (k0_t4_loop i).st) = 0 from trips4 i]
  rw [loop4_nil, loop2_nil]
  dsimp only [View.readCov, List.nil_append]
  rw [View.readAt_eq_ld, View.readAt_eq_ld, View.readAt_eq_ld, View.readAt_eq_ld, View.readAt_eq_ld, View.readAt_eq_ld, View.readAt_eq_ld, View.readAt_eq_ld, View.readAt_eq_ld]
  rw [e1]
  rw [e2]
  clear e1 e2
  rw [Memref.IsWhole.read_unread, Memref.IsWhole.read_unread, Memref.IsWhole.read_unread, Memref.IsWhole.read_unread, Memref.IsWhole.read_unread]
  unfold outOf
  simp only [View.ld_unit_zero (S := S1x64) hz2, View.ld_unit_zero (S := S1x128) hz2]

end Trips

end Cert.KernelIdeal.Att
end
-- ==== Proof.Softmax.lean ====
module

public import Idealize.ShloMosaic.PureOps.Ideal
public import Idealize.ShloMosaic.PureOps.Ideal.Laws
public import Mathlib.Analysis.SpecialFunctions.Exp

/-! The softmax of a row of extended real scores, none of them +∞, read in the reals: once all at a time, once block by
    block with a running maximum. -/

@[expose] public section

noncomputable section

open Idealize.ShloMosaic

namespace Cert.Softmax

/-- The exponential of a score as a real number; a masked score (−∞) weighs 0. -/
def ew (x : EReal) : ℝ := (Ideal.exp x).toReal

/-- A masked score weighs nothing. -/
theorem ew_bot : ew ⊥ = 0 := rfl

/-- A real score weighs its exponential. -/
theorem ew_coe (r : ℝ) : ew (r : EReal) = Real.exp r := rfl

/-- The exponential of a score that is not +∞ is a real number. -/
theorem exp_eq {x : EReal} (hx : x ≠ ⊤) : Ideal.exp x = ((ew x : ℝ) : EReal) := by
  induction x with
  | bot => rfl
  | coe r => rfl
  | top => exact absurd rfl hx

/-- Weights are not negative. -/
theorem ew_nonneg (x : EReal) : 0 ≤ ew x := by
  induction x with
  | bot => exact le_rfl
  | coe r => exact (Real.exp_pos r).le
  | top => exact le_rfl

/-- An unmasked score has a positive weight. -/
theorem ew_pos {x : EReal} (hx : x ≠ ⊤) (hb : x ≠ ⊥) : 0 < ew x := by
  induction x with
  | bot => exact absurd rfl hb
  | coe r => exact Real.exp_pos r
  | top => exact absurd rfl hx

/-- Taking a real number off the score divides the weight by its exponential. -/
theorem exp_sub {x : EReal} (hx : x ≠ ⊤) (M : ℝ) : Ideal.exp (x - (M : EReal)) = ((Real.exp (-M) * ew x : ℝ) : EReal) := by
  induction x with
  | bot =>
    rw [ew_bot, mul_zero, EReal.bot_sub]
    rfl
  | coe r =>
    rw [ew_coe, ← Real.exp_add, ← EReal.coe_sub]
    show ((Real.exp (r - M) : ℝ) : EReal) = _
    rw [show r - M = -M + r by ring]
  | top => exact absurd rfl hx

/-- A finite sum of real numbers, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of scores none of which is +∞ and one of which is real is real. -/
theorem max_real {n : ℕ} (s : Fin n → EReal) (hs : ∀ j, s j ≠ ⊤) (j0 : Fin n) (h0 : s j0 ≠ ⊥) :
    ∃ M : ℝ, (Finset.univ : Finset (Fin n)).fold max ⊥ s = (M : EReal) := by
  have ht : (Finset.univ : Finset (Fin n)).fold max ⊥ s ≠ ⊤ :=
    ne_of_lt (Finset.fold_max_lt ⊤ |>.mpr ⟨bot_lt_top, fun j _ => lt_top_iff_ne_top.mpr (hs j)⟩)
  have hb : (Finset.univ : Finset (Fin n)).fold max ⊥ s ≠ ⊥ :=
    ne_of_gt (lt_of_lt_of_le (bot_lt_iff_ne_bot.mpr h0)
      ((Finset.le_fold_max (s j0)).mpr (Or.inr ⟨j0, Finset.mem_univ _, le_rfl⟩)))
  exact ⟨_, (EReal.coe_toReal ht hb).symm⟩

/-- What a running maximum `m`, sum `l` and accumulator `A` say of a total weight `W` and a weighted total `V`: either
    nothing has been seen, or `l` and `A` are the two totals over the exponential of the maximum. -/
def Good (m l A : EReal) (W V : ℝ) : Prop :=
  (m = ⊥ ∧ l = 0 ∧ A = 0 ∧ W = 0 ∧ V = 0) ∨
    ∃ M : ℝ, m = (M : EReal) ∧ l = ((Real.exp (-M) * W : ℝ) : EReal) ∧ A = ((Real.exp (-M) * V : ℝ) : EReal)

/-- The start. -/
theorem good_init : Good ⊥ 0 0 0 0 := Or.inl ⟨rfl, rfl, rfl, rfl, rfl⟩

/-- One block of scores: the totals grow by the block's weights and weighted values, and the maximum is real. -/
theorem good_step {n : ℕ} {m l A m' l' A' : EReal} {W V : ℝ} (h : Good m l A W V) (s v : Fin n → EReal) (v' : Fin n → ℝ)
    (hs : ∀ j, s j ≠ ⊤) (j0 : Fin n) (h0 : s j0 ≠ ⊥) (hv : ∀ j, v j = (v' j : EReal))
    (em : m' = max m ((Finset.univ : Finset (Fin n)).fold max ⊥ s))
    (el : l' = Ideal.exp (m - m') * l + ∑ j, Ideal.exp (s j - m'))
    (eA : A' = Ideal.exp (m - m') * A + ∑ j, Ideal.exp (s j - m') * v j) :
    ∃ M : ℝ, m' = (M : EReal) ∧ l' = ((Real.exp (-M) * (W + ∑ j, ew (s j)) : ℝ) : EReal) ∧
      A' = ((Real.exp (-M) * (V + ∑ j, ew (s j) * v' j) : ℝ) : EReal) := by
  obtain ⟨B, hB⟩ := max_real s hs j0 h0
  rw [hB] at em
  have key : ∀ M : ℝ, m' = (M : EReal) →
      (∑ j, Ideal.exp (s j - m')) = ((Real.exp (-M) * ∑ j, ew (s j) : ℝ) : EReal) ∧
      (∑ j, Ideal.exp (s j - m') * v j) = ((Real.exp (-M) * ∑ j, ew (s j) * v' j : ℝ) : EReal) := by
    intro M hM
    constructor
    · rw [Finset.mul_sum, ← coe_sum]
      exact Finset.sum_congr rfl fun j _ => by rw [hM, exp_sub (hs j)]
    · rw [Finset.mul_sum, ← coe_sum]
      exact Finset.sum_congr rfl fun j _ => by rw [hM, exp_sub (hs j), hv j, ← EReal.coe_mul, mul_assoc]
  rcases h with ⟨hm, hl, hA, hW, hV⟩ | ⟨M0, hm, hl, hA⟩
  · have e : m' = (B : EReal) := by rw [em, hm]; exact max_eq_right bot_le
    refine ⟨B, e, ?_, ?_⟩
    · rw [el, hl, mul_zero, zero_add, (key B e).1, hW, zero_add]
    · rw [eA, hA, mul_zero, zero_add, (key B e).2, hV, zero_add]
  · have e : m' = ((max M0 B : ℝ) : EReal) := by rw [em, hm]; exact (EReal.coe_strictMono.monotone.map_max).symm
    have ex : Ideal.exp (m - m') = ((Real.exp (-(max M0 B)) * Real.exp M0 : ℝ) : EReal) := by
      rw [e, hm, exp_sub (EReal.coe_ne_top M0), ew_coe]
    have c : Real.exp M0 * Real.exp (-M0) = 1 := by rw [← Real.exp_add, add_neg_cancel, Real.exp_zero]
    refine ⟨max M0 B, e, ?_, ?_⟩
    · rw [el, ex, hl, (key _ e).1, ← EReal.coe_mul, ← EReal.coe_add, mul_add]
      congr 2
      linear_combination (Real.exp (-(max M0 B)) * W) * c
    · rw [eA, ex, hA, (key _ e).2, ← EReal.coe_mul, ← EReal.coe_add, mul_add]
      congr 2
      linear_combination (Real.exp (-(max M0 B)) * V) * c

/-- The quotient of two real numbers, the lower not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The accumulator over the sum is the weighted mean. -/
theorem div_good {l A : EReal} {W V M : ℝ} (hl : l = ((Real.exp (-M) * W : ℝ) : EReal)) (hA : A = ((Real.exp (-M) * V : ℝ) : EReal))
    (hW : 0 < W) : Ideal.div A l = ((V / W : ℝ) : EReal) := by
  have e := Real.exp_pos (-M)
  rw [hl, hA, div_coe _ _ (mul_pos e hW).ne', mul_div_mul_left _ _ e.ne']

/-- The softmax of a row all at a time, after taking off any real number. -/
theorem softmax_eq {n : ℕ} (s : Fin n → EReal) (hs : ∀ j, s j ≠ ⊤) (M : ℝ) (hW : 0 < ∑ j, ew (s j)) (k : Fin n) :
    Ideal.div (Ideal.exp (s k - (M : EReal))) (∑ j, Ideal.exp (s j - (M : EReal))) = ((ew (s k) / ∑ j, ew (s j) : ℝ) : EReal) := by
  refine div_good (M := M) ?_ (exp_sub (hs k) M) hW
  rw [Finset.mul_sum, ← coe_sum]
  exact Finset.sum_congr rfl fun j _ => exp_sub (hs j) M

end Cert.Softmax
-- ==== Proof.Words.lean ====
module

public import Idealize.ShloMosaic.Lib.WordCmp
public import Idealize.ShloMosaic.Lib.WordArith.Masks
public import Idealize.ShloMosaic.Lib.Routing.Words

/-! The 32-bit words of positions and of their chunks: a position below 8192, its quotient by 64. -/

@[expose] public section

namespace Cert.Words

open Idealize.ShloMosaic

/-- A shift right by six is the quotient by 64. -/
theorem shift_six (u : ArithUnit) {a : ℕ} (ha : a < 2 ^ 31) : IntOp.shrsi u (BitVec.ofNat 32 a) 6#32 = BitVec.ofNat 32 (a / 64) := by
  have hm : (BitVec.ofNat 32 a).msb = false := by
    rw [BitVec.msb_eq_false_iff_two_mul_lt, BitVec.toNat_ofNat]
    omega
  unfold IntOp.shrsi
  rw [if_pos (by decide)]
  apply BitVec.eq_of_toNat_eq
  rw [BitVec.sshiftRight_eq', BitVec.sshiftRight_eq_of_msb_false hm, BitVec.toNat_ushiftRight, Nat.shiftRight_eq_div_pow,
    BitVec.toNat_ofNat, BitVec.toNat_ofNat, BitVec.toNat_ofNat, show 2 ^ (6 % 2 ^ 32) = 64 from rfl]
  omega

/-- The low nine bits are the remainder by 512. -/
theorem low_nine {r : ℕ} (hr : r < 2 ^ 31) : IntOp.andi (BitVec.ofNat 32 r) 511#32 = BitVec.ofNat 32 (r % 512) := by
  apply BitVec.eq_of_toNat_eq
  have h := WordArith.toNat_andi_lowMask (BitVec.ofNat 32 r) 511#32 9 rfl
  refine (show _ = _ from h).trans ?_
  rw [BitVec.toNat_ofNat, BitVec.toNat_ofNat]
  omega

/-- The body's comparison of chunks, as a comparison of numbers. -/
theorem chunk_le (u : ArithUnit) {n r j : ℕ} (hn : n < 16) (hr : r < 1024) (hj : j < 512) :
    IntOp.cmpi .sle (IntOp.shrsi u (IntOp.addi (BitVec.ofNat 32 (512 * n)) (BitVec.ofNat 32 j)) 6#32)
      (IntOp.shrsi u (IntOp.addi (BitVec.ofNat 32 (512 * n)) (IntOp.andi (BitVec.ofNat 32 r) 511#32)) 6#32) = 1#1
      ↔ (512 * n + j) / 64 ≤ (512 * n + r % 512) / 64 := by
  rw [low_nine (by omega), WordCmp.addi_ofNat, WordCmp.addi_ofNat, shift_six u (by omega), shift_six u (by omega)]
  exact WordCmp.cmpi_sle_ofNat_eq_one_iff (by omega) (by omega)

/-- The reference's quotient by 64: for a position it is not corrected downwards. -/
theorem floor_div {a : ℕ} (ha : a < 8192) (x : BitVec 32) (hx : x = BitVec.ofNat 32 a) :
    Scalar.select (IntOp.andi (IntOp.cmpi .ne (if x = 0 then (0 : BitVec 32) else if x.msb then -1 else 1)
        (if (64#32 : BitVec 32) = 0 then (0 : BitVec 32) else if (64#32 : BitVec 32).msb then -1 else 1))
        (IntOp.cmpi .ne (IntOp.remsi .host x 64#32) 0#32))
      (IntOp.subi (IntOp.divsi .host x 64#32) 1#32) (IntOp.divsi .host x 64#32) = BitVec.ofNat 32 (a / 64) := by
  have hd : IntOp.divsi .host x 64#32 = BitVec.ofNat 32 (a / 64) := by
    rw [hx]
    exact Routing.divsi_word .host (by omega) (by decide) (by decide)
  have hr : IntOp.remsi .host x 64#32 = BitVec.ofNat 32 (a % 64) := by
    rw [hx]
    exact Routing.remsi_word .host (by omega) (by decide) (by decide)
  have hm : x.msb = false := by
    rw [hx, BitVec.msb_eq_false_iff_two_mul_lt, BitVec.toNat_ofNat]
    omega
  rcases Nat.eq_zero_or_pos a with h0 | h0
  · subst h0
    rw [hr]
    have e : IntOp.cmpi .ne (BitVec.ofNat 32 (0 % 64)) 0#32 = 0#1 := by decide
    rw [e]
    have f : ∀ c : BitVec 1, IntOp.andi c 0#1 = 0#1 := by decide
    rw [f, hd]
    rfl
  · have hx0 : x ≠ 0 := by
      intro h
      have h' := congrArg BitVec.toNat (hx.symm.trans h)
      rw [BitVec.toNat_ofNat] at h'
      change a % 2 ^ 32 = 0 at h'
      omega
    rw [if_neg hx0, hm]
    have e : IntOp.cmpi .ne (if (false : Bool) = true then (-1 : BitVec 32) else 1)
        (if (64#32 : BitVec 32) = 0 then (0 : BitVec 32) else if (64#32 : BitVec 32).msb then -1 else 1) = 0#1 := by decide
    rw [e]
    have f : ∀ c : BitVec 1, IntOp.andi 0#1 c = 0#1 := by decide
    rw [f, hd]
    rfl

end Cert.Words
-- ==== Proof.Rows.lean ====
module

public import proofs.«01_k».proof.Proof.Body
public import proofs.«01_k».proof.Proof.Softmax
public import proofs.«01_k».proof.Proof.Words

/-! The pieces of the attention body read at an index, in the extended reals. -/

@[expose] public section

set_option maxRecDepth 16384

noncomputable section

open Idealize.ShloMosaic Idealize.ShloMosaic.TcCoe Idealize.SL.Sem

namespace Cert.KernelIdeal.Att

open Cert.KernelIdeal Cert.KernelIdeal.Gen

/-- The word of −∞. -/
theorem ofBits_bot : Ideal.ofBits .f32 0xFF800000#32 = ⊥ := by
  show Ideal.ieee 8 23 0xFF800000#32 = ⊥
  unfold Ideal.ieee
  simp

/-- The mask constant is −∞. -/
theorem mask_bot : (Named.named κ "mask" 0xF149F2CA#32 : Ideal .f32) = ⊥ := rfl

/-- A score is the product of a row of queries and a row of keys. -/
theorem scores_apply (qs : FVec Ideal S1024x128 .bf16) (kb : FVec Ideal S512x128 .bf16) (r : Fin 1024) (j : Fin 512) :
    scores qs kb (ix2 r j) = ∑ e : Fin 128, qs (ix2 r e) * kb (ix2 j e) := by
  pointwise [scores]

/-- A masked score: −∞ where the key's chunk comes after the query's. -/
theorem maskedScores_apply (qs : FVec Ideal S1024x128 .bf16) (n : ℕ) (hn : n < 16) (kb : FVec Ideal S512x128 .bf16) (r : Fin 1024) (j : Fin 512) :
    maskedScores qs (BitVec.ofNat 32 (512 * n)) (BitVec.ofNat 32 (512 * n)) kb (ix2 r j) =
      if (512 * n + j.val) / 64 ≤ (512 * n + r.val % 512) / 64 then scores qs kb (ix2 r j) else ⊥ := by
  pointwise [maskedScores]
  rw [mask_bot]
  unfold Scalar.select
  exact if_congr (Cert.Words.chunk_le _ hn r.isLt j.isLt) rfl rfl

/-- The new maximum of a row. -/
theorem newM_apply (s : FVec Ideal S1024x512 .f32) (M : FVec Ideal S1024x1 .f32) (r : Fin 1024) (z : Fin 1) :
    newM s M (ix2 r z) = max (M (ix2 r z)) ((Finset.univ : Finset (Fin 512)).fold max ⊥ fun j => s (ix2 r j)) := by
  pointwise [newM]
  rw [ofBits_bot]

/-- The new sum of weights of a row. -/
theorem newL_apply (s : FVec Ideal S1024x512 .f32) (M L : FVec Ideal S1024x1 .f32) (r : Fin 1024) (z : Fin 1) :
    newL s M L (ix2 r z) = Ideal.exp (M (ix2 r z) - newM s M (ix2 r z)) * L (ix2 r z)
      + ∑ j : Fin 512, Ideal.exp (s (ix2 r j) - newM s M (ix2 r z)) := by
  have hz : z = 0 := Subsingleton.elim _ _
  subst hz
  pointwise [newL, rescale, expo]

/-- The new weighted sum of values of a row. -/
theorem newA_apply (s : FVec Ideal S1024x512 .f32) (M : FVec Ideal S1024x1 .f32) (A : FVec Ideal S1024x128 .f32) (vb : FVec Ideal S512x128 .bf16) (r : Fin 1024) (d : Fin 128) :
    newA s M A vb (ix2 r d) = Ideal.exp (M (ix2 r 0) - newM s M (ix2 r 0)) * A (ix2 r d)
      + ∑ j : Fin 512, Ideal.exp (s (ix2 r j) - newM s M (ix2 r 0)) * vb (ix2 j d) := by
  pointwise [newA, rescale, expo]

/-- A stacked query: the first component's columns above, the second's below, zeros elsewhere. -/
theorem queries_apply (x0 : Vec Ideal S1x512x128 .bf16) (r : Fin 1024) (e : Fin 128) :
    k0_pay26 (F := Ideal) x0 (ix2 r e) =
      if r.val / 512 = e.val / 64 then x0 (ix3 0 ⟨r.val % 512, Nat.mod_lt _ (by decide)⟩ e) else 0 := by
  pointwise [k0_pay26]
  have hr := r.isLt
  have he := e.isLt
  unfold Scalar.select
  by_cases h : r.val < 512
  · have em : (⟨r.val % 512, Nat.mod_lt _ (by decide)⟩ : Fin 512) = ⟨r.val, h⟩ := Fin.ext (Nat.mod_eq_of_lt h)
    rw [em]
    refine (dif_pos h).trans ((if_congr (WordCmp.cmpi_slt_ofNat_eq_one_iff (w := 32) (a := e.val) (b := 64) (by omega) (by omega)) rfl rfl).trans ?_)
    exact if_congr (by omega) rfl rfl
  · have em : (⟨r.val % 512, Nat.mod_lt _ (by decide)⟩ : Fin 512) = ⟨r.val - 512, by omega⟩ := Fin.ext (show r.val % 512 = r.val - 512 by omega)
    rw [em]
    refine (dif_neg h).trans ((if_congr (WordCmp.cmpi_sge_ofNat_eq_one_iff (w := 32) (a := e.val) (b := 64) (by omega) (by omega)) rfl rfl).trans ?_)
    exact if_congr (by omega) rfl rfl

/-- The running maximum, sum and weighted sum before the first block. -/
theorem init_apply (r : Fin 1024) (d : Fin 128) :
    k0_pay27 (F := Ideal) (ix2 r 0) = ⊥ ∧ k0_pay28 (F := Ideal) (ix2 r 0) = 0 ∧ k0_pay29 (F := Ideal) (ix2 r d) = 0 := by
  refine ⟨?_, ?_, ?_⟩
  · pointwise [k0_pay27]
    exact mask_bot
  · pointwise [k0_pay28]
  · pointwise [k0_pay29]

/-- An entry of a block of keys or values. -/
theorem blk_apply (n : ℕ) (X : Vec Ideal S1x8192x128 .bf16) (j : Fin 512) (e : Fin 128) :
    blk n X (ix2 j e) = X (ix3 0 ⟨(512 * n + j.val) % 8192, Nat.mod_lt _ (Nat.succ_pos _)⟩ e) := rfl

/-- The difference weight the body computes. -/
def lamE (x3 x4 x5 x6 : Fin 64 → EReal) : EReal :=
  Ideal.exp (∑ e, x3 e * x4 e) - Ideal.exp (∑ e, x5 e * x6 e) + Ideal.ofBits .f32 0x3E4CCCCD#32

/-- An entry of the block stored at the end. -/
theorem out_apply (S : State Ideal) (x3 x4 x5 x6 : Vec Ideal S1x64 .f32) (x7 : Vec Ideal S1x128 .f32) (o : Fin 128 → EReal) (t : Fin 512) (d : Fin 128)
    (ho : ∀ d : Fin 128, o d = Ideal.div (S.2.2 (ix2 ⟨t.val, by omega⟩ d)) (S.2.1 (ix2 ⟨t.val, by omega⟩ 0))
      - lamE (fun e => x3 (ix2 0 e)) (fun e => x4 (ix2 0 e)) (fun e => x5 (ix2 0 e)) (fun e => x6 (ix2 0 e))
        * Ideal.div (S.2.2 (ix2 ⟨512 + t.val, by omega⟩ d)) (S.2.1 (ix2 ⟨512 + t.val, by omega⟩ 0))) :
    outOf S x3 x4 x5 x6 x7 (ix3 0 t d) =
      o d * Ideal.rsqrt (Ideal.div (∑ k, o k * o k) (Ideal.ofBits .f32 0x43000000#32) + Ideal.ofBits .f32 0x358637BD#32)
        * x7 (ix2 0 d) * Ideal.ofBits .f32 0x3F4CCCCD#32 := by
  pointwise [outOf, k0_pay1, k0_pay36]
  have e : o = fun d => Ideal.div (S.2.2 (ix2 ⟨t.val, by omega⟩ d)) (S.2.1 (ix2 ⟨t.val, by omega⟩ 0))
      - lamE (fun e => x3 (ix2 0 e)) (fun e => x4 (ix2 0 e)) (fun e => x5 (ix2 0 e)) (fun e => x6 (ix2 0 e))
        * Ideal.div (S.2.2 (ix2 ⟨512 + t.val, by omega⟩ d)) (S.2.1 (ix2 ⟨512 + t.val, by omega⟩ 0)) := funext ho
  rw [e]
  rfl

end Cert.KernelIdeal.Att
-- ==== Proof.Spec.lean ====
module

public import proofs.«01_k».proof.Proof.Softmax

/-! Differential attention of one head in the reals: scores, masked by chunks of 64 positions, their total weight, their
    weighted total of values, and the difference of the two components' means. -/

@[expose] public section

noncomputable section

open Idealize.ShloMosaic Cert.Softmax Finset

namespace Cert.Spec

variable (q k v : ℕ → ℕ → ℝ) (c t : ℕ)

/-- The product of query `t` and key `p` over the 64 columns of component `c`. -/
def dot (p : ℕ) : ℝ := ∑ e : Fin 64, q t (64 * c + e.val) * k p (64 * c + e.val)

/-- The score: −∞ where the key's chunk comes after the query's. -/
def score (p : ℕ) : EReal := if p / 64 ≤ t / 64 then ((dot q k c t p : ℝ) : EReal) else ⊥

/-- The total weight of the first `n` keys. -/
def wsum (n : ℕ) : ℝ := ∑ p ∈ range n, ew (score q k c t p)

/-- The weighted total of the first `n` values in column `d`. -/
def vsum (d n : ℕ) : ℝ := ∑ p ∈ range n, ew (score q k c t p) * v p d

/-- The head's output before normalisation: the mean of the first component minus `lam` times that of the second. -/
def head (lam : ℝ) (t d : ℕ) : ℝ :=
  vsum q k v 0 t d 8192 / wsum q k 0 t 8192 - lam * (vsum q k v 1 t d 8192 / wsum q k 1 t 8192)

/-- A row divided by its root mean square, times the gain and the constant 0.8. -/
def normed (o g : Fin 128 → EReal) (d : Fin 128) : EReal :=
  o d * Ideal.rsqrt (Ideal.div (∑ e, o e * o e) (Ideal.ofBits .f32 0x43000000#32) + Ideal.ofBits .f32 0x358637BD#32)
    * g d * Ideal.ofBits .f32 0x3F4CCCCD#32

/-- No score is +∞. -/
theorem score_ne_top (p : ℕ) : score q k c t p ≠ ⊤ := by
  unfold score
  split
  · exact EReal.coe_ne_top _
  · exact bot_ne_top

/-- A key of an earlier chunk, or of the query's own, has a real score. -/
theorem score_of_le {p : ℕ} (h : p / 64 ≤ t / 64) : score q k c t p = ((dot q k c t p : ℝ) : EReal) := if_pos h

/-- A key of a later chunk has none. -/
theorem score_of_gt {p : ℕ} (h : t / 64 < p / 64) : score q k c t p = ⊥ := if_neg (not_le.mpr h)

/-- One more block of weights. -/
theorem wsum_add (n m : ℕ) : wsum q k c t (n + m) = wsum q k c t n + ∑ j : Fin m, ew (score q k c t (n + j.val)) := by
  unfold wsum
  rw [sum_range_add, ← Fin.sum_univ_eq_sum_range (fun j => ew (score q k c t (n + j)))]

/-- One more block of weighted values. -/
theorem vsum_add (d n m : ℕ) :
    vsum q k v c t d (n + m) = vsum q k v c t d n + ∑ j : Fin m, ew (score q k c t (n + j.val)) * v (n + j.val) d := by
  unfold vsum
  rw [sum_range_add, ← Fin.sum_univ_eq_sum_range (fun j => ew (score q k c t (n + j)) * v (n + j) d)]

/-- Keys past the end of the query's chunk add no weight. -/
theorem wsum_stop {n m : ℕ} (hnm : n ≤ m) (h : ∀ p, n ≤ p → t / 64 < p / 64) : wsum q k c t m = wsum q k c t n := by
  unfold wsum
  refine (sum_subset (range_mono hnm) fun p _ hp => ?_).symm
  rw [score_of_gt q k c t (h p (by simpa using hp)), ew_bot]

/-- Nor do their values count. -/
theorem vsum_stop {d n m : ℕ} (hnm : n ≤ m) (h : ∀ p, n ≤ p → t / 64 < p / 64) : vsum q k v c t d m = vsum q k v c t d n := by
  unfold vsum
  refine (sum_subset (range_mono hnm) fun p _ hp => ?_).symm
  rw [score_of_gt q k c t (h p (by simpa using hp)), ew_bot, zero_mul]

/-- The total weight is positive once the query's own position is counted. -/
theorem wsum_pos {n : ℕ} (h : t < n) : 0 < wsum q k c t n := by
  refine sum_pos' (fun p _ => ew_nonneg _) ⟨t, mem_range.mpr h, ?_⟩
  rw [score_of_le q k c t le_rfl]
  exact Real.exp_pos _

/-- Of 128 columns, those of component `c` only. -/
theorem sum_half (f : ℕ → ℝ) (hc : c < 2) : (∑ e : Fin 128, if c = e.val / 64 then f e.val else 0) = ∑ e : Fin 64, f (64 * c + e.val) := by
  rw [Fin.sum_univ_eq_sum_range (fun e => if c = e / 64 then f e else 0) 128, Fin.sum_univ_eq_sum_range (fun e => f (64 * c + e)) 64,
    show 128 = 64 + 64 from rfl, sum_range_add]
  have h : c = 0 ∨ c = 1 := by omega
  rcases h with rfl | rfl
  · rw [sum_congr rfl (g := fun e => f (64 * 0 + e)) (fun e he => by
        have := mem_range.mp he
        rw [if_pos (by omega)]
        congr 1
        omega),
      sum_eq_zero (s := range 64) (f := fun e => if 0 = (64 + e) / 64 then f (64 + e) else 0) (fun e he => by rw [if_neg (by omega)]), add_zero]
  · rw [sum_eq_zero (s := range 64) (f := fun e => if 1 = e / 64 then f e else 0) (fun e he => by
        have := mem_range.mp he
        rw [if_neg (by omega)]), zero_add]
    refine sum_congr rfl fun e he => ?_
    have := mem_range.mp he
    rw [if_pos (by omega)]

end Cert.Spec
-- ==== Proof.Head.lean ====
module

public import proofs.«01_k».proof.Proof.Rows
public import proofs.«01_k».proof.Proof.Spec

/-! The block the attention body stores, entry by entry, when queries, keys, values and the difference weight are real:
    the normalised differential attention of its head. -/

@[expose] public section

set_option maxRecDepth 16384

noncomputable section

open Idealize.ShloMosaic Idealize.ShloMosaic.TcCoe Idealize.SL.Sem
open Cert.Softmax Cert.Spec

namespace Cert.KernelIdeal.Att

open Cert.KernelIdeal Cert.KernelIdeal.Gen

variable (i : ℕ) (x0 : Vec Ideal S1x512x128 .bf16) (x1 x2 : Vec Ideal S1x8192x128 .bf16) (q k v : ℕ → ℕ → ℝ)

/-- A product of stacked queries and a block of keys: the product over the row's component. -/
theorem scores_eq (hq : ∀ (t : Fin 512) (e : Fin 128), x0 (ix3 0 t e) = ((q (512 * i + t.val) e.val : ℝ) : EReal))
    (hk : ∀ (p : Fin 8192) (e : Fin 128), x1 (ix3 0 p e) = ((k p.val e.val : ℝ) : EReal)) (n : ℕ) (hn : n < 16) (r : Fin 1024) (j : Fin 512) :
    scores (k0_pay26 (F := Ideal) x0) (blk n x1) (ix2 r j) =
      ((dot q k (r.val / 512) (512 * i + r.val % 512) (512 * n + j.val) : ℝ) : EReal) := by
  rw [scores_apply]
  unfold dot
  have hr := r.isLt
  have hj := j.isLt
  rw [← sum_half (r.val / 512) (fun e => q (512 * i + r.val % 512) e * k (512 * n + j.val) e) (by omega), ← coe_sum]
  refine Finset.sum_congr rfl fun e _ => ?_
  rw [queries_apply, blk_apply, hk]
  have hp : (512 * n + j.val) % 8192 = 512 * n + j.val := Nat.mod_eq_of_lt (by omega)
  split
  · rw [hq, ← EReal.coe_mul]
    simp only [hp]
  · rw [zero_mul]
    rfl

/-- The state before block `n`, for a row and a column of values: the totals over the first `512 n` keys. -/
theorem before_good (hi : i < 16) (hq : ∀ (t : Fin 512) (e : Fin 128), x0 (ix3 0 t e) = ((q (512 * i + t.val) e.val : ℝ) : EReal))
    (hk : ∀ (p : Fin 8192) (e : Fin 128), x1 (ix3 0 p e) = ((k p.val e.val : ℝ) : EReal))
    (hv : ∀ (p : Fin 8192) (e : Fin 128), x2 (ix3 0 p e) = ((v p.val e.val : ℝ) : EReal)) (r : Fin 1024) (d : Fin 128) (n : ℕ) (hn : n ≤ i) :
    Good ((before (k0_pay26 (F := Ideal) x0) x1 x2 n).1 (ix2 r 0)) ((before (k0_pay26 (F := Ideal) x0) x1 x2 n).2.1 (ix2 r 0))
      ((before (k0_pay26 (F := Ideal) x0) x1 x2 n).2.2 (ix2 r d))
      (wsum q k (r.val / 512) (512 * i + r.val % 512) (512 * n)) (vsum q k v (r.val / 512) (512 * i + r.val % 512) d.val (512 * n)) := by
  induction n with
  | zero =>
    obtain ⟨h1, h2, h3⟩ := init_apply r d
    refine Or.inl ⟨h1, h2, h3, ?_, ?_⟩ <;> rfl
  | succ n ih =>
    have g := ih (by omega)
    rw [show 512 * (n + 1) = 512 * n + 512 from rfl, wsum_add, vsum_add]
    have hs : ∀ j : Fin 512, scores (k0_pay26 (F := Ideal) x0) (blk n x1) (ix2 r j)
        = score q k (r.val / 512) (512 * i + r.val % 512) (512 * n + j.val) := fun j => by
      have hj := j.isLt
      rw [scores_eq i x0 x1 q k hq hk n (by omega), score_of_le]
      omega
    have s := good_step g (fun j : Fin 512 => scores (k0_pay26 (F := Ideal) x0) (blk n x1) (ix2 r j)) (fun j => blk n x2 (ix2 j d))
      (fun j => v (512 * n + j.val) d.val) (fun j => by simp only [hs]; exact score_ne_top _ _ _ _ _) 0
      (by show scores _ _ (ix2 r 0) ≠ ⊥; rw [scores_eq i x0 x1 q k hq hk n (by omega)]; exact EReal.coe_ne_bot _)
      (fun j => by
        show blk n x2 (ix2 j d) = _
        have hj := j.isLt
        rw [blk_apply, hv]
        have hp : (512 * n + j.val) % 8192 = 512 * n + j.val := Nat.mod_eq_of_lt (by omega)
        simp only [hp])
      (newM_apply _ _ r 0) (newL_apply _ _ _ r 0) (newA_apply _ _ _ _ r d)
    simp only [hs] at s
    exact Or.inr s

/-- The final accumulator over the final sum: the mean of the values, weighted over all keys. -/
theorem final_mean (hi : i < 16) (hq : ∀ (t : Fin 512) (e : Fin 128), x0 (ix3 0 t e) = ((q (512 * i + t.val) e.val : ℝ) : EReal))
    (hk : ∀ (p : Fin 8192) (e : Fin 128), x1 (ix3 0 p e) = ((k p.val e.val : ℝ) : EReal))
    (hv : ∀ (p : Fin 8192) (e : Fin 128), x2 (ix3 0 p e) = ((v p.val e.val : ℝ) : EReal)) (r : Fin 1024) (d : Fin 128) :
    Ideal.div ((final (k0_pay26 (F := Ideal) x0) x1 x2 i).2.2 (ix2 r d)) ((final (k0_pay26 (F := Ideal) x0) x1 x2 i).2.1 (ix2 r 0)) =
      ((vsum q k v (r.val / 512) (512 * i + r.val % 512) d.val 8192 / wsum q k (r.val / 512) (512 * i + r.val % 512) 8192 : ℝ) : EReal) := by
  have g := before_good i x0 x1 x2 q k v hi hq hk hv r d i le_rfl
  have hs : ∀ j : Fin 512, maskedScores (k0_pay26 (F := Ideal) x0) (BitVec.ofNat 32 (512 * i)) (BitVec.ofNat 32 (512 * i)) (blk i x1) (ix2 r j)
      = score q k (r.val / 512) (512 * i + r.val % 512) (512 * i + j.val) := fun j => by
    rw [maskedScores_apply _ _ hi, scores_eq i x0 x1 q k hq hk i hi]
    rfl
  have s := good_step g (fun j : Fin 512 => maskedScores (k0_pay26 (F := Ideal) x0) (BitVec.ofNat 32 (512 * i)) (BitVec.ofNat 32 (512 * i)) (blk i x1) (ix2 r j))
    (fun j => blk i x2 (ix2 j d)) (fun j => v (512 * i + j.val) d.val) (fun j => by simp only [hs]; exact score_ne_top _ _ _ _ _)
    ⟨r.val % 512, Nat.mod_lt _ (by decide)⟩
    (by simp only [hs]; rw [score_of_le _ _ _ _ le_rfl]; exact EReal.coe_ne_bot _)
    (fun j => by
      show blk i x2 (ix2 j d) = _
      have hj := j.isLt
      rw [blk_apply, hv]
      have hp : (512 * i + j.val) % 8192 = 512 * i + j.val := Nat.mod_eq_of_lt (by omega)
      simp only [hp])
    (newM_apply _ _ r 0) (newL_apply _ _ _ r 0) (newA_apply _ _ _ _ r d)
  simp only [hs] at s
  obtain ⟨M, -, hl, hA⟩ := s
  have hr : r.val % 512 < 512 := Nat.mod_lt _ (by decide)
  have stop : ∀ p, 512 * i + 512 ≤ p → (512 * i + r.val % 512) / 64 < p / 64 := fun p hp => by omega
  rw [← wsum_add] at hl
  rw [← vsum_add] at hA
  rw [vsum_stop q k v _ _ (show 512 * i + 512 ≤ 8192 by omega) stop, wsum_stop q k _ _ (show 512 * i + 512 ≤ 8192 by omega) stop]
  exact div_good hl hA (wsum_pos q k _ _ (by omega))

/-- An entry of the block stored. -/
theorem block_entry (hi : i < 16) (hq : ∀ (t : Fin 512) (e : Fin 128), x0 (ix3 0 t e) = ((q (512 * i + t.val) e.val : ℝ) : EReal))
    (hk : ∀ (p : Fin 8192) (e : Fin 128), x1 (ix3 0 p e) = ((k p.val e.val : ℝ) : EReal))
    (hv : ∀ (p : Fin 8192) (e : Fin 128), x2 (ix3 0 p e) = ((v p.val e.val : ℝ) : EReal))
    (x3 x4 x5 x6 : Vec Ideal S1x64 .f32) (x7 : Vec Ideal S1x128 .f32) (lam : ℝ)
    (hl : lamE (fun e => x3 (ix2 0 e)) (fun e => x4 (ix2 0 e)) (fun e => x5 (ix2 0 e)) (fun e => x6 (ix2 0 e)) = (lam : EReal))
    (t : Fin 512) (d : Fin 128) :
    outOf (final (k0_pay26 (F := Ideal) x0) x1 x2 i) x3 x4 x5 x6 x7 (ix3 0 t d) =
      normed (fun e => ((head q k v lam (512 * i + t.val) e.val : ℝ) : EReal)) (fun e => x7 (ix2 0 e)) d := by
  refine out_apply _ x3 x4 x5 x6 x7 (fun e => ((head q k v lam (512 * i + t.val) e.val : ℝ) : EReal)) t d fun e => ?_
  have ht := t.isLt
  rw [final_mean i x0 x1 x2 q k v hi hq hk hv, final_mean i x0 x1 x2 q k v hi hq hk hv, hl]
  have e0 : t.val / 512 = 0 := by omega
  have e1 : t.val % 512 = t.val := by omega
  have e2 : (512 + t.val) / 512 = 1 := by omega
  have e3 : (512 + t.val) % 512 = t.val := by omega
  simp only [e0, e1, e2, e3]
  rw [← EReal.coe_mul, ← EReal.coe_sub]
  rfl

end Cert.KernelIdeal.Att
-- ==== Proof.Array.lean ====
module

public import proofs.«01_k».proof.Proof.Body
public import proofs.«01_k».proof.Proof.Head
public import proofs.«01_k».proof.Proof.Gen.KernelIdeal.Value
public import Idealize.ShloMosaic.Lib.Pipeline.ValueKit
public import Idealize.ShloMosaic.Lib.Claim

/-! The whole array the attention leaves, from its arguments. -/

@[expose] public section

set_option maxRecDepth 16384

noncomputable section

open Idealize.ShloMosaic Idealize.ShloMosaic.TcCoe Idealize.SL.Sem
open Cert.Softmax Cert.Spec

namespace Cert.KernelIdeal.Att

open Cert.KernelIdeal Cert.KernelIdeal.Gen

/-- Head `h` of batch row `b` of an array of projections, in the reals, by position and column. -/
def col (a : S4x8192x1024.Idx → EReal) (b : Fin 4) (h p d : ℕ) : ℝ :=
  (a (ix3 b ⟨p % 8192, Nat.mod_lt _ (by decide)⟩ ⟨(128 * h + d) % 1024, Nat.mod_lt _ (by decide)⟩)).toReal

/-- Normalised differential attention of every head, at batch row `b`, position `t` and column `e`. -/
def attn (q k v : S4x8192x1024.Idx → EReal) (lq1 lk1 lq2 lk2 : S1x64.Idx → EReal) (g : S1x128.Idx → EReal) (b : Fin 4) (t : Fin 8192)
    (e : Fin 1024) : EReal :=
  normed (fun d => ((head (col q b (e.val / 128)) (col k b (e.val / 128)) (col v b (e.val / 128))
      (lamE (fun i => lq1 (ix2 0 i)) (fun i => lk1 (ix2 0 i)) (fun i => lq2 (ix2 0 i)) (fun i => lk2 (ix2 0 i))).toReal t.val d.val : ℝ) : EReal))
    (fun d => g (ix2 0 d)) ⟨e.val % 128, Nat.mod_lt _ (by decide)⟩

/-- An entry neither +∞ nor −∞. -/
def Real {S : Shape} (a : S.Idx → EReal) : Prop := ∀ i, a i ≠ ⊤ ∧ a i ≠ ⊥

/-- A real entry is its real part. -/
theorem Real.coe {S : Shape} {a : S.Idx → EReal} (h : Real a) (i : S.Idx) : (((a i).toReal : ℝ) : EReal) = a i :=
  EReal.coe_toReal (h i).1 (h i).2

variable (m : (ℓ : Loc nD τ sig) → Buf (Elt Ideal) ℓ) (c : Dev nD)

/-- The grid has 512 points. -/
theorem N_eq (t : Fin cfg0.N) : t.val < 512 := lt_of_lt_of_eq t.isLt (by decide)

/-- The batch row, head and block of queries of a grid point. -/
theorem coords_eq (t : Fin cfg0.N) : (grid0.coords t 0).val = t.val / 128 % 4 ∧ (grid0.coords t 1).val = t.val / 16 % 8
    ∧ (grid0.coords t 2).val = t.val / 1 % 16 := ⟨rfl, rfl, rfl⟩

/-- Their ranges. -/
theorem coord_lt (t : Fin cfg0.N) : (grid0.coords t 0).val < 4 ∧ (grid0.coords t 1).val < 8 ∧ (grid0.coords t 2).val < 16 :=
  ⟨(grid0.coords t 0).isLt, (grid0.coords t 1).isLt, (grid0.coords t 2).isLt⟩

/-- The block of queries a point takes. -/
theorem idx_q (t : Fin cfg0.N) : win0_0.index t = ![(grid0.coords t 0).val, (grid0.coords t 2).val, (grid0.coords t 1).val] := by
  obtain ⟨h0, h1, h2⟩ := coord_lt t
  unfold Pipeline.Window.index
  show cc0_transform_0 (grid0.coords t) = _
  unfold cc0_transform_0
  simp only [BitVec.toNat_ofNat]
  rw [Nat.mod_eq_of_lt (by omega), Nat.mod_eq_of_lt (by omega), Nat.mod_eq_of_lt (by omega)]

/-- The keys a point takes: all of its batch row and head. -/
theorem idx_k (t : Fin cfg0.N) : win0_1.index t = ![(grid0.coords t 0).val, 0, (grid0.coords t 1).val] := by
  obtain ⟨h0, h1, h2⟩ := coord_lt t
  unfold Pipeline.Window.index
  show cc0_transform_1 (grid0.coords t) = _
  unfold cc0_transform_1
  simp only [BitVec.toNat_ofNat]
  rw [Nat.mod_eq_of_lt (show (grid0.coords t 0).val < 2 ^ 32 by omega), Nat.mod_eq_of_lt (show (grid0.coords t 1).val < 2 ^ 32 by omega)]

/-- The values a point takes. -/
theorem idx_v (t : Fin cfg0.N) : win0_2.index t = ![(grid0.coords t 0).val, 0, (grid0.coords t 1).val] := idx_k t

/-- The block of the result a point writes. -/
theorem idx_o (t : Fin cfg0.N) : win0_8.index t = ![(grid0.coords t 0).val, (grid0.coords t 2).val, (grid0.coords t 1).val] := idx_q t

/-- An entry of the block of queries. -/
theorem q_read (t : Fin cfg0.N) (p : Fin 512) (e : Fin 128) :
    (iblk m c 0 t : Vec Ideal S1x512x128 .bf16) (ix3 0 p e) = m ((c : Thread nD τ).loc main_arg0)
      (ix3 ⟨(grid0.coords t 0).val, (coord_lt t).1⟩ ⟨512 * (grid0.coords t 2).val + p.val, by have := coord_lt t; omega⟩
        ⟨128 * (grid0.coords t 1).val + e.val, by have := coord_lt t; omega⟩) := by
  blk_ext [iblk, V_main_arg0, idx_q t]

/-- An entry of the keys. -/
theorem k_read (t : Fin cfg0.N) (p : Fin 8192) (e : Fin 128) :
    (iblk m c 1 t : Vec Ideal S1x8192x128 .bf16) (ix3 0 p e) = m ((c : Thread nD τ).loc main_arg1)
      (ix3 ⟨(grid0.coords t 0).val, (coord_lt t).1⟩ p
        ⟨128 * (grid0.coords t 1).val + e.val, by have := coord_lt t; omega⟩) := by
  blk_ext [iblk, V_main_arg1, idx_k t]

/-- An entry of the values. -/
theorem v_read (t : Fin cfg0.N) (p : Fin 8192) (e : Fin 128) :
    (iblk m c 2 t : Vec Ideal S1x8192x128 .bf16) (ix3 0 p e) = m ((c : Thread nD τ).loc main_arg2)
      (ix3 ⟨(grid0.coords t 0).val, (coord_lt t).1⟩ p
        ⟨128 * (grid0.coords t 1).val + e.val, by have := coord_lt t; omega⟩) := by
  blk_ext [iblk, V_main_arg2, idx_v t]

/-- An entry of the first small vector. -/
theorem s3_read (t : Fin cfg0.N) (e : Fin 64) :
    (iblk m c 3 t : Vec Ideal S1x64 .f32) (ix2 0 e) = m ((c : Thread nD τ).loc main_arg3) (ix2 0 e) := by
  blk_simp [iblk]
  entry_read
  pointwise
  blk_ext [show win0_3.index t = ![0, 0] from rfl]

/-- An entry of the second small vector. -/
theorem s4_read (t : Fin cfg0.N) (e : Fin 64) :
    (iblk m c 4 t : Vec Ideal S1x64 .f32) (ix2 0 e) = m ((c : Thread nD τ).loc main_arg4) (ix2 0 e) := by
  blk_simp [iblk]
  entry_read
  pointwise
  blk_ext [show win0_4.index t = ![0, 0] from rfl]

/-- An entry of the third small vector. -/
theorem s5_read (t : Fin cfg0.N) (e : Fin 64) :
    (iblk m c 5 t : Vec Ideal S1x64 .f32) (ix2 0 e) = m ((c : Thread nD τ).loc main_arg5) (ix2 0 e) := by
  blk_simp [iblk]
  entry_read
  pointwise
  blk_ext [show win0_5.index t = ![0, 0] from rfl]

/-- An entry of the fourth small vector. -/
theorem s6_read (t : Fin cfg0.N) (e : Fin 64) :
    (iblk m c 6 t : Vec Ideal S1x64 .f32) (ix2 0 e) = m ((c : Thread nD τ).loc main_arg6) (ix2 0 e) := by
  blk_simp [iblk]
  entry_read
  pointwise
  blk_ext [show win0_6.index t = ![0, 0] from rfl]

/-- An entry of the gain. -/
theorem s7_read (t : Fin cfg0.N) (e : Fin 128) :
    (iblk m c 7 t : Vec Ideal S1x128 .f32) (ix2 0 e) = m ((c : Thread nD τ).loc main_arg7) (ix2 0 e) := by
  blk_simp [iblk]
  entry_read
  pointwise
  blk_ext [show win0_7.index t = ![0, 0] from rfl]

/-- The blocks of the result cover it. -/
theorem covers : (cfg0.win 8).Covers := by decide +kernel

/-- The array the attention leaves. -/
def result (i : S4x8192x1024.Idx) : EReal :=
  attn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

/-- The difference weight from the arguments. -/
def lamOf : EReal :=
  lamE (fun i => (m ((c : Thread nD τ).loc main_arg3) : S1x64.Idx → EReal) (ix2 0 i)) (fun i => (m ((c : Thread nD τ).loc main_arg4) : S1x64.Idx → EReal) (ix2 0 i))
    (fun i => (m ((c : Thread nD τ).loc main_arg5) : S1x64.Idx → EReal) (ix2 0 i)) (fun i => (m ((c : Thread nD τ).loc main_arg6) : S1x64.Idx → EReal) (ix2 0 i))

/-- The block point `t` stores, entry by entry. -/
theorem block_eq (hq : Real (S := S4x8192x1024) (m ((c : Thread nD τ).loc main_arg0))) (hk : Real (S := S4x8192x1024) (m ((c : Thread nD τ).loc main_arg1)))
    (hv : Real (S := S4x8192x1024) (m ((c : Thread nD τ).loc main_arg2))) (hl : ((lamOf m c).toReal : EReal) = lamOf m c)
    (t : Fin cfg0.N) (p : Fin 512) (e : Fin 128) :
    (outsAt0 m c t : Vec Ideal S1x512x128 .bf16) (ix3 0 p e) = result m c
      (ix3 ⟨(grid0.coords t 0).val, (coord_lt t).1⟩ ⟨512 * (grid0.coords t 2).val + p.val, by have := coord_lt t; omega⟩
        ⟨128 * (grid0.coords t 1).val + e.val, by have := coord_lt t; omega⟩) := by
  have hc := coord_lt t
  have he := e.isLt
  have e1 : (128 * (grid0.coords t 1).val + e.val) / 128 = (grid0.coords t 1).val := by omega
  have e2 : (128 * (grid0.coords t 1).val + e.val) % 128 = e.val := by omega
  unfold outsAt0
  rw [out_value]
  refine (block_entry (grid0.coords t 2).val (iblk m c 0 t) (iblk m c 1 t) (iblk m c 2 t)
    (col (m ((c : Thread nD τ).loc main_arg0)) ⟨(grid0.coords t 0).val, hc.1⟩ (grid0.coords t 1).val)
    (col (m ((c : Thread nD τ).loc main_arg1)) ⟨(grid0.coords t 0).val, hc.1⟩ (grid0.coords t 1).val)
    (col (m ((c : Thread nD τ).loc main_arg2)) ⟨(grid0.coords t 0).val, hc.1⟩ (grid0.coords t 1).val)
    hc.2.2 ?_ ?_ ?_ (iblk m c 3 t) (iblk m c 4 t) (iblk m c 5 t) (iblk m c 6 t) (iblk m c 7 t) (lamOf m c).toReal ?_ p e).trans ?_
  · intro p e
    rw [q_read]
    unfold col
    rw [hq.coe]
    have hp := p.isLt
    have he := e.isLt
    congr 2 <;> apply Fin.ext <;> simp only <;> omega
  · intro p e
    rw [k_read]
    unfold col
    rw [hk.coe]
    have hp := p.isLt
    have he := e.isLt
    congr 2 <;> apply Fin.ext <;> simp only <;> omega
  · intro p e
    rw [v_read]
    unfold col
    rw [hv.coe]
    have hp := p.isLt
    have he := e.isLt
    congr 2 <;> apply Fin.ext <;> simp only <;> omega
  · simp only [s3_read, s4_read, s5_read, s6_read]
    exact hl.symm
  · simp only [s7_read]
    unfold result attn
    simp only [ix3_0, ix3_1, ix3_2, e1, e2]
    rfl

/-- After the run the result array is the normalised differential attention of the arguments. -/
theorem final_eq (hq : Real (S := S4x8192x1024) (m ((c : Thread nD τ).loc main_arg0))) (hk : Real (S := S4x8192x1024) (m ((c : Thread nD τ).loc main_arg1)))
    (hv : Real (S := S4x8192x1024) (m ((c : Thread nD τ).loc main_arg2))) (hl : ((lamOf m c).toReal : EReal) = lamOf m c) :
    (dats m 0 c).arrAt 8 cfg0.N = result m c := by
  refine (dats m 0 c).arrAt_eq_of_covers 8 (result m c) covers fun t hf y => ?_
  blk_simp
  rw [after0_8]
  have hy : y = ix3 (y 0) (y 1) (y 2) := by
    funext a
    match a with
    | ⟨0, _⟩ => rfl
    | ⟨1, _⟩ => rfl
    | ⟨2, _⟩ => rfl
  refine Eq.trans ?_ ((block_eq m c hq hk hv hl t (y 1) (y 2)).trans ?_)
  · congr 1
    blk_ext
  · congr 1
    blk_ext [idx_o t]

end Cert.KernelIdeal.Att
-- ==== Proof.Pre.lean ====
module

public import proofs.«01_k».proof.Proof.Array
public import proofs.«01_k».proof.Pre_finite_inputs
public import Idealize.ShloMosaic.Lib.ReduceAll
public import Idealize.ShloMosaic.Lib.WordArith

/-! What the precondition says: the queries, the keys, the values and the four small vectors have real entries. -/

@[expose] public section

set_option maxRecDepth 16384

noncomputable section

open Idealize.ShloMosaic
open Cert.KernelIdeal.Att Cert.Softmax

namespace Cert.Pre_finite_inputs

/-- The shape relations the precondition's operations take. -/
theorem facts : Facts where
  bitsLt_bf16_f32 := by decide
  bcast_S_S4x8192x1024 := by decide
  reducesTo_S4x8192x1024_S_d0_1_2 := by decide
  h_S_ := by decide
  bcast_S_S1x64 := by decide
  reducesTo_S1x64_S_d0_1 := by decide

/-- The word of +∞. -/
theorem ofBits_top : Ideal.ofBits .f32 0x7F800000#32 = ⊤ := by simp [Ideal.ofBits, Ideal.ieee]

/-- Both sides of a conjunction of one-bit words. -/
theorem both {a b : BitVec 1} (h : IntOp.andi a b = 1#1) : a = 1#1 ∧ b = 1#1 := by
  revert a b
  decide

/-- An entry whose absolute value is below +∞ is real. -/
theorem real_of_lt {x : EReal} (h : Ideal.cmp .olt (max x (-x)) (Ideal.ofBits .f32 0x7F800000#32) = 1#1) : x ≠ ⊤ ∧ x ≠ ⊥ := by
  rw [ofBits_top] at h
  have l : max x (-x) < ⊤ := by
    by_contra hn
    have f : BitVec.ofBool (decide (max x (-x) < ⊤)) = 1#1 := h
    rw [decide_eq_false hn] at f
    exact absurd f (by decide)
  constructor
  · rintro rfl
    simp at l
  · rintro rfl
    simp at l

/-- An array whose entries all have absolute value below +∞ is real. -/
theorem real_of_all {S : Shape} {axes : List (Fin S.rank)} (x : S.Idx → EReal) (hb : S_.BroadcastsInDim S (![] : Fin 0 → Fin S.rank))
    (hr : S.ReducesTo axes S_) (hu : 0 < S_.numel) (init : S_.Idx → BitVec 1) (j : S_.Idx)
    (h : Host.reduce IntOp.andi (cmpf (F := Ideal) (φ := .f32) .olt (Host.absf (F := Ideal) (φ := .f32) x) (broadcastInDim S ![] hb (constant (F := Ideal) S_ .f32 0x7F800000#32))) init hr hu j = 1#1) :
    Real (S := S) x := fun i => by
  haveI : Subsingleton S_.Idx := ⟨fun a b => funext fun k => k.elim0⟩
  exact real_of_lt (Host.reduce_andi_all _ init hr hu j h i)

/-- The precondition makes the seven arrays real. -/
theorem reals [Facts] (x0 x1 x2 : FVec Ideal S4x8192x1024 .bf16) (x3 x4 x5 x6 : FVec Ideal S1x64 .f32) (x7 : FVec Ideal S1x128 .f32)
    (h : fn (F := Ideal) x0 x1 x2 x3 x4 x5 x6 x7 = fun _ => 1#1) :
    Real (S := S4x8192x1024) x0 ∧ Real (S := S4x8192x1024) x1 ∧ Real (S := S4x8192x1024) x2
      ∧ Real (S := S1x64) x3 ∧ Real (S := S1x64) x4 ∧ Real (S := S1x64) x5 ∧ Real (S := S1x64) x6 := by
  have e := congrFun h ix0
  dsimp only [fn, fn_part1, fn_part2] at e
  obtain ⟨e, h6⟩ := both e
  obtain ⟨e, h5⟩ := both e
  obtain ⟨e, h4⟩ := both e
  obtain ⟨e, h3⟩ := both e
  obtain ⟨e, h2⟩ := both e
  obtain ⟨h0, h1⟩ := both e
  exact ⟨real_of_all (S := S4x8192x1024) x0 _ _ _ _ _ h0, real_of_all (S := S4x8192x1024) x1 _ _ _ _ _ h1,
    real_of_all (S := S4x8192x1024) x2 _ _ _ _ _ h2, real_of_all x3 _ _ _ _ _ h3, real_of_all x4 _ _ _ _ _ h4,
    real_of_all x5 _ _ _ _ _ h5, real_of_all x6 _ _ _ _ _ h6⟩

/-- The exponential of an inner product of real vectors is real. -/
theorem exp_inner (x y : Fin 64 → EReal) (hx : ∀ e, x e ≠ ⊤ ∧ x e ≠ ⊥) (hy : ∀ e, y e ≠ ⊤ ∧ y e ≠ ⊥) :
    ∃ r : ℝ, Ideal.exp (∑ e, x e * y e) = (r : EReal) := by
  refine ⟨Real.exp (∑ e, (x e).toReal * (y e).toReal), ?_⟩
  have s : ∑ e, x e * y e = ((∑ e, (x e).toReal * (y e).toReal : ℝ) : EReal) := by
    rw [← coe_sum]
    refine Finset.sum_congr rfl fun e _ => ?_
    rw [EReal.coe_mul, EReal.coe_toReal (hx e).1 (hx e).2, EReal.coe_toReal (hy e).1 (hy e).2]
  rw [s]
  rfl

/-- The weight of the second component is real. -/
theorem lam_real (x3 x4 x5 x6 : S1x64.Idx → EReal) (h3 : Real (S := S1x64) x3) (h4 : Real (S := S1x64) x4) (h5 : Real (S := S1x64) x5)
    (h6 : Real (S := S1x64) x6) :
    ((lamE (fun e => x3 (ix2 0 e)) (fun e => x4 (ix2 0 e)) (fun e => x5 (ix2 0 e)) (fun e => x6 (ix2 0 e))).toReal : EReal)
      = lamE (fun e => x3 (ix2 0 e)) (fun e => x4 (ix2 0 e)) (fun e => x5 (ix2 0 e)) (fun e => x6 (ix2 0 e)) := by
  obtain ⟨a, ha⟩ := exp_inner (fun e => x3 (ix2 0 e)) (fun e => x4 (ix2 0 e)) (fun e => h3 _) (fun e => h4 _)
  obtain ⟨b, hb⟩ := exp_inner (fun e => x5 (ix2 0 e)) (fun e => x6 (ix2 0 e)) (fun e => h5 _) (fun e => h6 _)
  obtain ⟨r, hr⟩ : ∃ r : ℝ, Ideal.ofBits .f32 0x3E4CCCCD#32 = (r : EReal) := by
    simp [Ideal.ofBits, Ideal.ieee, -EReal.coe_mul]
  unfold lamE
  rw [ha, hb, hr, ← EReal.coe_sub, ← EReal.coe_add, EReal.toReal_coe]

end Cert.Pre_finite_inputs
-- ==== Proof.RefScores.lean ====
module

public import proofs.«01_k».proof.Proof.Array
public import proofs.«01_k».proof.Proof.Words
public import proofs.«01_k».proof.Proof.Gen.ReferenceIdeal.Read

/-! The reference's softmax weights, entry by entry, when queries and keys are real. -/

@[expose] public section

set_option maxRecDepth 16384

noncomputable section

open Idealize.ShloMosaic Idealize.ShloMosaic.TcCoe Idealize.SL.Sem
open Cert.Softmax Cert.Spec Cert.KernelIdeal.Att

namespace Cert.ReferenceIdeal.Att

open Cert.ReferenceIdeal Cert.ReferenceIdeal.Gen Cert.ReferenceIdeal.Read

/-- The chunk of a key's position. -/
theorem key_chunk (i : S1x8192.Idx) : val_main_v21 (F := Ideal) i = BitVec.ofNat 32 ((i 1).val / 64) :=
  Cert.Words.floor_div (a := (i 1).val) (i 1).isLt (val_main_v20 (F := Ideal) i) (by rw [val_main_v20_apply, val_main_v6_apply])

/-- The chunk of a query's position. -/
theorem query_chunk (i : S8192x1.Idx) : val_main_v23 (F := Ideal) i = BitVec.ofNat 32 ((i 0).val / 64) :=
  Cert.Words.floor_div (a := (i 0).val) (i 0).isLt (val_main_v22 (F := Ideal) i) (by rw [val_main_v22_apply, val_main_v6_apply])

/-- A key is seen when its chunk does not come after the query's. -/
theorem seen_iff (i : S4x8x2x8192x8192.Idx) : val_main_call2_v1 (F := Ideal) i = 1#1 ↔ (i 4).val / 64 ≤ (i 3).val / 64 := by
  rw [val_main_call2_v1_apply, val_main_v26_apply, val_main_v24_apply, val_main_v25_apply, key_chunk, query_chunk]
  have h3 : (i 3).val < 8192 := (i 3).isLt
  have h4 : (i 4).val < 8192 := (i 4).isLt
  exact WordCmp.cmpi_sle_ofNat_eq_one_iff (show (i 4).val / 64 < 2 ^ 31 by omega) (show (i 3).val / 64 < 2 ^ 31 by omega)

variable (x0 x1 x2 : S4x8192x1024.Idx → EReal)

/-- An entry of the projections, by head, component and column. -/
theorem entry_q (h0 : Real (S := S4x8192x1024) x0) (i : S4x8192x8x2x64.Idx) :
    val_main_v1 (F := Ideal) x0 i = ((col x0 (i 0) (i 2).val (i 1).val (64 * (i 3).val + (i 4).val) : ℝ) : EReal) := by
  rw [val_main_v1_apply, val_main_v0_apply]
  show x0 (idx_main_v1 i) = _
  unfold col
  rw [h0.coe]
  have b0 : (i 0).val < 4 := (i 0).isLt
  have b1 : (i 1).val < 8192 := (i 1).isLt
  have b2 : (i 2).val < 8 := (i 2).isLt
  have b3 : (i 3).val < 2 := (i 3).isLt
  have b4 : (i 4).val < 64 := (i 4).isLt
  congr 1
  funext a
  apply Fin.ext
  match a with
  | ⟨0, _⟩ => show (((((i 0).val * 8192 + (i 1).val) * 8 + (i 2).val) * 2 + (i 3).val) * 64 + (i 4).val) / 8388608 = (i 0).val; omega
  | ⟨1, _⟩ => show (((((i 0).val * 8192 + (i 1).val) * 8 + (i 2).val) * 2 + (i 3).val) * 64 + (i 4).val) / 1024 % 8192 = (i 1).val % 8192; omega
  | ⟨2, _⟩ => show (((((i 0).val * 8192 + (i 1).val) * 8 + (i 2).val) * 2 + (i 3).val) * 64 + (i 4).val) % 1024 = (128 * (i 2).val + (64 * (i 3).val + (i 4).val)) % 1024; omega

/-- A masked score. -/
theorem score_ref (h0 : Real (S := S4x8192x1024) x0) (h1 : Real (S := S4x8192x1024) x1) (i : S4x8x2x8192x8192.Idx) :
    val_main_v27 (F := Ideal) x0 x1 i = score (col x0 (i 0) (i 1).val) (col x1 (i 0) (i 1).val) (i 2).val (i 3).val (i 4).val := by
  rw [val_main_v27_apply]
  unfold Scalar.select score
  refine if_congr (seen_iff i) ?_ ofBits_bot
  rw [val_main_v19_apply, dot, ← coe_sum]
  refine Finset.sum_congr rfl fun k _ => ?_
  rw [entry_q x0 h0, show val_main_v3 (F := Ideal) x1 = val_main_v1 (F := Ideal) x1 from rfl, entry_q x1 h1, ← EReal.coe_mul]
  rfl

/-- The score of the query's own position is real. -/
theorem own_ne_bot (q k : ℕ → ℕ → ℝ) (c t : ℕ) : score q k c t t ≠ ⊥ := by
  rw [score_of_le q k c t (Nat.le_refl _)]
  exact EReal.coe_ne_bot _

/-- The maximum a row is shifted by is a real number. -/
theorem shift_real (h0 : Real (S := S4x8192x1024) x0) (h1 : Real (S := S4x8192x1024) x1) (j : S4x8x2x8192.Idx) :
    ∃ M : ℝ, val_main_v30 (F := Ideal) x0 x1 j = (M : EReal) := by
  have hr : S4x8x2x8192x8192.Reduces [4] S4x8x2x8192 := by decide
  have e : val_main_v30 (F := Ideal) x0 x1 j
      = (Finset.univ : Finset (Fin 8192)).fold max ⊥ (fun k => val_main_v27 (F := Ideal) x0 x1 (hr.lift j k)) := by
    rw [val_main_v30_apply, val_main_v29_apply, val_main_cst_5_apply]
    have r : val_main_v28 (F := Ideal) x0 x1 j = _ :=
      Host.reduce_eq_fold_single (FloatOps.maximumf (F := Ideal)) (val_main_v27 (F := Ideal) x0 x1) (val_main_cst_4 (F := Ideal)) reducesTo_S4x8x2x8192x8192_S4x8x2x8192_d4 hr h_S_ j
    rw [r]
    have b : (val_main_cst_4 (F := Ideal)) (Shape.Idx.first h_S_) = (⊥ : EReal) := ofBits_bot
    rw [b]
    show max (Ideal.ofBits .f32 0xFF800000#32) _ = _
    rw [ofBits_bot]
    exact max_eq_right bot_le
  rw [e]
  refine max_real _ (fun k => ?_) ⟨(j 3).val, (j 3).isLt⟩ ?_
  · rw [score_ref x0 x1 h0 h1]
    exact score_ne_top _ _ _ _ _
  · rw [score_ref x0 x1 h0 h1]
    exact own_ne_bot (col x0 (j 0) (j 1).val) (col x1 (j 0) (j 1).val) (j 2).val (j 3).val

/-- A softmax weight. -/
theorem weight_ref (h0 : Real (S := S4x8192x1024) x0) (h1 : Real (S := S4x8192x1024) x1) (i : S4x8x2x8192x8192.Idx) :
    val_main_v38 (F := Ideal) x0 x1 i =
      ((ew (score (col x0 (i 0) (i 1).val) (col x1 (i 0) (i 1).val) (i 2).val (i 3).val (i 4).val)
        / wsum (col x0 (i 0) (i 1).val) (col x1 (i 0) (i 1).val) (i 2).val (i 3).val 8192 : ℝ) : EReal) := by
  rw [val_main_v38_apply, val_main_v37_apply, val_main_v36_apply, val_main_v35_apply]
  obtain ⟨M, hM⟩ := shift_real x0 x1 h0 h1 (idx_main_v36 (idx_main_v37 i))
  have num : ∀ i' : S4x8x2x8192x8192.Idx, idx_main_v31 (idx_main_v32 i') = idx_main_v36 (idx_main_v37 i) →
      val_main_v34 (F := Ideal) x0 x1 i' = Ideal.exp (score (col x0 (i' 0) (i' 1).val) (col x1 (i' 0) (i' 1).val) (i' 2).val (i' 3).val (i' 4).val - (M : EReal)) := fun i' h => by
    rw [val_main_v34_apply, val_main_v33_apply, val_main_v32_apply, val_main_v31_apply, h, hM, score_ref x0 x1 h0 h1]
    rfl
  have s := softmax_eq (fun k : Fin 8192 => score (col x0 (i 0) (i 1).val) (col x1 (i 0) (i 1).val) (i 2).val (i 3).val k.val)
    (fun _ => score_ne_top _ _ _ _ _) M
    (by
      rw [Fin.sum_univ_eq_sum_range (fun p => ew (score (col x0 (i 0) (i 1).val) (col x1 (i 0) (i 1).val) (i 2).val (i 3).val p))]
      exact wsum_pos _ _ _ _ (i 3).isLt) (i 4)
  rw [num i rfl]
  have den : (val_main_cst_6 (F := Ideal)) (Shape.Idx.first h_S_) + ∑ k : Fin 8192, val_main_v34 (F := Ideal) x0 x1 (idx_main_v35 (idx_main_v36 (idx_main_v37 i)) k)
      = ∑ k : Fin 8192, Ideal.exp (score (col x0 (i 0) (i 1).val) (col x1 (i 0) (i 1).val) (i 2).val (i 3).val k.val - (M : EReal)) := by
    rw [show (val_main_cst_6 (F := Ideal)) (Shape.Idx.first h_S_) = (0 : EReal) from Ideal.ofBits_zero_f32, zero_add]
    refine Finset.sum_congr rfl fun k _ => ?_
    rw [num _ (by
      funext a
      match a with
      | ⟨0, _⟩ => rfl
      | ⟨1, _⟩ => rfl
      | ⟨2, _⟩ => rfl
      | ⟨3, _⟩ => rfl)]
    rfl
  rw [den]
  refine Eq.trans s ?_
  rw [Fin.sum_univ_eq_sum_range (fun p => ew (score (col x0 (i 0) (i 1).val) (col x1 (i 0) (i 1).val) (i 2).val (i 3).val p))]
  rfl

end Cert.ReferenceIdeal.Att
-- ==== Proof.RefOut.lean ====
module

public import proofs.«01_k».proof.Proof.RefScores

/-! The reference's result, entry by entry. -/

@[expose] public section

set_option maxRecDepth 16384

noncomputable section

open Idealize.ShloMosaic Idealize.ShloMosaic.TcCoe Idealize.SL.Sem
open Cert.Softmax Cert.Spec Cert.KernelIdeal.Att

namespace Cert.ReferenceIdeal.Att

open Cert.ReferenceIdeal Cert.ReferenceIdeal.Gen Cert.ReferenceIdeal.Read

variable (x0 x1 x2 : S4x8192x1024.Idx → EReal) (x3 x4 x5 x6 : S1x64.Idx → EReal) (x7 : S1x128.Idx → EReal)

/-- The weight of the second component. -/
def lam : EReal := lamE (fun e => x3 (ix2 0 e)) (fun e => x4 (ix2 0 e)) (fun e => x5 (ix2 0 e)) (fun e => x6 (ix2 0 e))

/-- A vector of 64 entries stored as one row. -/
theorem row_entry (x : S1x64.Idx → EReal) (e : Fin 64) : x (idx_main_v7 (ix1 e)) = x (ix2 0 e) := by
  congr 1
  funext a
  match a with
  | ⟨0, _⟩ => rfl
  | ⟨1, _⟩ => exact Fin.ext (Nat.mod_eq_of_lt e.isLt)

/-- The inner product of two such vectors. -/
theorem inner_ref (x y : S1x64.Idx → EReal) (i : S_.Idx) :
    val_main_v10 (F := Ideal) x y i = ∑ e : Fin 64, x (ix2 0 e) * y (ix2 0 e) := by
  rw [val_main_v10_apply, show (val_main_cst (F := Ideal)) (Shape.Idx.first h_S_) = (0 : EReal) from Ideal.ofBits_zero_f32, zero_add]
  refine (sum_idx1 (n0 := 64) _).trans (Finset.sum_congr rfl fun e _ => ?_)
  rw [val_main_v9_apply, val_main_v7_apply, val_main_v8_apply]
  exact congrArg₂ (· * ·) (row_entry x e) (row_entry y e)

/-- The reference's weight of the second component. -/
theorem lam_ref (i : S_.Idx) : val_main_v18 (F := Ideal) x3 x4 x5 x6 i = lam x3 x4 x5 x6 := by
  rw [val_main_v18_apply, val_main_v17_apply, val_main_v11_apply, val_main_v16_apply, inner_ref,
    show val_main_v15 (F := Ideal) x5 x6 = val_main_v10 (F := Ideal) x5 x6 from rfl, inner_ref]
  rfl

/-- A softmax weight of component `c` of head `h`. -/
def wt (b : Fin 4) (h c t p : ℕ) : ℝ := ew (score (col x0 b h) (col x1 b h) c t p) / wsum (col x0 b h) (col x1 b h) c t 8192

/-- The first component's weights. -/
theorem first_ref (h0 : Real (S := S4x8192x1024) x0) (h1 : Real (S := S4x8192x1024) x1) (i : S4x8x8192x8192.Idx) :
    val_main_v40 (F := Ideal) x0 x1 i = ((wt x0 x1 (i 0) (i 1).val 0 (i 2).val (i 3).val : ℝ) : EReal) := by
  have b0 : (i 0).val < 4 := (i 0).isLt
  have b1 : (i 1).val < 8 := (i 1).isLt
  have b2 : (i 2).val < 8192 := (i 2).isLt
  have b3 : (i 3).val < 8192 := (i 3).isLt
  have e : idx_main_v39 (idx_main_v40 i) = ix5 (i 0) (i 1) (0 : Fin 2) (i 2) (i 3) := by
    funext a
    apply Fin.ext
    match a with
    | ⟨0, _⟩ => show ((((i 0).val * 8 + (i 1).val) * 8192 + (i 2).val) * 8192 + (i 3).val) / 536870912 = (i 0).val; omega
    | ⟨1, _⟩ => show ((((i 0).val * 8 + (i 1).val) * 8192 + (i 2).val) * 8192 + (i 3).val) / 67108864 % 8 = (i 1).val; omega
    | ⟨2, _⟩ => rfl
    | ⟨3, _⟩ => show ((((i 0).val * 8 + (i 1).val) * 8192 + (i 2).val) * 8192 + (i 3).val) / 8192 % 8192 = (i 2).val; omega
    | ⟨4, _⟩ => show ((((i 0).val * 8 + (i 1).val) * 8192 + (i 2).val) * 8192 + (i 3).val) % 8192 = (i 3).val; omega
  rw [val_main_v40_apply, val_main_v39_apply]
  exact (congrArg (val_main_v38 (F := Ideal) x0 x1) e).trans (weight_ref x0 x1 h0 h1 _)

/-- The second component's weights. -/
theorem second_ref (h0 : Real (S := S4x8192x1024) x0) (h1 : Real (S := S4x8192x1024) x1) (i : S4x8x8192x8192.Idx) :
    val_main_v42 (F := Ideal) x0 x1 i = ((wt x0 x1 (i 0) (i 1).val 1 (i 2).val (i 3).val : ℝ) : EReal) := by
  have b0 : (i 0).val < 4 := (i 0).isLt
  have b1 : (i 1).val < 8 := (i 1).isLt
  have b2 : (i 2).val < 8192 := (i 2).isLt
  have b3 : (i 3).val < 8192 := (i 3).isLt
  have e : idx_main_v41 (idx_main_v42 i) = ix5 (i 0) (i 1) (1 : Fin 2) (i 2) (i 3) := by
    funext a
    apply Fin.ext
    match a with
    | ⟨0, _⟩ => show ((((i 0).val * 8 + (i 1).val) * 8192 + (i 2).val) * 8192 + (i 3).val) / 536870912 = (i 0).val; omega
    | ⟨1, _⟩ => show ((((i 0).val * 8 + (i 1).val) * 8192 + (i 2).val) * 8192 + (i 3).val) / 67108864 % 8 = (i 1).val; omega
    | ⟨2, _⟩ => rfl
    | ⟨3, _⟩ => show ((((i 0).val * 8 + (i 1).val) * 8192 + (i 2).val) * 8192 + (i 3).val) / 8192 % 8192 = (i 2).val; omega
    | ⟨4, _⟩ => show ((((i 0).val * 8 + (i 1).val) * 8192 + (i 2).val) * 8192 + (i 3).val) % 8192 = (i 3).val; omega
  rw [val_main_v42_apply, val_main_v41_apply]
  exact (congrArg (val_main_v38 (F := Ideal) x0 x1) e).trans (weight_ref x0 x1 h0 h1 _)

/-- An entry of the values, by head and column. -/
theorem entry_v (h2 : Real (S := S4x8192x1024) x2) (i : S4x8192x8x128.Idx) :
    val_main_v5 (F := Ideal) x2 i = ((col x2 (i 0) (i 2).val (i 1).val (i 3).val : ℝ) : EReal) := by
  rw [val_main_v5_apply]
  show x2 (idx_main_v5 i) = _
  unfold col
  rw [h2.coe]
  have b0 : (i 0).val < 4 := (i 0).isLt
  have b1 : (i 1).val < 8192 := (i 1).isLt
  have b2 : (i 2).val < 8 := (i 2).isLt
  have b3 : (i 3).val < 128 := (i 3).isLt
  congr 1
  funext a
  apply Fin.ext
  match a with
  | ⟨0, _⟩ => show ((((i 0).val * 8192 + (i 1).val) * 8 + (i 2).val) * 128 + (i 3).val) / 8388608 = (i 0).val; omega
  | ⟨1, _⟩ => show ((((i 0).val * 8192 + (i 1).val) * 8 + (i 2).val) * 128 + (i 3).val) / 1024 % 8192 = (i 1).val % 8192; omega
  | ⟨2, _⟩ => show ((((i 0).val * 8192 + (i 1).val) * 8 + (i 2).val) * 128 + (i 3).val) % 1024 = (128 * (i 2).val + (i 3).val) % 1024; omega

/-- Values weighted by the difference of the two softmaxes: the head's output. -/
theorem head_sum (q k v : ℕ → ℕ → ℝ) (l : ℝ) (t d : ℕ) :
    ∑ p : Fin 8192, v p.val d * (ew (score q k 0 t p.val) / wsum q k 0 t 8192 - l * (ew (score q k 1 t p.val) / wsum q k 1 t 8192))
      = head q k v l t d := by
  unfold head vsum
  rw [Fin.sum_univ_eq_sum_range (fun p => v p d * (ew (score q k 0 t p) / wsum q k 0 t 8192 - l * (ew (score q k 1 t p) / wsum q k 1 t 8192))),
    Finset.sum_div, Finset.sum_div, Finset.mul_sum, ← Finset.sum_sub_distrib]
  refine Finset.sum_congr rfl fun p _ => ?_
  ring

/-- A head's output before normalisation. -/
theorem head_ref (h0 : Real (S := S4x8192x1024) x0) (h1 : Real (S := S4x8192x1024) x1) (h2 : Real (S := S4x8192x1024) x2)
    (hl : ((lam x3 x4 x5 x6).toReal : EReal) = lam x3 x4 x5 x6) (i : S4x8192x8x128.Idx) :
    val_main_v47 (F := Ideal) x0 x1 x2 x3 x4 x5 x6 i =
      ((head (col x0 (i 0) (i 2).val) (col x1 (i 0) (i 2).val) (col x2 (i 0) (i 2).val) (lam x3 x4 x5 x6).toReal (i 1).val (i 3).val : ℝ) : EReal) := by
  rw [val_main_v47_apply, val_main_v46_apply, ← head_sum, ← coe_sum]
  refine Finset.sum_congr rfl fun k _ => ?_
  rw [entry_v x2 h2, val_main_v45_apply, val_main_v44_apply, val_main_v43_apply, lam_ref, first_ref x0 x1 h0 h1, second_ref x0 x1 h0 h1, EReal.coe_mul, EReal.coe_sub, EReal.coe_mul]
  rw [hl]
  rfl

/-- A head's output after normalisation. -/
theorem normed_ref (h0 : Real (S := S4x8192x1024) x0) (h1 : Real (S := S4x8192x1024) x1) (h2 : Real (S := S4x8192x1024) x2)
    (hl : ((lam x3 x4 x5 x6).toReal : EReal) = lam x3 x4 x5 x6) (i : S4x8192x8x128.Idx) :
    val_main_v63 (F := Ideal) x0 x1 x2 x3 x4 x5 x6 x7 i =
      normed (fun d => ((head (col x0 (i 0) (i 2).val) (col x1 (i 0) (i 2).val) (col x2 (i 0) (i 2).val) (lam x3 x4 x5 x6).toReal (i 1).val d.val : ℝ) : EReal))
        (fun d => x7 (ix2 0 d)) (i 3) := by
  rw [val_main_v63_apply, val_main_v62_apply, val_main_v61_apply, val_main_v60_apply, val_main_v59_apply, val_main_v58_apply,
    val_main_v57_apply, val_main_v56_apply, val_main_v55_apply, val_main_v54_apply, val_main_v53_apply, val_main_v52_apply,
    val_main_v51_apply, val_main_v50_apply, val_main_v49_apply]
  rw [show (val_main_cst_7 (F := Ideal)) (Shape.Idx.first h_S_) = (0 : EReal) from Ideal.ofBits_zero_f32, zero_add]
  have sq : ∀ d : Fin 128, val_main_v48 (F := Ideal) x0 x1 x2 x3 x4 x5 x6 (idx_main_v49 (idx_main_v50 (idx_main_v56 i)) d)
      = ((head (col x0 (i 0) (i 2).val) (col x1 (i 0) (i 2).val) (col x2 (i 0) (i 2).val) (lam x3 x4 x5 x6).toReal (i 1).val d.val : ℝ) : EReal)
        * ((head (col x0 (i 0) (i 2).val) (col x1 (i 0) (i 2).val) (col x2 (i 0) (i 2).val) (lam x3 x4 x5 x6).toReal (i 1).val d.val : ℝ) : EReal) := fun d => by
    rw [val_main_v48_apply, head_ref x0 x1 x2 x3 x4 x5 x6 h0 h1 h2 hl]
    rfl
  rw [Finset.sum_congr rfl fun d _ => sq d, head_ref x0 x1 x2 x3 x4 x5 x6 h0 h1 h2 hl]
  have g : idx_main_v58 (idx_main_v59 (idx_main_v60 i)) = ix2 0 (i 3) := by
    funext a
    match a with
    | ⟨0, _⟩ => rfl
    | ⟨1, _⟩ => exact Fin.ext (Nat.mod_eq_of_lt (i 3).isLt)
  rw [g]
  rfl

/-- The reference's result. -/
theorem ref_eq (h0 : Real (S := S4x8192x1024) x0) (h1 : Real (S := S4x8192x1024) x1) (h2 : Real (S := S4x8192x1024) x2)
    (hl : ((lam x3 x4 x5 x6).toReal : EReal) = lam x3 x4 x5 x6) (i : S4x8192x1024.Idx) :
    val_main_v65 (F := Ideal) x0 x1 x2 x3 x4 x5 x6 x7 i = attn x0 x1 x2 x3 x4 x5 x6 x7 (i 0) (i 1) (i 2) := by
  have b0 : (i 0).val < 4 := (i 0).isLt
  have b1 : (i 1).val < 8192 := (i 1).isLt
  have b2 : (i 2).val < 1024 := (i 2).isLt
  have e : idx_main_v64 i = ix4 (i 0) (i 1) (⟨(i 2).val / 128, by omega⟩ : Fin 8) (⟨(i 2).val % 128, Nat.mod_lt _ (by decide)⟩ : Fin 128) := by
    funext a
    apply Fin.ext
    match a with
    | ⟨0, _⟩ => show (((i 0).val * 8192 + (i 1).val) * 1024 + (i 2).val) / 8388608 = (i 0).val; omega
    | ⟨1, _⟩ => show (((i 0).val * 8192 + (i 1).val) * 1024 + (i 2).val) / 1024 % 8192 = (i 1).val; omega
    | ⟨2, _⟩ => show (((i 0).val * 8192 + (i 1).val) * 1024 + (i 2).val) / 128 % 8 = (i 2).val / 128; omega
    | ⟨3, _⟩ => show (((i 0).val * 8192 + (i 1).val) * 1024 + (i 2).val) % 128 = (i 2).val % 128; omega
  rw [val_main_v65_apply, val_main_v64_apply]
  exact (congrArg (val_main_v63 (F := Ideal) x0 x1 x2 x3 x4 x5 x6 x7) e).trans (normed_ref x0 x1 x2 x3 x4 x5 x6 x7 h0 h1 h2 hl _)

end Cert.ReferenceIdeal.Att
-- ==== Proof.Algebraic.lean ====
module

public import proofs.«01_k».proof.Defs
public import proofs.«01_k».proof.Proof.Pre
public import proofs.«01_k».proof.Proof.RefOut
public import proofs.«01_k».proof.Proof.Gen.ReferenceIdeal.Run

/-! Kernel and reference leave the same array. -/

@[expose] public section

set_option maxRecDepth 16384

noncomputable section

open Idealize.ShloMosaic Idealize.ShloMosaic.TcCoe Idealize.SL.Sem
open Cert.KernelIdeal.Att

namespace Cert.Proof

/-- The reference's result is the array the kernel leaves. -/
theorem ref_result (m : (ℓ : Loc Cert.KernelIdeal.nD Cert.KernelIdeal.τ Cert.KernelIdeal.sig) → Buf (Elt Ideal) ℓ) (c : Dev Cert.KernelIdeal.nD)
    (x0 x1 x2 : Cert.KernelIdeal.S4x8192x1024.Idx → EReal) (x3 x4 x5 x6 : Cert.KernelIdeal.S1x64.Idx → EReal) (x7 : Cert.KernelIdeal.S1x128.Idx → EReal)
    (e0 : m ((c.tc : Thread Cert.KernelIdeal.nD Cert.KernelIdeal.τ).loc Cert.KernelIdeal.main_arg0) = x0)
    (e1 : m ((c.tc : Thread Cert.KernelIdeal.nD Cert.KernelIdeal.τ).loc Cert.KernelIdeal.main_arg1) = x1)
    (e2 : m ((c.tc : Thread Cert.KernelIdeal.nD Cert.KernelIdeal.τ).loc Cert.KernelIdeal.main_arg2) = x2)
    (e3 : m ((c.tc : Thread Cert.KernelIdeal.nD Cert.KernelIdeal.τ).loc Cert.KernelIdeal.main_arg3) = x3)
    (e4 : m ((c.tc : Thread Cert.KernelIdeal.nD Cert.KernelIdeal.τ).loc Cert.KernelIdeal.main_arg4) = x4)
    (e5 : m ((c.tc : Thread Cert.KernelIdeal.nD Cert.KernelIdeal.τ).loc Cert.KernelIdeal.main_arg5) = x5)
    (e6 : m ((c.tc : Thread Cert.KernelIdeal.nD Cert.KernelIdeal.τ).loc Cert.KernelIdeal.main_arg6) = x6)
    (e7 : m ((c.tc : Thread Cert.KernelIdeal.nD Cert.KernelIdeal.τ).loc Cert.KernelIdeal.main_arg7) = x7)
    (h0 : Real (S := Cert.KernelIdeal.S4x8192x1024) x0) (h1 : Real (S := Cert.KernelIdeal.S4x8192x1024) x1)
    (h2 : Real (S := Cert.KernelIdeal.S4x8192x1024) x2) (h3 : Real (S := Cert.KernelIdeal.S1x64) x3) (h4 : Real (S := Cert.KernelIdeal.S1x64) x4)
    (h5 : Real (S := Cert.KernelIdeal.S1x64) x5) (h6 : Real (S := Cert.KernelIdeal.S1x64) x6) :
    Cert.ReferenceIdeal.Read.val_main_v65 (F := Ideal) x0 x1 x2 x3 x4 x5 x6 x7 = result m c := by
  subst e0 e1 e2 e3 e4 e5 e6 e7
  exact funext fun i => Cert.ReferenceIdeal.Att.ref_eq _ _ _ _ _ _ _ _ h0 h1 h2 (Cert.Pre_finite_inputs.lam_real _ _ _ _ h3 h4 h5 h6) i

/-- Idealized kernel and reference agree on real inputs. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hpre hargs
  have hr := fun c => @Cert.Pre_finite_inputs.reals Cert.Pre_finite_inputs.facts _ _ _ _ _ _ _ _ (hpre c)
  refine ⟨fun c => result m c, ?_, ?_⟩
  · refine (θ_run Cert.KernelIdeal.defs _ _).mono (fun r h c => ?_) (Cert.KernelIdeal.Value.run_blocks m g)
    obtain ⟨h0, h1, h2, h3, h4, h5, h6⟩ := hr c
    exact ⟨(h c).1.trans (final_eq m c h0 h1 h2 (Cert.Pre_finite_inputs.lam_real _ _ _ _ h3 h4 h5 h6)), (h c).2⟩
  · refine (θ_run Cert.ReferenceIdeal.defs _ _).mono (fun r h c => ?_) (Cert.ReferenceIdeal.Value.run m' g')
    obtain ⟨h0, h1, h2, h3, h4, h5, h6⟩ := hr c
    obtain ⟨e0, e1, e2, e3, e4, e5, e6, e7⟩ := hargs c
    refine ⟨(h c).1.trans ((Cert.ReferenceIdeal.Read.val_main_v65_eq m' c).trans ?_), (h c).2⟩
    rw [e0, e1, e2, e3, e4, e5, e6, e7]
    exact ref_result m c _ _ _ _ _ _ _ _ rfl rfl rfl rfl rfl rfl rfl rfl h0 h1 h2 h3 h4 h5 h6

end Cert.Proof
-- ==== Proof.Glu.lean ====
module

public import proofs.«01_k».proof.Proof.Gen.Kernel2Ideal.Value
public import Idealize.ShloMosaic.Lib.Pipeline.ValueKit
public import Idealize.ShloMosaic.Lib.Pointwise
public import Idealize.ShloMosaic.Lib.Claim

/-! The whole array the gated unit leaves, from its arguments. -/

@[expose] public section

set_option maxRecDepth 16384

noncomputable section

open Idealize.ShloMosaic Idealize.ShloMosaic.TcCoe Idealize.SL.Sem

namespace Cert.Kernel2Ideal.Glu

open Cert.Kernel2Ideal Cert.Kernel2Ideal.Gen

/-- Two zero offsets. -/
theorem hz2 : (![0, 0] : Fin 2 → Nat) = fun _ => 0 := funext fun a => by fin_cases a <;> rfl

/-- The word of one. -/
abbrev one : EReal := Ideal.ofBits .f32 0x3F800000#32

/-- The block stored, entry by entry, from the blocks loaded. -/
theorem block_apply (x0 : Vec Ideal S1024x1024 .bf16) (x1 x2 x3 : Vec Ideal S1024x512 .bf16) (r : Fin 1024) (d : Fin 512) :
    out0_4 x0 x1 x2 x3 (ix2 r d) = x3 (ix2 r d) * (∑ k : Fin 1024, x0 (ix2 r k) * x1 (ix2 k d))
      * Ideal.div one (one + Ideal.exp (0 - ∑ k : Fin 1024, x0 (ix2 r k) * x2 (ix2 k d))) := by
  have e : out0_4 x0 x1 x2 x3 = k0_pay1 x0 x1 x2 x3 := by
    unfold out0_4
    rw [View.canon_unit_zero hz2, View.ld_unit_zero hz2 _ x0, View.ld_unit_zero hz2 _ x1, View.ld_unit_zero hz2 _ x2, View.ld_unit_zero hz2 _ x3]
  rw [e]
  pointwise [k0_pay1]

variable (m : (ℓ : Loc nD τ sig) → Buf (Elt Ideal) ℓ) (c : Dev nD)

/-- The block of rows and the block of columns of a grid point. -/
theorem coord_lt (t : Fin cfg0.N) : (grid0.coords t 0).val < 32 ∧ (grid0.coords t 1).val < 4 :=
  ⟨(grid0.coords t 0).isLt, (grid0.coords t 1).isLt⟩

/-- The rows a point takes of the input. -/
theorem idx_y (t : Fin cfg0.N) : win0_0.index t = ![(grid0.coords t 0).val, 0] := by
  obtain ⟨h0, h1⟩ := coord_lt t
  unfold Pipeline.Window.index
  show cc0_transform_0 (grid0.coords t) = _
  unfold cc0_transform_0
  simp only [BitVec.toNat_ofNat]
  rw [Nat.mod_eq_of_lt (by omega)]

/-- The columns a point takes of the weight's first half. -/
theorem idx_a (t : Fin cfg0.N) : win0_1.index t = ![0, (grid0.coords t 1).val] := by
  obtain ⟨h0, h1⟩ := coord_lt t
  unfold Pipeline.Window.index
  show cc0_transform_1 (grid0.coords t) = _
  unfold cc0_transform_1
  simp only [BitVec.toNat_ofNat]
  rw [Nat.mod_eq_of_lt (show (grid0.coords t 1).val < 2 ^ 32 by omega)]

/-- The columns a point takes of the weight's second half. -/
theorem idx_b (t : Fin cfg0.N) : win0_2.index t = ![0, (grid0.coords t 1).val + 4] := by
  obtain ⟨h0, h1⟩ := coord_lt t
  unfold Pipeline.Window.index
  show cc0_transform_2 (grid0.coords t) = _
  unfold cc0_transform_2
  simp only [Scalar.addi, IntOp.addi, BitVec.toNat_add, BitVec.toNat_ofNat]
  rw [Nat.mod_eq_of_lt (show (grid0.coords t 1).val < 2 ^ 32 by omega), Nat.mod_eq_of_lt (show (grid0.coords t 1).val + 4 % 2 ^ 32 < 2 ^ 32 by omega)]
  rfl

/-- The block of the gate a point takes. -/
theorem idx_s (t : Fin cfg0.N) : win0_3.index t = ![(grid0.coords t 0).val, (grid0.coords t 1).val] := by
  obtain ⟨h0, h1⟩ := coord_lt t
  unfold Pipeline.Window.index
  show cc0_transform_3 (grid0.coords t) = _
  unfold cc0_transform_3
  simp only [BitVec.toNat_ofNat]
  rw [Nat.mod_eq_of_lt (by omega), Nat.mod_eq_of_lt (by omega)]

/-- The block of the result a point writes. -/
theorem idx_o (t : Fin cfg0.N) : win0_4.index t = ![(grid0.coords t 0).val, (grid0.coords t 1).val] := idx_s t

/-- An entry of the input's block. -/
theorem y_read (t : Fin cfg0.N) (p : Fin 1024) (e : Fin 1024) :
    (iblk m c 0 t : Vec Ideal S1024x1024 .bf16) (ix2 p e) = m ((c : Thread nD τ).loc main_arg0)
      (ix2 ⟨1024 * (grid0.coords t 0).val + p.val, by have := coord_lt t; omega⟩ e) := by
  blk_ext [iblk, V_main_arg0, idx_y t]

/-- An entry of the gate's block. -/
theorem s_read (t : Fin cfg0.N) (p : Fin 1024) (e : Fin 512) :
    (iblk m c 3 t : Vec Ideal S1024x512 .bf16) (ix2 p e) = m ((c : Thread nD τ).loc main_arg1)
      (ix2 ⟨1024 * (grid0.coords t 0).val + p.val, by have := coord_lt t; omega⟩ ⟨512 * (grid0.coords t 1).val + e.val, by have := coord_lt t; omega⟩) := by
  blk_ext [iblk, V_main_arg1, idx_s t]

/-- The weight as the region finds it. -/
theorem w_entry (i : S1024x4096.Idx) : (V m c main_v1 : S1024x4096.Idx → EReal) i = m ((c : Thread nD τ).loc main_arg2) (ix3 0 (i 0) (i 1)) := by
  have hi : i = ix2 (i 0) (i 1) := by
    funext a
    match a with
    | ⟨0, _⟩ => rfl
    | ⟨1, _⟩ => rfl
  rw [hi]
  entry_read
  pointwise

/-- An entry of the weight's first block. -/
theorem a_read (t : Fin cfg0.N) (p : Fin 1024) (e : Fin 512) :
    (iblk m c 1 t : Vec Ideal S1024x512 .bf16) (ix2 p e) = m ((c : Thread nD τ).loc main_arg2)
      (ix3 0 p ⟨512 * (grid0.coords t 1).val + e.val, by have := coord_lt t; omega⟩) := by
  blk_simp [iblk]
  refine (w_entry m c _).trans ?_
  congr 1
  blk_ext [idx_a t]

/-- An entry of the weight's second block. -/
theorem b_read (t : Fin cfg0.N) (p : Fin 1024) (e : Fin 512) :
    (iblk m c 2 t : Vec Ideal S1024x512 .bf16) (ix2 p e) = m ((c : Thread nD τ).loc main_arg2)
      (ix3 0 p ⟨2048 + (512 * (grid0.coords t 1).val + e.val), by have := coord_lt t; omega⟩) := by
  blk_simp [iblk]
  refine (w_entry m c _).trans ?_
  congr 1
  blk_ext [idx_b t]

/-- The blocks of the result cover it. -/
theorem covers : (cfg0.win 4).Covers := by decide +kernel

/-- A linear unit times the logistic function of another, times the gate. -/
def glu (y : S32768x1024.Idx → EReal) (s : S32768x2048.Idx → EReal) (w : S1x1024x4096.Idx → EReal) (r : Fin 32768) (d : Fin 2048) : EReal :=
  s (ix2 r d) * (∑ k : Fin 1024, y (ix2 r k) * w (ix3 0 k ⟨d.val, by omega⟩))
    * Ideal.div one (one + Ideal.exp (0 - ∑ k : Fin 1024, y (ix2 r k) * w (ix3 0 k ⟨2048 + d.val, by omega⟩)))

/-- The array the gated unit leaves. -/
def result (i : S32768x2048.Idx) : EReal :=
  glu (m ((c : Thread nD τ).loc main_arg0)) (m ((c : Thread nD τ).loc main_arg1)) (m ((c : Thread nD τ).loc main_arg2)) (i 0) (i 1)

/-- The block point `t` stores, entry by entry. -/
theorem block_eq (t : Fin cfg0.N) (p : Fin 1024) (e : Fin 512) :
    out0_4 (iblk m c 0 t) (iblk m c 1 t) (iblk m c 2 t) (iblk m c 3 t) (ix2 p e) = result m c
      (ix2 ⟨1024 * (grid0.coords t 0).val + p.val, by have := coord_lt t; omega⟩ ⟨512 * (grid0.coords t 1).val + e.val, by have := coord_lt t; omega⟩) := by
  rw [block_apply]
  simp only [y_read, s_read, a_read, b_read]
  rfl

/-- After the run the result array is the gated unit of the arguments. -/
theorem final_eq : (dats m 0 c).arrAt 4 cfg0.N = result m c := by
  refine (dats m 0 c).arrAt_eq_of_covers 4 (result m c) covers fun t hf y => ?_
  blk_simp
  rw [after0_4]
  have hy : y = ix2 (y 0) (y 1) := by
    funext a
    match a with
    | ⟨0, _⟩ => rfl
    | ⟨1, _⟩ => rfl
  refine Eq.trans ?_ ((block_eq m c t (y 0) (y 1)).trans ?_)
  · congr 1
    blk_ext
  · congr 1
    blk_ext [idx_o t]

end Cert.Kernel2Ideal.Glu
-- ==== Proof.GluRef.lean ====
module

public import proofs.«01_k».proof.Defs
public import proofs.«01_k».proof.Proof.Glu
public import proofs.«01_k».proof.Proof.Gen.Reference2Ideal.Read
public import Idealize.ShloMosaic.Lib.IdealHost

/-! The gated unit: the reference's array, and that the kernel leaves the same. -/

@[expose] public section

set_option maxRecDepth 16384

noncomputable section

open Idealize.ShloMosaic Idealize.ShloMosaic.TcCoe Idealize.SL.Sem

namespace Cert.Reference2Ideal.Glu

open Cert.Reference2Ideal Cert.Reference2Ideal.Gen Cert.Reference2Ideal.Read Cert.Kernel2Ideal.Glu

variable (x0 : S32768x1024.Idx → EReal) (x1 : S32768x2048.Idx → EReal) (x2 : S1x1024x4096.Idx → EReal)

/-- An entry of the product of the input and the weight. -/
theorem prod_ref (i : S32768x4096.Idx) :
    val_main_v2 (F := Ideal) x0 x2 i = ∑ k : Fin 1024, x0 (ix2 (i 0) k) * x2 (ix3 0 k (i 1)) := by
  have b1 : (i 1).val < 4096 := (i 1).isLt
  rw [val_main_v2_apply]
  refine Finset.sum_congr rfl fun k _ => ?_
  rw [val_main_v0_apply, val_main_v1_apply]
  have hk := k.isLt
  refine congrArg₂ (· * ·) (congrArg x0 ?_) (congrArg x2 ?_)
  · funext a
    match a with
    | ⟨0, _⟩ => rfl
    | ⟨1, _⟩ => rfl
  · funext a
    apply Fin.ext
    match a with
    | ⟨0, _⟩ => rfl
    | ⟨1, _⟩ => show (k.val * 4096 + (i 1).val) / 4096 % 1024 = k.val; omega
    | ⟨2, _⟩ => show (k.val * 4096 + (i 1).val) % 4096 = (i 1).val; omega

/-- The reference's array is the gated unit of its arguments. -/
theorem ref_eq (i : S32768x2048.Idx) : val_main_v14 (F := Ideal) x0 x1 x2 i = glu x0 x1 x2 (i 0) (i 1) := by
  rw [val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_cst_apply, val_main_cst_0_apply, prod_ref, prod_ref]
  have hi : i = ix2 (i 0) (i 1) := by
    funext a
    match a with
    | ⟨0, _⟩ => rfl
    | ⟨1, _⟩ => rfl
  unfold glu
  rw [mul_assoc, zero_sub]
  exact congrArg₂ (· * ·) (congrArg x1 hi) rfl

end Cert.Reference2Ideal.Glu

namespace Cert.Proof

/-- The reference's run changes none of its arguments and leaves no signal. -/
theorem reference2_frame : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run m ρ)

/-- Idealized gated unit and reference agree. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Glu.result m c, ?_, ?_⟩
  · exact (θ_run Cert.Kernel2Ideal.defs _ _).mono (fun r h c => ⟨(h c).1.trans (Cert.Kernel2Ideal.Glu.final_eq m c), (h c).2⟩)
      (Cert.Kernel2Ideal.Value.run_blocks m g)
  · refine (θ_run Cert.Reference2Ideal.defs _ _).mono (fun r h c => ?_) (Cert.Reference2Ideal.Value.run m' g')
    obtain ⟨e0, e1, e2⟩ := hargs c
    refine ⟨(h c).1.trans ((Cert.Reference2Ideal.Read.val_main_v14_eq _ _ _).trans ?_), (h c).2⟩
    rw [e0, e1, e2]
    exact funext fun i => Cert.Reference2Ideal.Glu.ref_eq _ _ _ i

end Cert.Proof
-- ==== Proof.Rms.lean ====
module

public import Idealize.ShloMosaic.Lib.Claim
public import Idealize.ShloMosaic.Lib.IdealHost

/-! Root-mean-square normalisation of a row of 2048 entries, and the logistic function, over the extended reals. -/

@[expose] public section

noncomputable section

namespace Cert.Rms

open Idealize.ShloMosaic

/-- Entry `d` of the normalised row, times its gain. -/
def rms (row gain : Fin 2048 → EReal) (d : Fin 2048) : EReal :=
  row d * Ideal.rsqrt (Ideal.div (∑ k, row k * row k) (Ideal.ofBits .f32 0x45000000#32) + Ideal.ofBits .f32 0x358637BD#32) * gain d

/-- The logistic function. -/
def logistic (x : EReal) : EReal :=
  Ideal.div 1 (1 + Ideal.exp (0 - x))

end Cert.Rms
-- ==== Proof.Merge.lean ====
module

public import proofs.«01_k».proof.Proof.Rms
public import proofs.«01_k».proof.Proof.Gen.Kernel3Ideal.Value
public import Idealize.ShloMosaic.Lib.Pipeline.ValueKit
public import Idealize.ShloMosaic.Lib.Pointwise
public import Idealize.ShloMosaic.Lib.Claim

/-! The two arrays the merge of the branches leaves, from its arguments. -/

@[expose] public section

set_option maxRecDepth 16384

noncomputable section

open Idealize.ShloMosaic Idealize.ShloMosaic.TcCoe Idealize.SL.Sem
open Cert.Rms

namespace Cert.Kernel3Ideal.Merge

open Cert.Kernel3Ideal Cert.Kernel3Ideal.Gen

/-- Two zero offsets. -/
theorem hz2 : (![0, 0] : Fin 2 → Nat) = fun _ => 0 := funext fun a => by fin_cases a <;> rfl

/-- An entry of the residual sum: the input plus the gated sum of both branches through the output weight. -/
def mergedRow (x : Fin 2048 → EReal) (o : Fin 1024 → EReal) (ga sb : Fin 2048 → EReal) (wa : Fin 1024 → Fin 2048 → EReal)
    (wo : Fin 2048 → Fin 2048 → EReal) (d : Fin 2048) : EReal :=
  x d + ∑ j : Fin 2048, (ga j + sb j * ∑ k : Fin 1024, o k * wa k j) * wo j d

/-- An entry of the residual sum the body computes. -/
theorem sum_apply (x0 : Vec Ideal S256x2048 .f32) (x1 : Vec Ideal S256x1024 .bf16) (x2 x3 : Vec Ideal S256x2048 .bf16) (x4 : Vec Ideal S1024x2048 .bf16)
    (x5 : Vec Ideal S2048x2048 .bf16) (x6 : Vec Ideal S1x2048 .f32) (r : Fin 256) (d : Fin 2048) :
    k0_pay1 x1 x4 x2 x3 x0 x5 (ix2 r d) = mergedRow (fun j => x0 (ix2 r j)) (fun k => x1 (ix2 r k)) (fun j => x2 (ix2 r j)) (fun j => x3 (ix2 r j))
      (fun k j => x4 (ix2 k j)) (fun j d => x5 (ix2 j d)) d := by
  pointwise [k0_pay1]
  rfl

/-- The first block stored, entry by entry, from the blocks loaded. -/
theorem block7_apply (x0 : Vec Ideal S256x2048 .f32) (x1 : Vec Ideal S256x1024 .bf16) (x2 x3 : Vec Ideal S256x2048 .bf16) (x4 : Vec Ideal S1024x2048 .bf16)
    (x5 : Vec Ideal S2048x2048 .bf16) (x6 : Vec Ideal S1x2048 .f32) (r : Fin 256) (d : Fin 2048) :
    out0_7 x0 x1 x2 x3 x4 x5 x6 (ix2 r d) = mergedRow (fun j => x0 (ix2 r j)) (fun k => x1 (ix2 r k)) (fun j => x2 (ix2 r j)) (fun j => x3 (ix2 r j))
      (fun k j => x4 (ix2 k j)) (fun j d => x5 (ix2 j d)) d := by
  have e : out0_7 x0 x1 x2 x3 x4 x5 x6 = k0_pay1 x1 x4 x2 x3 x0 x5 := by
    unfold out0_7
    rw [View.canon_unit_zero hz2, View.ld_unit_zero hz2 _ x1, View.ld_unit_zero hz2 _ x4, View.ld_unit_zero hz2 _ x2, View.ld_unit_zero hz2 _ x3, View.ld_unit_zero hz2 _ x0, View.ld_unit_zero hz2 _ x5]
  rw [e]
  exact sum_apply x0 x1 x2 x3 x4 x5 x6 r d

/-- The second block stored, entry by entry, from the blocks loaded. -/
theorem block8_apply (x0 : Vec Ideal S256x2048 .f32) (x1 : Vec Ideal S256x1024 .bf16) (x2 x3 : Vec Ideal S256x2048 .bf16) (x4 : Vec Ideal S1024x2048 .bf16)
    (x5 : Vec Ideal S2048x2048 .bf16) (x6 : Vec Ideal S1x2048 .f32) (r : Fin 256) (d : Fin 2048) :
    out0_8 x0 x1 x2 x3 x4 x5 x6 (ix2 r d) = rms (mergedRow (fun j => x0 (ix2 r j)) (fun k => x1 (ix2 r k)) (fun j => x2 (ix2 r j)) (fun j => x3 (ix2 r j))
      (fun k j => x4 (ix2 k j)) (fun j d => x5 (ix2 j d))) (fun d => x6 (ix2 0 d)) d := by
  have e : out0_8 x0 x1 x2 x3 x4 x5 x6 = k0_pay2 x1 x4 x2 x3 x0 x5 x6 := by
    unfold out0_8
    rw [View.canon_unit_zero hz2, View.ld_unit_zero hz2 _ x1, View.ld_unit_zero hz2 _ x4, View.ld_unit_zero hz2 _ x2, View.ld_unit_zero hz2 _ x3, View.ld_unit_zero hz2 _ x0, View.ld_unit_zero hz2 _ x5, View.ld_unit_zero hz2 _ x6]
  rw [e]
  rw [show mergedRow (fun j => x0 (ix2 r j)) (fun k => x1 (ix2 r k)) (fun j => x2 (ix2 r j)) (fun j => x3 (ix2 r j))
      (fun k j => x4 (ix2 k j)) (fun j d => x5 (ix2 j d)) = fun d => k0_pay1 x1 x4 x2 x3 x0 x5 (ix2 r d)
    from (funext fun d => (sum_apply x0 x1 x2 x3 x4 x5 x6 r d).symm)]
  pointwise [k0_pay2]
  rfl

variable (m : (ℓ : Loc nD τ sig) → Buf (Elt Ideal) ℓ) (c : Dev nD)

/-- The grid has 128 points. -/
theorem coord_lt (t : Fin cfg0.N) : (grid0.coords t 0).val < 128 := (grid0.coords t 0).isLt

/-- The rows a point takes of the first argument: those of its own block. -/
theorem idx_rows (t : Fin cfg0.N) : win0_0.index t = ![(grid0.coords t 0).val, 0] := by
  have h0 := coord_lt t
  unfold Pipeline.Window.index
  show cc0_transform_0 (grid0.coords t) = _
  unfold cc0_transform_0
  simp only [BitVec.toNat_ofNat]
  rw [Nat.mod_eq_of_lt (by omega)]

/-- An entry of the input's block. -/
theorem read0 (t : Fin cfg0.N) (p : Fin 256) (e : Fin 2048) :
    (iblk m c 0 t : Vec Ideal S256x2048 .f32) (ix2 p e) = m ((c : Thread nD τ).loc main_arg0)
      (ix2 ⟨256 * (grid0.coords t 0).val + p.val, by have := coord_lt t; omega⟩ e) := by
  blk_ext [iblk, V_main_arg0, show win0_0.index t = ![(grid0.coords t 0).val, 0] from idx_rows t]

/-- An entry of the attention's block. -/
theorem read1 (t : Fin cfg0.N) (p : Fin 256) (e : Fin 1024) :
    (iblk m c 1 t : Vec Ideal S256x1024 .bf16) (ix2 p e) = m ((c : Thread nD τ).loc main_arg1)
      (ix2 ⟨256 * (grid0.coords t 0).val + p.val, by have := coord_lt t; omega⟩ e) := by
  blk_ext [iblk, V_main_arg1, show win0_1.index t = ![(grid0.coords t 0).val, 0] from idx_rows t]

/-- An entry of the gated branch's block. -/
theorem read2 (t : Fin cfg0.N) (p : Fin 256) (e : Fin 2048) :
    (iblk m c 2 t : Vec Ideal S256x2048 .bf16) (ix2 p e) = m ((c : Thread nD τ).loc main_arg2)
      (ix2 ⟨256 * (grid0.coords t 0).val + p.val, by have := coord_lt t; omega⟩ e) := by
  blk_ext [iblk, V_main_arg2, show win0_2.index t = ![(grid0.coords t 0).val, 0] from idx_rows t]

/-- An entry of the other branch's gate. -/
theorem read3 (t : Fin cfg0.N) (p : Fin 256) (e : Fin 2048) :
    (iblk m c 3 t : Vec Ideal S256x2048 .bf16) (ix2 p e) = m ((c : Thread nD τ).loc main_arg3)
      (ix2 ⟨256 * (grid0.coords t 0).val + p.val, by have := coord_lt t; omega⟩ e) := by
  blk_ext [iblk, V_main_arg3, show win0_3.index t = ![(grid0.coords t 0).val, 0] from idx_rows t]

/-- An entry of the attention's output weight. -/
theorem read4 (t : Fin cfg0.N) (p : Fin 1024) (e : Fin 2048) :
    (iblk m c 4 t : Vec Ideal S1024x2048 .bf16) (ix2 p e) = m ((c : Thread nD τ).loc main_arg4) (ix3 0 p e) := by
  blk_simp [iblk]
  entry_read
  pointwise
  blk_ext [show win0_4.index t = ![0, 0] from rfl]

/-- An entry of the output weight. -/
theorem read5 (t : Fin cfg0.N) (p : Fin 2048) (e : Fin 2048) :
    (iblk m c 5 t : Vec Ideal S2048x2048 .bf16) (ix2 p e) = m ((c : Thread nD τ).loc main_arg5) (ix3 0 p e) := by
  blk_simp [iblk]
  entry_read
  pointwise
  blk_ext [show win0_5.index t = ![0, 0] from rfl]

/-- An entry of the gain. -/
theorem read6 (t : Fin cfg0.N) (e : Fin 2048) :
    (iblk m c 6 t : Vec Ideal S1x2048 .f32) (ix2 0 e) = m ((c : Thread nD τ).loc main_arg6) (ix2 0 e) := by
  blk_simp [iblk]
  entry_read
  pointwise
  blk_ext [show win0_6.index t = ![0, 0] from rfl]

/-- Row `r` of the residual sum, from whole arrays. -/
def merged (x : S32768x2048.Idx → EReal) (o : S32768x1024.Idx → EReal) (ga sb : S32768x2048.Idx → EReal) (wa : S1x1024x2048.Idx → EReal)
    (wo : S1x2048x2048.Idx → EReal) (r : Fin 32768) : Fin 2048 → EReal :=
  mergedRow (fun j => x (ix2 r j)) (fun k => o (ix2 r k)) (fun j => ga (ix2 r j)) (fun j => sb (ix2 r j))
    (fun k j => wa (ix3 0 k j)) (fun j d => wo (ix3 0 j d))

/-- The residual sum. -/
def result7 (i : S32768x2048.Idx) : EReal :=
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1)

/-- Its normalisation. -/
def result8 (i : S32768x2048.Idx) : EReal :=
  rms (merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0))
    (fun d => (m ((c : Thread nD τ).loc main_arg6) : S1x2048.Idx → EReal) (ix2 0 d)) (i 1)

/-- The blocks of the residual sum cover it. -/
theorem covers7 : (cfg0.win 7).Covers := by decide +kernel

/-- The block of the residual sum point `t` stores, entry by entry. -/
theorem block7_eq (t : Fin cfg0.N) (p : Fin 256) (e : Fin 2048) :
    out0_7 (iblk m c 0 t) (iblk m c 1 t) (iblk m c 2 t) (iblk m c 3 t) (iblk m c 4 t) (iblk m c 5 t) (iblk m c 6 t) (ix2 p e) = result7 m c
      (ix2 ⟨256 * (grid0.coords t 0).val + p.val, by have := coord_lt t; omega⟩ e) := by
  rw [block7_apply]
  unfold result7
  simp only [read0, read1, read2, read3, read4, read5, read6]
  rfl

/-- After the run the residual sum is what was named. -/
theorem final7_eq : (dats m 0 c).arrAt 7 cfg0.N = result7 m c := by
  refine (dats m 0 c).arrAt_eq_of_covers 7 (result7 m c) covers7 fun t hf y => ?_
  blk_simp
  rw [after0_7]
  have hy : y = ix2 (y 0) (y 1) := by
    funext a
    match a with
    | ⟨0, _⟩ => rfl
    | ⟨1, _⟩ => rfl
  refine Eq.trans ?_ ((block7_eq m c t (y 0) (y 1)).trans ?_)
  · congr 1
    blk_ext
  · congr 1
    blk_ext [show win0_7.index t = ![(grid0.coords t 0).val, 0] from idx_rows t]

/-- The blocks of the normalised sum cover it. -/
theorem covers8 : (cfg0.win 8).Covers := by decide +kernel

/-- The block of the normalised sum point `t` stores, entry by entry. -/
theorem block8_eq (t : Fin cfg0.N) (p : Fin 256) (e : Fin 2048) :
    out0_8 (iblk m c 0 t) (iblk m c 1 t) (iblk m c 2 t) (iblk m c 3 t) (iblk m c 4 t) (iblk m c 5 t) (iblk m c 6 t) (ix2 p e) = result8 m c
      (ix2 ⟨256 * (grid0.coords t 0).val + p.val, by have := coord_lt t; omega⟩ e) := by
  rw [block8_apply]
  unfold result8
  simp only [read0, read1, read2, read3, read4, read5, read6]
  rfl

/-- After the run the normalised sum is what was named. -/
theorem final8_eq : (dats m 0 c).arrAt 8 cfg0.N = result8 m c := by
  refine (dats m 0 c).arrAt_eq_of_covers 8 (result8 m c) covers8 fun t hf y => ?_
  blk_simp
  rw [after0_8]
  have hy : y = ix2 (y 0) (y 1) := by
    funext a
    match a with
    | ⟨0, _⟩ => rfl
    | ⟨1, _⟩ => rfl
  refine Eq.trans ?_ ((block8_eq m c t (y 0) (y 1)).trans ?_)
  · congr 1
    blk_ext
  · congr 1
    blk_ext [show win0_8.index t = ![(grid0.coords t 0).val, 0] from idx_rows t]

end Cert.Kernel3Ideal.Merge
-- ==== Proof.MergeRef.lean ====
module

public import proofs.«01_k».proof.Defs
public import proofs.«01_k».proof.Proof.Merge
public import proofs.«01_k».proof.Proof.Gen.Reference3Ideal.Read
public import Idealize.ShloMosaic.Lib.IdealHost

/-! The merge of the branches: the reference's arrays, and that the kernel leaves the same. -/

@[expose] public section

set_option maxRecDepth 16384

noncomputable section

open Idealize.ShloMosaic Idealize.ShloMosaic.TcCoe Idealize.SL.Sem

namespace Cert.Reference3Ideal.Merge

open Cert.Reference3Ideal Cert.Reference3Ideal.Gen Cert.Reference3Ideal.Read Cert.Kernel3Ideal.Merge Cert.Rms

/-- An index of a matrix from its coordinates. -/
theorem ix2_eta {n0 n1 : ℕ} (i : (⟨2, ![n0, n1]⟩ : Shape).Idx) : i = ix2 (i 0) (i 1) := by
  funext a
  match a with
  | ⟨0, _⟩ => rfl
  | ⟨1, _⟩ => rfl

variable (x0 : S32768x2048.Idx → EReal) (x1 : S32768x1024.Idx → EReal) (x2 x3 : S32768x2048.Idx → EReal) (x4 : S1x1024x2048.Idx → EReal)
  (x5 : S1x2048x2048.Idx → EReal) (x6 : S1x2048.Idx → EReal)

/-- An entry of the attention's output weight. -/
theorem weight1 (k : Fin 1024) (d : Fin 2048) : val_main_v1 (F := Ideal) x4 (ix2 k d) = x4 (ix3 0 k d) := by
  rw [val_main_v1_apply]
  have hk := k.isLt
  have hd := d.isLt
  refine congrArg x4 ?_
  funext a
  apply Fin.ext
  match a with
  | ⟨0, _⟩ => rfl
  | ⟨1, _⟩ => show (k.val * 2048 + d.val) / 2048 % 1024 = k.val; omega
  | ⟨2, _⟩ => show (k.val * 2048 + d.val) % 2048 = d.val; omega

/-- An entry of the output weight. -/
theorem weight7 (k : Fin 2048) (d : Fin 2048) : val_main_v7 (F := Ideal) x5 (ix2 k d) = x5 (ix3 0 k d) := by
  rw [val_main_v7_apply]
  have hk := k.isLt
  have hd := d.isLt
  refine congrArg x5 ?_
  funext a
  apply Fin.ext
  match a with
  | ⟨0, _⟩ => rfl
  | ⟨1, _⟩ => show (k.val * 2048 + d.val) / 2048 % 2048 = k.val; omega
  | ⟨2, _⟩ => show (k.val * 2048 + d.val) % 2048 = d.val; omega

/-- An entry of the attention's branch. -/
theorem branch_ref (r : Fin 32768) (d : Fin 2048) :
    val_main_v2 (F := Ideal) x1 x4 (ix2 r d) = ∑ k : Fin 1024, x1 (ix2 r k) * x4 (ix3 0 k d) := by
  rw [val_main_v2_apply]
  refine Finset.sum_congr rfl fun k _ => ?_
  rw [val_main_v0_apply]
  exact congrArg₂ (· * ·) (congrArg x1 (ix2_eta (lidx_main_v2 (ix2 r d) k)))
    ((congrArg (val_main_v1 (F := Ideal) x4) (ix2_eta (ridx_main_v2 (ix2 r d) k))).trans (weight1 x4 k d))

/-- An entry of the residual sum. -/
theorem sum_ref (r : Fin 32768) (d : Fin 2048) :
    val_main_v9 (F := Ideal) x0 x1 x2 x3 x4 x5 (ix2 r d) = merged x0 x1 x2 x3 x4 x5 r d := by
  rw [val_main_v9_apply, val_main_v8_apply]
  refine congrArg (x0 (ix2 r d) + ·) (Finset.sum_congr rfl fun j _ => ?_)
  refine congrArg₂ (· * ·) ((congrArg (val_main_v6 (F := Ideal) x1 x2 x3 x4) (ix2_eta (lidx_main_v8 (ix2 r d) j))).trans ?_)
    ((congrArg (val_main_v7 (F := Ideal) x5) (ix2_eta (ridx_main_v8 (ix2 r d) j))).trans (weight7 x5 j d))
  show val_main_v6 (F := Ideal) x1 x2 x3 x4 (ix2 r j) = _
  rw [val_main_v6_apply, val_main_v5_apply, val_main_v3_apply, val_main_v4_apply, branch_ref]
  rfl

/-- An entry of the gain. -/
theorem gain_ref (r : Fin 32768) (d : Fin 2048) : val_main_v22 (F := Ideal) x6 (ix2 r d) = x6 (ix2 0 d) := by
  rw [val_main_v22_apply, val_main_v21_apply, val_main_v20_apply]
  have hd := d.isLt
  refine congrArg x6 ?_
  funext a
  apply Fin.ext
  match a with
  | ⟨0, _⟩ => rfl
  | ⟨1, _⟩ => show d.val % 2048 = d.val; omega

/-- An entry of the normalised sum. -/
theorem norm_ref (r : Fin 32768) (d : Fin 2048) :
    val_main_v24 (F := Ideal) x0 x1 x2 x3 x4 x5 x6 (ix2 r d) = rms (merged x0 x1 x2 x3 x4 x5 r) (fun d => x6 (ix2 0 d)) d := by
  rw [val_main_v24_apply, val_main_v23_apply, gain_ref, val_main_v19_apply, sum_ref, val_main_v18_apply, val_main_v17_apply, val_main_v16_apply,
    val_main_v15_apply, val_main_v14_apply, val_main_v13_apply, val_main_v12_apply, val_main_v11_apply]
  rw [show (val_main_cst (F := Ideal)) (Shape.Idx.first h_S_) = (0 : EReal) from Ideal.ofBits_zero_f32, zero_add]
  have e : ∀ k : Fin 2048, val_main_v10 (F := Ideal) x0 x1 x2 x3 x4 x5 (idx_main_v11 (idx_main_v12 (idx_main_v18 (ix2 r d))) k) =
      merged x0 x1 x2 x3 x4 x5 r k * merged x0 x1 x2 x3 x4 x5 r k := fun k => by
    refine (congrArg (val_main_v10 (F := Ideal) x0 x1 x2 x3 x4 x5) (ix2_eta _)).trans ?_
    show val_main_v10 (F := Ideal) x0 x1 x2 x3 x4 x5 (ix2 r k) = _
    rw [val_main_v10_apply, sum_ref]
    rfl
  rw [Finset.sum_congr rfl fun k _ => e k]
  rfl

end Cert.Reference3Ideal.Merge

namespace Cert.Proof

/-- The reference's run changes none of its arguments and leaves no signal. -/
theorem reference3_frame : Cert.quiescent_Reference3Ideal (hReference3Ideal := Cert.Reference3Ideal.Gen.facts) :=
  fun m ρ _ => (θ_run Cert.Reference3Ideal.defs _ _).mono
    (fun r h => ⟨fun c => (h c).2.2, sem_eq_zero_of_no_sems (by decide) r.2⟩) (Cert.Reference3Ideal.Value.run m ρ)

/-- Idealized merge and reference agree. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Merge.result7 m c, fun c => Cert.Kernel3Ideal.Merge.result8 m c, ?_, ?_⟩
  · exact (θ_run Cert.Kernel3Ideal.defs _ _).mono (fun r h c => ⟨(h c).1.trans (Cert.Kernel3Ideal.Merge.final7_eq m c),
      (h c).2.1.trans (Cert.Kernel3Ideal.Merge.final8_eq m c), (h c).2.2⟩) (Cert.Kernel3Ideal.Value.run_blocks m g)
  · refine (θ_run Cert.Reference3Ideal.defs _ _).mono (fun r h c => ?_) (Cert.Reference3Ideal.Value.run m' g')
    obtain ⟨e0, e1, e2, e3, e4, e5, e6⟩ := hargs c
    refine ⟨(h c).1.trans ((Cert.Reference3Ideal.Read.val_main_v9_eq _ _ _ _ _ _).trans ?_),
      (h c).2.1.trans ((Cert.Reference3Ideal.Read.val_main_v24_eq _ _ _ _ _ _ _).trans ?_), (h c).2.2⟩
    · rw [e0, e1, e2, e3, e4, e5]
      refine funext fun i => ?_
      refine (congrArg _ (Cert.Reference3Ideal.Merge.ix2_eta i)).trans ?_
      exact Cert.Reference3Ideal.Merge.sum_ref _ _ _ _ _ _ (i 0) (i 1)
    · rw [e0, e1, e2, e3, e4, e5, e6]
      refine funext fun i => ?_
      refine (congrArg _ (Cert.Reference3Ideal.Merge.ix2_eta i)).trans ?_
      exact Cert.Reference3Ideal.Merge.norm_ref _ _ _ _ _ _ _ (i 0) (i 1)

end Cert.Proof
-- ==== Proof.Ple.lean ====
module

public import proofs.«01_k».proof.Proof.Rms
public import proofs.«01_k».proof.Proof.Gen.Kernel4Ideal.Value
public import Idealize.ShloMosaic.Lib.Pipeline.ValueKit
public import Idealize.ShloMosaic.Lib.Pointwise
public import Idealize.ShloMosaic.Lib.Claim

/-! The array the per-layer embedding and the last normalisation leave, from their arguments. -/

@[expose] public section

set_option maxRecDepth 16384

noncomputable section

open Idealize.ShloMosaic Idealize.ShloMosaic.TcCoe Idealize.SL.Sem
open Cert.Rms

namespace Cert.Kernel4Ideal.Ple

open Cert.Kernel4Ideal Cert.Kernel4Ideal.Gen

/-- Two zero offsets. -/
theorem hz2 : (![0, 0] : Fin 2 → Nat) = fun _ => 0 := funext fun a => by fin_cases a <;> rfl

/-- A row after the per-layer embedding: the row, plus the embedding's projection times the logistic of the normalised row through the gate's weight. -/
def pleRow (x po : Fin 2048 → EReal) (p : Fin 256 → EReal) (wg : Fin 2048 → Fin 2048 → EReal) (wp : Fin 256 → Fin 2048 → EReal)
    (gp : Fin 2048 → EReal) (d : Fin 2048) : EReal :=
  (x d + po d) + (∑ k : Fin 256, p k * wp k d) * logistic (∑ j : Fin 2048, rms (fun j => x j + po j) gp j * wg j d)

/-- An entry before the last normalisation. -/
theorem before_apply (x0 : Vec Ideal S256x2048 .f32) (x1 : Vec Ideal S256x2048 .bf16) (x2 : Vec Ideal S256x256 .f32) (x3 : Vec Ideal S2048x2048 .bf16)
    (x4 : Vec Ideal S256x2048 .bf16) (x5 x6 : Vec Ideal S1x2048 .f32) (r : Fin 256) (d : Fin 2048) :
    k0_pay2 x0 x1 x5 x3 x2 x4 (ix2 r d) = pleRow (fun j => x0 (ix2 r j)) (fun j => x1 (ix2 r j)) (fun k => x2 (ix2 r k)) (fun j d => x3 (ix2 j d))
      (fun k d => x4 (ix2 k d)) (fun d => x5 (ix2 0 d)) d := by
  pointwise [k0_pay2]
  rfl

/-- The last normalisation of a block. -/
theorem last_apply (y : FVec Ideal S256x2048 .f32) (x6 : Vec Ideal S1x2048 .f32) (r : Fin 256) (d : Fin 2048) :
    k0_pay1 y x6 (ix2 r d) = rms (fun d => y (ix2 r d)) (fun d => x6 (ix2 0 d)) d := by
  pointwise [k0_pay1]
  rfl

/-- The block stored, entry by entry, from the blocks loaded. -/
theorem block7_apply (x0 : Vec Ideal S256x2048 .f32) (x1 : Vec Ideal S256x2048 .bf16) (x2 : Vec Ideal S256x256 .f32) (x3 : Vec Ideal S2048x2048 .bf16)
    (x4 : Vec Ideal S256x2048 .bf16) (x5 x6 : Vec Ideal S1x2048 .f32) (r : Fin 256) (d : Fin 2048) :
    out0_7 x0 x1 x2 x3 x4 x5 x6 (ix2 r d) = rms (pleRow (fun j => x0 (ix2 r j)) (fun j => x1 (ix2 r j)) (fun k => x2 (ix2 r k)) (fun j d => x3 (ix2 j d))
      (fun k d => x4 (ix2 k d)) (fun d => x5 (ix2 0 d))) (fun d => x6 (ix2 0 d)) d := by
  have e : out0_7 x0 x1 x2 x3 x4 x5 x6 = k0_pay1 (k0_pay2 x0 x1 x5 x3 x2 x4) x6 := by
    unfold out0_7
    rw [View.canon_unit_zero hz2, View.ld_unit_zero hz2 _ x0, View.ld_unit_zero hz2 _ x1, View.ld_unit_zero hz2 _ x5, View.ld_unit_zero hz2 _ x3, View.ld_unit_zero hz2 _ x2, View.ld_unit_zero hz2 _ x4, View.ld_unit_zero hz2 _ x6]
  rw [e]
  rw [last_apply]
  exact congrArg (fun f => rms f (fun d => x6 (ix2 0 d)) d) (funext fun d => before_apply x0 x1 x2 x3 x4 x5 x6 r d)

variable (m : (ℓ : Loc nD τ sig) → Buf (Elt Ideal) ℓ) (c : Dev nD)

/-- The grid has 128 points. -/
theorem coord_lt (t : Fin cfg0.N) : (grid0.coords t 0).val < 128 := (grid0.coords t 0).isLt

/-- The rows a point takes of the first argument: those of its own block. -/
theorem idx_rows (t : Fin cfg0.N) : win0_0.index t = ![(grid0.coords t 0).val, 0] := by
  have h0 := coord_lt t
  unfold Pipeline.Window.index
  show cc0_transform_0 (grid0.coords t) = _
  unfold cc0_transform_0
  simp only [BitVec.toNat_ofNat]
  rw [Nat.mod_eq_of_lt (by omega)]

/-- An entry of the input's block. -/
theorem read0 (t : Fin cfg0.N) (p : Fin 256) (e : Fin 2048) :
    (iblk m c 0 t : Vec Ideal S256x2048 .f32) (ix2 p e) = m ((c : Thread nD τ).loc main_arg0)
      (ix2 ⟨256 * (grid0.coords t 0).val + p.val, by have := coord_lt t; omega⟩ e) := by
  blk_ext [iblk, V_main_arg0, show win0_0.index t = ![(grid0.coords t 0).val, 0] from idx_rows t]

/-- An entry of the block of the experts' sum. -/
theorem read1 (t : Fin cfg0.N) (p : Fin 256) (e : Fin 2048) :
    (iblk m c 1 t : Vec Ideal S256x2048 .bf16) (ix2 p e) = m ((c : Thread nD τ).loc main_arg1)
      (ix2 ⟨256 * (grid0.coords t 0).val + p.val, by have := coord_lt t; omega⟩ e) := by
  blk_ext [iblk, V_main_arg1, show win0_1.index t = ![(grid0.coords t 0).val, 0] from idx_rows t]

/-- An entry of the block of embeddings. -/
theorem read2 (t : Fin cfg0.N) (p : Fin 256) (e : Fin 256) :
    (iblk m c 2 t : Vec Ideal S256x256 .f32) (ix2 p e) = m ((c : Thread nD τ).loc main_arg2)
      (ix2 ⟨256 * (grid0.coords t 0).val + p.val, by have := coord_lt t; omega⟩ e) := by
  blk_ext [iblk, V_main_arg2, show win0_2.index t = ![(grid0.coords t 0).val, 0] from idx_rows t]

/-- An entry of the gate's weight. -/
theorem read3 (t : Fin cfg0.N) (p : Fin 2048) (e : Fin 2048) :
    (iblk m c 3 t : Vec Ideal S2048x2048 .bf16) (ix2 p e) = m ((c : Thread nD τ).loc main_arg3) (ix3 0 p e) := by
  blk_simp [iblk]
  entry_read
  pointwise
  blk_ext [show win0_3.index t = ![0, 0] from rfl]

/-- An entry of the projection's weight. -/
theorem read4 (t : Fin cfg0.N) (p : Fin 256) (e : Fin 2048) :
    (iblk m c 4 t : Vec Ideal S256x2048 .bf16) (ix2 p e) = m ((c : Thread nD τ).loc main_arg4) (ix3 0 p e) := by
  blk_simp [iblk]
  entry_read
  pointwise
  blk_ext [show win0_4.index t = ![0, 0] from rfl]

/-- An entry of the first gain. -/
theorem read5 (t : Fin cfg0.N) (e : Fin 2048) :
    (iblk m c 5 t : Vec Ideal S1x2048 .f32) (ix2 0 e) = m ((c : Thread nD τ).loc main_arg5) (ix2 0 e) := by
  blk_simp [iblk]
  entry_read
  pointwise
  blk_ext [show win0_5.index t = ![0, 0] from rfl]

/-- An entry of the last gain. -/
theorem read6 (t : Fin cfg0.N) (e : Fin 2048) :
    (iblk m c 6 t : Vec Ideal S1x2048 .f32) (ix2 0 e) = m ((c : Thread nD τ).loc main_arg6) (ix1 e) := by
  blk_simp [iblk]
  entry_read
  pointwise
  blk_ext [show win0_6.index t = ![0, 0] from rfl]

/-- Row `r` after the per-layer embedding, from whole arrays. -/
def ple (x po : S32768x2048.Idx → EReal) (p : S32768x256.Idx → EReal) (wg : S1x2048x2048.Idx → EReal) (wp : S1x256x2048.Idx → EReal)
    (gp : S1x2048.Idx → EReal) (r : Fin 32768) : Fin 2048 → EReal :=
  pleRow (fun j => x (ix2 r j)) (fun j => po (ix2 r j)) (fun k => p (ix2 r k)) (fun j d => wg (ix3 0 j d)) (fun k d => wp (ix3 0 k d))
    (fun d => gp (ix2 0 d))

/-- The array left. -/
def result7 (i : S32768x2048.Idx) : EReal :=
  rms (ple (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0))
    (fun d => (m ((c : Thread nD τ).loc main_arg6) : S2048.Idx → EReal) (ix1 d)) (i 1)

/-- The blocks of the result cover it. -/
theorem covers7 : (cfg0.win 7).Covers := by decide +kernel

/-- The block of the result point `t` stores, entry by entry. -/
theorem block7_eq (t : Fin cfg0.N) (p : Fin 256) (e : Fin 2048) :
    out0_7 (iblk m c 0 t) (iblk m c 1 t) (iblk m c 2 t) (iblk m c 3 t) (iblk m c 4 t) (iblk m c 5 t) (iblk m c 6 t) (ix2 p e) = result7 m c
      (ix2 ⟨256 * (grid0.coords t 0).val + p.val, by have := coord_lt t; omega⟩ e) := by
  rw [block7_apply]
  unfold result7
  simp only [read0, read1, read2, read3, read4, read5, read6]
  rfl

/-- After the run the result is what was named. -/
theorem final7_eq : (dats m 0 c).arrAt 7 cfg0.N = result7 m c := by
  refine (dats m 0 c).arrAt_eq_of_covers 7 (result7 m c) covers7 fun t hf y => ?_
  blk_simp
  rw [after0_7]
  have hy : y = ix2 (y 0) (y 1) := by
    funext a
    match a with
    | ⟨0, _⟩ => rfl
    | ⟨1, _⟩ => rfl
  refine Eq.trans ?_ ((block7_eq m c t (y 0) (y 1)).trans ?_)
  · congr 1
    blk_ext
  · congr 1
    blk_ext [show win0_7.index t = ![(grid0.coords t 0).val, 0] from idx_rows t]

end Cert.Kernel4Ideal.Ple
-- ==== Proof.PleRef.lean ====
module

public import proofs.«01_k».proof.Defs
public import proofs.«01_k».proof.Proof.Ple
public import proofs.«01_k».proof.Proof.Gen.Reference4Ideal.Read
public import Idealize.ShloMosaic.Lib.IdealHost

/-! The per-layer embedding and the last normalisation: the reference's array, and that the kernel leaves the same. -/

@[expose] public section

set_option maxRecDepth 16384

noncomputable section

open Idealize.ShloMosaic Idealize.ShloMosaic.TcCoe Idealize.SL.Sem

namespace Cert.Reference4Ideal.Ple

open Cert.Reference4Ideal Cert.Reference4Ideal.Gen Cert.Reference4Ideal.Read Cert.Kernel4Ideal.Ple Cert.Rms

/-- An index of a matrix from its coordinates. -/
theorem ix2_eta {n0 n1 : ℕ} (i : (⟨2, ![n0, n1]⟩ : Shape).Idx) : i = ix2 (i 0) (i 1) := by
  funext a
  match a with
  | ⟨0, _⟩ => rfl
  | ⟨1, _⟩ => rfl

variable (x0 x1 : S32768x2048.Idx → EReal) (x2 : S32768x256.Idx → EReal) (x3 : S1x2048x2048.Idx → EReal) (x4 : S1x256x2048.Idx → EReal)
  (x5 : S1x2048.Idx → EReal) (x6 : S2048.Idx → EReal)

/-- An entry of the gate's weight. -/
theorem weight16 (k : Fin 2048) (d : Fin 2048) : val_main_v16 (F := Ideal) x3 (ix2 k d) = x3 (ix3 0 k d) := by
  rw [val_main_v16_apply]
  have hk := k.isLt
  have hd := d.isLt
  refine congrArg x3 ?_
  funext a
  apply Fin.ext
  match a with
  | ⟨0, _⟩ => rfl
  | ⟨1, _⟩ => show (k.val * 2048 + d.val) / 2048 % 2048 = k.val; omega
  | ⟨2, _⟩ => show (k.val * 2048 + d.val) % 2048 = d.val; omega

/-- An entry of the projection's weight. -/
theorem weight24 (k : Fin 256) (d : Fin 2048) : val_main_v24 (F := Ideal) x4 (ix2 k d) = x4 (ix3 0 k d) := by
  rw [val_main_v24_apply]
  have hk := k.isLt
  have hd := d.isLt
  refine congrArg x4 ?_
  funext a
  apply Fin.ext
  match a with
  | ⟨0, _⟩ => rfl
  | ⟨1, _⟩ => show (k.val * 2048 + d.val) / 2048 % 256 = k.val; omega
  | ⟨2, _⟩ => show (k.val * 2048 + d.val) % 2048 = d.val; omega

/-- An entry of the residual sum. -/
theorem sum_ref (r : Fin 32768) (d : Fin 2048) : val_main_v1 (F := Ideal) x0 x1 (ix2 r d) = x0 (ix2 r d) + x1 (ix2 r d) := rfl

/-- An entry of the first gain. -/
theorem gain_ref (r : Fin 32768) (d : Fin 2048) : val_main_v14 (F := Ideal) x5 (ix2 r d) = x5 (ix2 0 d) := by
  rw [val_main_v14_apply, val_main_v13_apply, val_main_v2_apply]
  have hd := d.isLt
  refine congrArg x5 ?_
  funext a
  apply Fin.ext
  match a with
  | ⟨0, _⟩ => rfl
  | ⟨1, _⟩ => show d.val % 2048 = d.val; omega

/-- An entry of the last gain. -/
theorem last_gain_ref (r : Fin 32768) (d : Fin 2048) : val_main_v39 (F := Ideal) x6 (ix2 r d) = x6 (ix1 d) := by
  rw [val_main_v39_apply, val_main_v38_apply]
  refine congrArg x6 ?_
  funext a
  match a with
  | ⟨0, _⟩ => rfl

/-- An entry of the first normalisation. -/
theorem first_ref (r : Fin 32768) (d : Fin 2048) :
    val_main_v15 (F := Ideal) x0 x1 x5 (ix2 r d) = rms (fun j => x0 (ix2 r j) + x1 (ix2 r j)) (fun d => x5 (ix2 0 d)) d := by
  rw [val_main_v15_apply, gain_ref, val_main_v12_apply, sum_ref, val_main_v11_apply, val_main_v10_apply, val_main_v9_apply, val_main_v8_apply,
    val_main_v7_apply, val_main_v6_apply, val_main_v5_apply, val_main_v4_apply]
  rw [show (val_main_cst (F := Ideal)) (Shape.Idx.first h_S_) = (0 : EReal) from Ideal.ofBits_zero_f32, zero_add]
  have e : ∀ k : Fin 2048, val_main_v3 (F := Ideal) x0 x1 (idx_main_v4 (idx_main_v5 (idx_main_v11 (ix2 r d))) k) = (fun j => x0 (ix2 r j) + x1 (ix2 r j)) k * (fun j => x0 (ix2 r j) + x1 (ix2 r j)) k := fun k => by
    refine (congrArg (val_main_v3 (F := Ideal) x0 x1) (ix2_eta _)).trans ?_
    show val_main_v3 (F := Ideal) x0 x1 (ix2 r k) = _
    rw [val_main_v3_apply, sum_ref]
    rfl
  rw [Finset.sum_congr rfl fun k _ => e k]
  rfl

/-- An entry of the gate. -/
theorem gate_ref (r : Fin 32768) (d : Fin 2048) : val_main_v23 (F := Ideal) x0 x1 x3 x5 (ix2 r d) =
    logistic (∑ j : Fin 2048, rms (fun j => x0 (ix2 r j) + x1 (ix2 r j)) (fun d => x5 (ix2 0 d)) j * x3 (ix3 0 j d)) := by
  have e : val_main_v17 (F := Ideal) x0 x1 x3 x5 (ix2 r d) =
      ∑ j : Fin 2048, rms (fun j => x0 (ix2 r j) + x1 (ix2 r j)) (fun d => x5 (ix2 0 d)) j * x3 (ix3 0 j d) := by
    rw [val_main_v17_apply]
    refine Finset.sum_congr rfl fun j _ => ?_
    exact congrArg₂ (· * ·) ((congrArg (val_main_v15 (F := Ideal) x0 x1 x5) (ix2_eta (lidx_main_v17 (ix2 r d) j))).trans (first_ref x0 x1 x5 r j))
      ((congrArg (val_main_v16 (F := Ideal) x3) (ix2_eta (ridx_main_v17 (ix2 r d) j))).trans (weight16 x3 j d))
  rw [val_main_v23_apply, val_main_v22_apply, val_main_v21_apply, val_main_v20_apply, val_main_v19_apply, val_main_v18_apply,
    val_main_cst_2_apply, val_main_cst_3_apply, e]
  unfold Cert.Rms.logistic
  rw [zero_sub, ← Ideal.ofBits_one_f32]
  rfl

/-- An entry of the embedding's projection. -/
theorem proj_ref (r : Fin 32768) (d : Fin 2048) :
    val_main_v25 (F := Ideal) x2 x4 (ix2 r d) = ∑ k : Fin 256, x2 (ix2 r k) * x4 (ix3 0 k d) := by
  rw [val_main_v25_apply]
  refine Finset.sum_congr rfl fun k _ => ?_
  exact congrArg₂ (· * ·) (congrArg x2 (ix2_eta (lidx_main_v25 (ix2 r d) k)))
    ((congrArg (val_main_v24 (F := Ideal) x4) (ix2_eta (ridx_main_v25 (ix2 r d) k))).trans (weight24 x4 k d))

/-- An entry before the last normalisation. -/
theorem before_ref (r : Fin 32768) (d : Fin 2048) :
    val_main_v27 (F := Ideal) x0 x1 x2 x3 x4 x5 (ix2 r d) = ple x0 x1 x2 x3 x4 x5 r d := by
  rw [val_main_v27_apply, val_main_v26_apply, sum_ref, proj_ref, gate_ref]
  rfl

/-- An entry of the last normalisation. -/
theorem last_ref (r : Fin 32768) (d : Fin 2048) :
    val_main_v40 (F := Ideal) x0 x1 x2 x3 x4 x5 x6 (ix2 r d) = rms (ple x0 x1 x2 x3 x4 x5 r) (fun d => x6 (ix1 d)) d := by
  rw [val_main_v40_apply, last_gain_ref, val_main_v37_apply, before_ref, val_main_v36_apply, val_main_v35_apply, val_main_v34_apply, val_main_v33_apply,
    val_main_v32_apply, val_main_v31_apply, val_main_v30_apply, val_main_v29_apply]
  rw [show (val_main_cst_4 (F := Ideal)) (Shape.Idx.first h_S_) = (0 : EReal) from Ideal.ofBits_zero_f32, zero_add]
  have e : ∀ k : Fin 2048, val_main_v28 (F := Ideal) x0 x1 x2 x3 x4 x5 (idx_main_v29 (idx_main_v30 (idx_main_v36 (ix2 r d))) k) = (ple x0 x1 x2 x3 x4 x5 r) k * (ple x0 x1 x2 x3 x4 x5 r) k := fun k => by
    refine (congrArg (val_main_v28 (F := Ideal) x0 x1 x2 x3 x4 x5) (ix2_eta _)).trans ?_
    show val_main_v28 (F := Ideal) x0 x1 x2 x3 x4 x5 (ix2 r k) = _
    rw [val_main_v28_apply, before_ref]
    rfl
  rw [Finset.sum_congr rfl fun k _ => e k]
  rfl

end Cert.Reference4Ideal.Ple

namespace Cert.Proof

/-- The reference's run changes none of its arguments and leaves no signal. -/
theorem reference4_frame : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run m ρ)

/-- The reference's result is the array the kernel leaves. -/
theorem ref4_result (m : (ℓ : Loc Cert.Kernel4Ideal.nD Cert.Kernel4Ideal.τ Cert.Kernel4Ideal.sig) → Buf (Elt Ideal) ℓ) (c : Dev Cert.Kernel4Ideal.nD)
    (x0 x1 : Cert.Kernel4Ideal.S32768x2048.Idx → EReal) (x2 : Cert.Kernel4Ideal.S32768x256.Idx → EReal) (x3 : Cert.Kernel4Ideal.S1x2048x2048.Idx → EReal)
    (x4 : Cert.Kernel4Ideal.S1x256x2048.Idx → EReal) (x5 : Cert.Kernel4Ideal.S1x2048.Idx → EReal) (x6 : Cert.Kernel4Ideal.S2048.Idx → EReal)
    (e0 : m ((c.tc : Thread Cert.Kernel4Ideal.nD Cert.Kernel4Ideal.τ).loc Cert.Kernel4Ideal.main_arg0) = x0)
    (e1 : m ((c.tc : Thread Cert.Kernel4Ideal.nD Cert.Kernel4Ideal.τ).loc Cert.Kernel4Ideal.main_arg1) = x1)
    (e2 : m ((c.tc : Thread Cert.Kernel4Ideal.nD Cert.Kernel4Ideal.τ).loc Cert.Kernel4Ideal.main_arg2) = x2)
    (e3 : m ((c.tc : Thread Cert.Kernel4Ideal.nD Cert.Kernel4Ideal.τ).loc Cert.Kernel4Ideal.main_arg3) = x3)
    (e4 : m ((c.tc : Thread Cert.Kernel4Ideal.nD Cert.Kernel4Ideal.τ).loc Cert.Kernel4Ideal.main_arg4) = x4)
    (e5 : m ((c.tc : Thread Cert.Kernel4Ideal.nD Cert.Kernel4Ideal.τ).loc Cert.Kernel4Ideal.main_arg5) = x5)
    (e6 : m ((c.tc : Thread Cert.Kernel4Ideal.nD Cert.Kernel4Ideal.τ).loc Cert.Kernel4Ideal.main_arg6) = x6) :
    Cert.Reference4Ideal.Read.val_main_v40 (F := Ideal) x0 x1 x2 x3 x4 x5 x6 = Cert.Kernel4Ideal.Ple.result7 m c := by
  subst e0 e1 e2 e3 e4 e5 e6
  refine funext fun i => (congrArg _ (Cert.Reference4Ideal.Ple.ix2_eta i)).trans ?_
  exact Cert.Reference4Ideal.Ple.last_ref _ _ _ _ _ _ _ (i 0) (i 1)

/-- Idealized per-layer embedding and reference agree. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Ple.result7 m c, ?_, ?_⟩
  · exact (θ_run Cert.Kernel4Ideal.defs _ _).mono (fun r h c => ⟨(h c).1.trans (Cert.Kernel4Ideal.Ple.final7_eq m c), (h c).2⟩)
      (Cert.Kernel4Ideal.Value.run_blocks m g)
  · refine (θ_run Cert.Reference4Ideal.defs _ _).mono (fun r h c => ?_) (Cert.Reference4Ideal.Value.run m' g')
    obtain ⟨e0, e1, e2, e3, e4, e5, e6⟩ := hargs c
    refine ⟨(h c).1.trans ((Cert.Reference4Ideal.Read.val_main_v40_eq m' c).trans ?_), (h c).2⟩
    rw [e0, e1, e2, e3, e4, e5, e6]
    exact ref4_result m c _ _ _ _ _ _ _ rfl rfl rfl rfl rfl rfl rfl

end Cert.Proof
-- ==== Proof.PleS.lean ====
module

public import proofs.«01_k».proof.Proof.Rms
public import proofs.«01_k».proof.Proof.Gen.Kernel6Ideal.Value
public import Idealize.ShloMosaic.Lib.Pipeline.ValueKit
public import Idealize.ShloMosaic.Lib.Pointwise
public import Idealize.ShloMosaic.Lib.Claim

/-! The array the per-layer embedding and the last normalisation leave for the second group of requests, from their arguments. -/

@[expose] public section

set_option maxRecDepth 16384

noncomputable section

open Idealize.ShloMosaic Idealize.ShloMosaic.TcCoe Idealize.SL.Sem
open Cert.Rms

namespace Cert.Kernel6Ideal.Ple

open Cert.Kernel6Ideal Cert.Kernel6Ideal.Gen

/-- Two zero offsets. -/
theorem hz2 : (![0, 0] : Fin 2 → Nat) = fun _ => 0 := funext fun a => by fin_cases a <;> rfl

/-- A row after the per-layer embedding: the row, plus the embedding's projection times the logistic of the normalised row through the gate's weight. -/
def pleRow (x po : Fin 2048 → EReal) (p : Fin 256 → EReal) (wg : Fin 2048 → Fin 2048 → EReal) (wp : Fin 256 → Fin 2048 → EReal)
    (gp : Fin 2048 → EReal) (d : Fin 2048) : EReal :=
  (x d + po d) + (∑ k : Fin 256, p k * wp k d) * logistic (∑ j : Fin 2048, rms (fun j => x j + po j) gp j * wg j d)

/-- An entry before the last normalisation. -/
theorem before_apply (x0 : Vec Ideal S256x2048 .f32) (x1 : Vec Ideal S256x2048 .bf16) (x2 : Vec Ideal S256x256 .f32) (x3 : Vec Ideal S2048x2048 .bf16)
    (x4 : Vec Ideal S256x2048 .bf16) (x5 x6 : Vec Ideal S1x2048 .f32) (r : Fin 256) (d : Fin 2048) :
    k0_pay2 x0 x1 x5 x3 x2 x4 (ix2 r d) = pleRow (fun j => x0 (ix2 r j)) (fun j => x1 (ix2 r j)) (fun k => x2 (ix2 r k)) (fun j d => x3 (ix2 j d))
      (fun k d => x4 (ix2 k d)) (fun d => x5 (ix2 0 d)) d := by
  pointwise [k0_pay2]
  rfl

/-- The last normalisation of a block. -/
theorem last_apply (y : FVec Ideal S256x2048 .f32) (x6 : Vec Ideal S1x2048 .f32) (r : Fin 256) (d : Fin 2048) :
    k0_pay1 y x6 (ix2 r d) = rms (fun d => y (ix2 r d)) (fun d => x6 (ix2 0 d)) d := by
  pointwise [k0_pay1]
  rfl

/-- The block stored, entry by entry, from the blocks loaded. -/
theorem block7_apply (x0 : Vec Ideal S256x2048 .f32) (x1 : Vec Ideal S256x2048 .bf16) (x2 : Vec Ideal S256x256 .f32) (x3 : Vec Ideal S2048x2048 .bf16)
    (x4 : Vec Ideal S256x2048 .bf16) (x5 x6 : Vec Ideal S1x2048 .f32) (r : Fin 256) (d : Fin 2048) :
    out0_7 x0 x1 x2 x3 x4 x5 x6 (ix2 r d) = rms (pleRow (fun j => x0 (ix2 r j)) (fun j => x1 (ix2 r j)) (fun k => x2 (ix2 r k)) (fun j d => x3 (ix2 j d))
      (fun k d => x4 (ix2 k d)) (fun d => x5 (ix2 0 d))) (fun d => x6 (ix2 0 d)) d := by
  have e : out0_7 x0 x1 x2 x3 x4 x5 x6 = k0_pay1 (k0_pay2 x0 x1 x5 x3 x2 x4) x6 := by
    unfold out0_7
    rw [View.canon_unit_zero hz2, View.ld_unit_zero hz2 _ x0, View.ld_unit_zero hz2 _ x1, View.ld_unit_zero hz2 _ x5, View.ld_unit_zero hz2 _ x3, View.ld_unit_zero hz2 _ x2, View.ld_unit_zero hz2 _ x4, View.ld_unit_zero hz2 _ x6]
  rw [e]
  rw [last_apply]
  exact congrArg (fun f => rms f (fun d => x6 (ix2 0 d)) d) (funext fun d => before_apply x0 x1 x2 x3 x4 x5 x6 r d)

variable (m : (ℓ : Loc nD τ sig) → Buf (Elt Ideal) ℓ) (c : Dev nD)

/-- The grid has one point. -/
theorem coord_lt (t : Fin cfg0.N) : (grid0.coords t 0).val < 1 := (grid0.coords t 0).isLt

/-- The rows a point takes of the first argument: those of its own block. -/
theorem idx_rows (t : Fin cfg0.N) : win0_0.index t = ![(grid0.coords t 0).val, 0] := by
  have h0 := coord_lt t
  unfold Pipeline.Window.index
  show cc0_transform_0 (grid0.coords t) = _
  unfold cc0_transform_0
  simp only [BitVec.toNat_ofNat]
  rw [Nat.mod_eq_of_lt (by omega)]

/-- An entry of the input's block. -/
theorem read0 (t : Fin cfg0.N) (p : Fin 256) (e : Fin 2048) :
    (iblk m c 0 t : Vec Ideal S256x2048 .f32) (ix2 p e) = m ((c : Thread nD τ).loc main_arg0)
      (ix2 ⟨256 * (grid0.coords t 0).val + p.val, by have := coord_lt t; omega⟩ e) := by
  blk_ext [iblk, V_main_arg0, show win0_0.index t = ![(grid0.coords t 0).val, 0] from idx_rows t]

/-- An entry of the block of the experts' sum. -/
theorem read1 (t : Fin cfg0.N) (p : Fin 256) (e : Fin 2048) :
    (iblk m c 1 t : Vec Ideal S256x2048 .bf16) (ix2 p e) = m ((c : Thread nD τ).loc main_arg1)
      (ix2 ⟨256 * (grid0.coords t 0).val + p.val, by have := coord_lt t; omega⟩ e) := by
  blk_ext [iblk, V_main_arg1, show win0_1.index t = ![(grid0.coords t 0).val, 0] from idx_rows t]

/-- An entry of the block of embeddings. -/
theorem read2 (t : Fin cfg0.N) (p : Fin 256) (e : Fin 256) :
    (iblk m c 2 t : Vec Ideal S256x256 .f32) (ix2 p e) = m ((c : Thread nD τ).loc main_arg2)
      (ix2 ⟨256 * (grid0.coords t 0).val + p.val, by have := coord_lt t; omega⟩ e) := by
  blk_ext [iblk, V_main_arg2, show win0_2.index t = ![(grid0.coords t 0).val, 0] from idx_rows t]

/-- An entry of the gate's weight. -/
theorem read3 (t : Fin cfg0.N) (p : Fin 2048) (e : Fin 2048) :
    (iblk m c 3 t : Vec Ideal S2048x2048 .bf16) (ix2 p e) = m ((c : Thread nD τ).loc main_arg3) (ix3 0 p e) := by
  blk_simp [iblk]
  entry_read
  pointwise
  blk_ext [show win0_3.index t = ![0, 0] from rfl]

/-- An entry of the projection's weight. -/
theorem read4 (t : Fin cfg0.N) (p : Fin 256) (e : Fin 2048) :
    (iblk m c 4 t : Vec Ideal S256x2048 .bf16) (ix2 p e) = m ((c : Thread nD τ).loc main_arg4) (ix3 0 p e) := by
  blk_simp [iblk]
  entry_read
  pointwise
  blk_ext [show win0_4.index t = ![0, 0] from rfl]

/-- An entry of the first gain. -/
theorem read5 (t : Fin cfg0.N) (e : Fin 2048) :
    (iblk m c 5 t : Vec Ideal S1x2048 .f32) (ix2 0 e) = m ((c : Thread nD τ).loc main_arg5) (ix2 0 e) := by
  blk_simp [iblk]
  entry_read
  pointwise
  blk_ext [show win0_5.index t = ![0, 0] from rfl]

/-- An entry of the last gain. -/
theorem read6 (t : Fin cfg0.N) (e : Fin 2048) :
    (iblk m c 6 t : Vec Ideal S1x2048 .f32) (ix2 0 e) = m ((c : Thread nD τ).loc main_arg6) (ix1 e) := by
  blk_simp [iblk]
  entry_read
  pointwise
  blk_ext [show win0_6.index t = ![0, 0] from rfl]

/-- Row `r` after the per-layer embedding, from whole arrays. -/
def ple (x po : S256x2048.Idx → EReal) (p : S256x256.Idx → EReal) (wg : S1x2048x2048.Idx → EReal) (wp : S1x256x2048.Idx → EReal)
    (gp : S1x2048.Idx → EReal) (r : Fin 256) : Fin 2048 → EReal :=
  pleRow (fun j => x (ix2 r j)) (fun j => po (ix2 r j)) (fun k => p (ix2 r k)) (fun j d => wg (ix3 0 j d)) (fun k d => wp (ix3 0 k d))
    (fun d => gp (ix2 0 d))

/-- The array left. -/
def result7 (i : S256x2048.Idx) : EReal :=
  rms (ple (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0))
    (fun d => (m ((c : Thread nD τ).loc main_arg6) : S2048.Idx → EReal) (ix1 d)) (i 1)

/-- The blocks of the result cover it. -/
theorem covers7 : (cfg0.win 7).Covers := by decide +kernel

/-- The block of the result point `t` stores, entry by entry. -/
theorem block7_eq (t : Fin cfg0.N) (p : Fin 256) (e : Fin 2048) :
    out0_7 (iblk m c 0 t) (iblk m c 1 t) (iblk m c 2 t) (iblk m c 3 t) (iblk m c 4 t) (iblk m c 5 t) (iblk m c 6 t) (ix2 p e) = result7 m c
      (ix2 ⟨256 * (grid0.coords t 0).val + p.val, by have := coord_lt t; omega⟩ e) := by
  rw [block7_apply]
  unfold result7
  simp only [read0, read1, read2, read3, read4, read5, read6]
  rfl

/-- After the run the result is what was named. -/
theorem final7_eq : (dats m 0 c).arrAt 7 cfg0.N = result7 m c := by
  refine (dats m 0 c).arrAt_eq_of_covers 7 (result7 m c) covers7 fun t hf y => ?_
  blk_simp
  rw [after0_7]
  have hy : y = ix2 (y 0) (y 1) := by
    funext a
    match a with
    | ⟨0, _⟩ => rfl
    | ⟨1, _⟩ => rfl
  refine Eq.trans ?_ ((block7_eq m c t (y 0) (y 1)).trans ?_)
  · congr 1
    blk_ext
  · congr 1
    blk_ext [show win0_7.index t = ![(grid0.coords t 0).val, 0] from idx_rows t]

end Cert.Kernel6Ideal.Ple
-- ==== Proof.PleSRef.lean ====
module

public import proofs.«01_k».proof.Defs
public import proofs.«01_k».proof.Proof.PleS
public import proofs.«01_k».proof.Proof.Gen.Reference6Ideal.Read
public import Idealize.ShloMosaic.Lib.IdealHost

/-! The per-layer embedding and the last normalisation for the second group of requests: the reference's array, and that the kernel leaves the same. -/

@[expose] public section

set_option maxRecDepth 16384

noncomputable section

open Idealize.ShloMosaic Idealize.ShloMosaic.TcCoe Idealize.SL.Sem

namespace Cert.Reference6Ideal.Ple

open Cert.Reference6Ideal Cert.Reference6Ideal.Gen Cert.Reference6Ideal.Read Cert.Kernel6Ideal.Ple Cert.Rms

/-- An index of a matrix from its coordinates. -/
theorem ix2_eta {n0 n1 : ℕ} (i : (⟨2, ![n0, n1]⟩ : Shape).Idx) : i = ix2 (i 0) (i 1) := by
  funext a
  match a with
  | ⟨0, _⟩ => rfl
  | ⟨1, _⟩ => rfl

variable (x0 x1 : S256x2048.Idx → EReal) (x2 : S256x256.Idx → EReal) (x3 : S1x2048x2048.Idx → EReal) (x4 : S1x256x2048.Idx → EReal)
  (x5 : S1x2048.Idx → EReal) (x6 : S2048.Idx → EReal)

/-- An entry of the gate's weight. -/
theorem weight16 (k : Fin 2048) (d : Fin 2048) : val_main_v16 (F := Ideal) x3 (ix2 k d) = x3 (ix3 0 k d) := by
  rw [val_main_v16_apply]
  have hk := k.isLt
  have hd := d.isLt
  refine congrArg x3 ?_
  funext a
  apply Fin.ext
  match a with
  | ⟨0, _⟩ => rfl
  | ⟨1, _⟩ => show (k.val * 2048 + d.val) / 2048 % 2048 = k.val; omega
  | ⟨2, _⟩ => show (k.val * 2048 + d.val) % 2048 = d.val; omega

/-- An entry of the projection's weight. -/
theorem weight24 (k : Fin 256) (d : Fin 2048) : val_main_v24 (F := Ideal) x4 (ix2 k d) = x4 (ix3 0 k d) := by
  rw [val_main_v24_apply]
  have hk := k.isLt
  have hd := d.isLt
  refine congrArg x4 ?_
  funext a
  apply Fin.ext
  match a with
  | ⟨0, _⟩ => rfl
  | ⟨1, _⟩ => show (k.val * 2048 + d.val) / 2048 % 256 = k.val; omega
  | ⟨2, _⟩ => show (k.val * 2048 + d.val) % 2048 = d.val; omega

/-- An entry of the residual sum. -/
theorem sum_ref (r : Fin 256) (d : Fin 2048) : val_main_v1 (F := Ideal) x0 x1 (ix2 r d) = x0 (ix2 r d) + x1 (ix2 r d) := rfl

/-- An entry of the first gain. -/
theorem gain_ref (r : Fin 256) (d : Fin 2048) : val_main_v14 (F := Ideal) x5 (ix2 r d) = x5 (ix2 0 d) := by
  rw [val_main_v14_apply, val_main_v13_apply, val_main_v2_apply]
  have hd := d.isLt
  refine congrArg x5 ?_
  funext a
  apply Fin.ext
  match a with
  | ⟨0, _⟩ => rfl
  | ⟨1, _⟩ => show d.val % 2048 = d.val; omega

/-- An entry of the last gain. -/
theorem last_gain_ref (r : Fin 256) (d : Fin 2048) : val_main_v39 (F := Ideal) x6 (ix2 r d) = x6 (ix1 d) := by
  rw [val_main_v39_apply, val_main_v38_apply]
  refine congrArg x6 ?_
  funext a
  match a with
  | ⟨0, _⟩ => rfl

/-- An entry of the first normalisation. -/
theorem first_ref (r : Fin 256) (d : Fin 2048) :
    val_main_v15 (F := Ideal) x0 x1 x5 (ix2 r d) = rms (fun j => x0 (ix2 r j) + x1 (ix2 r j)) (fun d => x5 (ix2 0 d)) d := by
  rw [val_main_v15_apply, gain_ref, val_main_v12_apply, sum_ref, val_main_v11_apply, val_main_v10_apply, val_main_v9_apply, val_main_v8_apply,
    val_main_v7_apply, val_main_v6_apply, val_main_v5_apply, val_main_v4_apply]
  rw [show (val_main_cst (F := Ideal)) (Shape.Idx.first h_S_) = (0 : EReal) from Ideal.ofBits_zero_f32, zero_add]
  have e : ∀ k : Fin 2048, val_main_v3 (F := Ideal) x0 x1 (idx_main_v4 (idx_main_v5 (idx_main_v11 (ix2 r d))) k) = (fun j => x0 (ix2 r j) + x1 (ix2 r j)) k * (fun j => x0 (ix2 r j) + x1 (ix2 r j)) k := fun k => by
    refine (congrArg (val_main_v3 (F := Ideal) x0 x1) (ix2_eta _)).trans ?_
    show val_main_v3 (F := Ideal) x0 x1 (ix2 r k) = _
    rw [val_main_v3_apply, sum_ref]
    rfl
  rw [Finset.sum_congr rfl fun k _ => e k]
  rfl

/-- An entry of the gate. -/
theorem gate_ref (r : Fin 256) (d : Fin 2048) : val_main_v23 (F := Ideal) x0 x1 x3 x5 (ix2 r d) =
    logistic (∑ j : Fin 2048, rms (fun j => x0 (ix2 r j) + x1 (ix2 r j)) (fun d => x5 (ix2 0 d)) j * x3 (ix3 0 j d)) := by
  have e : val_main_v17 (F := Ideal) x0 x1 x3 x5 (ix2 r d) =
      ∑ j : Fin 2048, rms (fun j => x0 (ix2 r j) + x1 (ix2 r j)) (fun d => x5 (ix2 0 d)) j * x3 (ix3 0 j d) := by
    rw [val_main_v17_apply]
    refine Finset.sum_congr rfl fun j _ => ?_
    exact congrArg₂ (· * ·) ((congrArg (val_main_v15 (F := Ideal) x0 x1 x5) (ix2_eta (lidx_main_v17 (ix2 r d) j))).trans (first_ref x0 x1 x5 r j))
      ((congrArg (val_main_v16 (F := Ideal) x3) (ix2_eta (ridx_main_v17 (ix2 r d) j))).trans (weight16 x3 j d))
  rw [val_main_v23_apply, val_main_v22_apply, val_main_v21_apply, val_main_v20_apply, val_main_v19_apply, val_main_v18_apply,
    val_main_cst_2_apply, val_main_cst_3_apply, e]
  unfold Cert.Rms.logistic
  rw [zero_sub, ← Ideal.ofBits_one_f32]
  rfl

/-- An entry of the embedding's projection. -/
theorem proj_ref (r : Fin 256) (d : Fin 2048) :
    val_main_v25 (F := Ideal) x2 x4 (ix2 r d) = ∑ k : Fin 256, x2 (ix2 r k) * x4 (ix3 0 k d) := by
  rw [val_main_v25_apply]
  refine Finset.sum_congr rfl fun k _ => ?_
  exact congrArg₂ (· * ·) (congrArg x2 (ix2_eta (lidx_main_v25 (ix2 r d) k)))
    ((congrArg (val_main_v24 (F := Ideal) x4) (ix2_eta (ridx_main_v25 (ix2 r d) k))).trans (weight24 x4 k d))

/-- An entry before the last normalisation. -/
theorem before_ref (r : Fin 256) (d : Fin 2048) :
    val_main_v27 (F := Ideal) x0 x1 x2 x3 x4 x5 (ix2 r d) = ple x0 x1 x2 x3 x4 x5 r d := by
  rw [val_main_v27_apply, val_main_v26_apply, sum_ref, proj_ref, gate_ref]
  rfl

/-- An entry of the last normalisation. -/
theorem last_ref (r : Fin 256) (d : Fin 2048) :
    val_main_v40 (F := Ideal) x0 x1 x2 x3 x4 x5 x6 (ix2 r d) = rms (ple x0 x1 x2 x3 x4 x5 r) (fun d => x6 (ix1 d)) d := by
  rw [val_main_v40_apply, last_gain_ref, val_main_v37_apply, before_ref, val_main_v36_apply, val_main_v35_apply, val_main_v34_apply, val_main_v33_apply,
    val_main_v32_apply, val_main_v31_apply, val_main_v30_apply, val_main_v29_apply]
  rw [show (val_main_cst_4 (F := Ideal)) (Shape.Idx.first h_S_) = (0 : EReal) from Ideal.ofBits_zero_f32, zero_add]
  have e : ∀ k : Fin 2048, val_main_v28 (F := Ideal) x0 x1 x2 x3 x4 x5 (idx_main_v29 (idx_main_v30 (idx_main_v36 (ix2 r d))) k) = (ple x0 x1 x2 x3 x4 x5 r) k * (ple x0 x1 x2 x3 x4 x5 r) k := fun k => by
    refine (congrArg (val_main_v28 (F := Ideal) x0 x1 x2 x3 x4 x5) (ix2_eta _)).trans ?_
    show val_main_v28 (F := Ideal) x0 x1 x2 x3 x4 x5 (ix2 r k) = _
    rw [val_main_v28_apply, before_ref]
    rfl
  rw [Finset.sum_congr rfl fun k _ => e k]
  rfl

end Cert.Reference6Ideal.Ple

namespace Cert.Proof

/-- The reference's run changes none of its arguments and leaves no signal. -/
theorem reference6_frame : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩) (Cert.Reference6Ideal.Value.run m ρ)

/-- The reference's result is the array the kernel leaves. -/
theorem ref6_result (m : (ℓ : Loc Cert.Kernel6Ideal.nD Cert.Kernel6Ideal.τ Cert.Kernel6Ideal.sig) → Buf (Elt Ideal) ℓ) (c : Dev Cert.Kernel6Ideal.nD)
    (x0 x1 : Cert.Kernel6Ideal.S256x2048.Idx → EReal) (x2 : Cert.Kernel6Ideal.S256x256.Idx → EReal) (x3 : Cert.Kernel6Ideal.S1x2048x2048.Idx → EReal)
    (x4 : Cert.Kernel6Ideal.S1x256x2048.Idx → EReal) (x5 : Cert.Kernel6Ideal.S1x2048.Idx → EReal) (x6 : Cert.Kernel6Ideal.S2048.Idx → EReal)
    (e0 : m ((c.tc : Thread Cert.Kernel6Ideal.nD Cert.Kernel6Ideal.τ).loc Cert.Kernel6Ideal.main_arg0) = x0)
    (e1 : m ((c.tc : Thread Cert.Kernel6Ideal.nD Cert.Kernel6Ideal.τ).loc Cert.Kernel6Ideal.main_arg1) = x1)
    (e2 : m ((c.tc : Thread Cert.Kernel6Ideal.nD Cert.Kernel6Ideal.τ).loc Cert.Kernel6Ideal.main_arg2) = x2)
    (e3 : m ((c.tc : Thread Cert.Kernel6Ideal.nD Cert.Kernel6Ideal.τ).loc Cert.Kernel6Ideal.main_arg3) = x3)
    (e4 : m ((c.tc : Thread Cert.Kernel6Ideal.nD Cert.Kernel6Ideal.τ).loc Cert.Kernel6Ideal.main_arg4) = x4)
    (e5 : m ((c.tc : Thread Cert.Kernel6Ideal.nD Cert.Kernel6Ideal.τ).loc Cert.Kernel6Ideal.main_arg5) = x5)
    (e6 : m ((c.tc : Thread Cert.Kernel6Ideal.nD Cert.Kernel6Ideal.τ).loc Cert.Kernel6Ideal.main_arg6) = x6) :
    Cert.Reference6Ideal.Read.val_main_v40 (F := Ideal) x0 x1 x2 x3 x4 x5 x6 = Cert.Kernel6Ideal.Ple.result7 m c := by
  subst e0 e1 e2 e3 e4 e5 e6
  refine funext fun i => (congrArg _ (Cert.Reference6Ideal.Ple.ix2_eta i)).trans ?_
  exact Cert.Reference6Ideal.Ple.last_ref _ _ _ _ _ _ _ (i 0) (i 1)

/-- Idealized per-layer embedding and reference agree. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Ple.result7 m c, ?_, ?_⟩
  · exact (θ_run Cert.Kernel6Ideal.defs _ _).mono (fun r h c => ⟨(h c).1.trans (Cert.Kernel6Ideal.Ple.final7_eq m c), (h c).2⟩)
      (Cert.Kernel6Ideal.Value.run_blocks m g)
  · refine (θ_run Cert.Reference6Ideal.defs _ _).mono (fun r h c => ?_) (Cert.Reference6Ideal.Value.run m' g')
    obtain ⟨e0, e1, e2, e3, e4, e5, e6⟩ := hargs c
    refine ⟨(h c).1.trans ((Cert.Reference6Ideal.Read.val_main_v40_eq m' c).trans ?_), (h c).2⟩
    rw [e0, e1, e2, e3, e4, e5, e6]
    exact ref6_result m c _ _ _ _ _ _ _ rfl rfl rfl rfl rfl rfl rfl

end Cert.Proof
-- ==== Proof.InprojRun.lean ====
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.TableIdle
public import Idealize.ShloMosaic.Lib.Tactic
public import Idealize.ShloMosaic.Lib.VecWindow
public import Idealize.ShloMosaic.Lib.Pipeline.Value

/-! # The projections of the input: one pass of the kernel's body

The grid has 32 blocks of rows by 16 blocks of columns of the weight.  At the first block of columns the body
normalises its rows into the scratch buffer; at every block of columns it multiplies the normalised rows by its block
of the weight and stores the product, after what belongs to the column, into one or two of the eight results.  Which
of them depends on the block of columns `j` only: `j ≤ 1` the first, `j ≤ 3` the second, `j ≤ 5` the third and the
fourth, `j ≤ 7` the fifth and the sixth, `j ≤ 11` the seventh, and the rest the eighth.  Each theorem says of one of
these cases what the body reads, and what it leaves in the buffers it writes. -/

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two written forms of the zero offset. -/
theorem hz2 : (![0, 0] : Fin 2 → Nat) = fun _ => 0 := funext fun a => by fin_cases a <;> rfl

/-- What one store of a whole buffer leaves reads as the stored value. -/
theorem stored {S : Shape} {e : EltTy} {sp : Space} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h
  exact View.read_writes_full v f inb w []

/-- A load of a whole buffer reads its contents. -/
theorem loaded {S : Shape} {e : EltTy} {sp : Space} (a : Memref sig .tc sp S e) (ha : a.IsWhole) (x : S.Idx → Elt F e)
    {off : Fin S.rank → Nat} (h : off = fun _ => 0) (inb : ∀ a, off a + S.size a ≤ S.size a) :
    View.readAt (Elt F) a.view (Rect.unit off S.size inb).toLoadRect (ha.unread x) = x := by
  rw [View.readAt_eq_ld, Memref.IsWhole.read_unread, View.ld_unit_zero h]

/-- The body is at the first block of columns. -/
abbrev first (i : grid0.Coords) : Prop := (Scalar.cmpi .ne (Scalar.extui (Scalar.cmpi .eq (BitVec.ofNat 32 (i 1).val) 0#32)) 0#32) = 1#1

/-- The first block of columns is reached at the multiples of sixteen. -/
theorem first_iff : ∀ t : Fin cfg0.N, first (grid0.coords t) ↔ t.val % 16 = 0 :=
  (by decide +kernel : ∀ t : Fin grid0.N, first (grid0.coords t) ↔ t.val % 16 = 0)

/-- The condition numbered 2 holds at the blocks of columns from 0 to 1. -/
theorem cond2_iff : ∀ t : Fin cfg0.N, k0_cond2 (grid0.coords t) = 1#1 ↔ (0 ≤ t.val % 16 ∧ t.val % 16 ≤ 1) :=
  (by decide +kernel : ∀ t : Fin grid0.N, k0_cond2 (grid0.coords t) = 1#1 ↔ (0 ≤ t.val % 16 ∧ t.val % 16 ≤ 1))

/-- The condition numbered 3 holds at the blocks of columns from 2 to 3. -/
theorem cond3_iff : ∀ t : Fin cfg0.N, k0_cond3 (grid0.coords t) = 1#1 ↔ (2 ≤ t.val % 16 ∧ t.val % 16 ≤ 3) :=
  (by decide +kernel : ∀ t : Fin grid0.N, k0_cond3 (grid0.coords t) = 1#1 ↔ (2 ≤ t.val % 16 ∧ t.val % 16 ≤ 3))

/-- The condition numbered 4 holds at the blocks of columns from 4 to 5. -/
theorem cond4_iff : ∀ t : Fin cfg0.N, k0_cond4 (grid0.coords t) = 1#1 ↔ (4 ≤ t.val % 16 ∧ t.val % 16 ≤ 5) :=
  (by decide +kernel : ∀ t : Fin grid0.N, k0_cond4 (grid0.coords t) = 1#1 ↔ (4 ≤ t.val % 16 ∧ t.val % 16 ≤ 5))

/-- The condition numbered 5 holds at the blocks of columns from 6 to 7. -/
theorem cond5_iff : ∀ t : Fin cfg0.N, k0_cond5 (grid0.coords t) = 1#1 ↔ (6 ≤ t.val % 16 ∧ t.val % 16 ≤ 7) :=
  (by decide +kernel : ∀ t : Fin grid0.N, k0_cond5 (grid0.coords t) = 1#1 ↔ (6 ≤ t.val % 16 ∧ t.val % 16 ≤ 7))

/-- The condition numbered 6 holds at the blocks of columns from 8 to 11. -/
theorem cond6_iff : ∀ t : Fin cfg0.N, k0_cond6 (grid0.coords t) = 1#1 ↔ (8 ≤ t.val % 16 ∧ t.val % 16 ≤ 11) :=
  (by decide +kernel : ∀ t : Fin grid0.N, k0_cond6 (grid0.coords t) = 1#1 ↔ (8 ≤ t.val % 16 ∧ t.val % 16 ≤ 11))

/-- The condition numbered 7 holds at the blocks of columns from 12 to 15. -/
theorem cond7_iff : ∀ t : Fin cfg0.N, k0_cond7 (grid0.coords t) = 1#1 ↔ (12 ≤ t.val % 16 ∧ t.val % 16 ≤ 15) :=
  (by decide +kernel : ∀ t : Fin grid0.N, k0_cond7 (grid0.coords t) = 1#1 ↔ (12 ≤ t.val % 16 ∧ t.val % 16 ≤ 15))

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S1024x512 .f32) (harg5 : arg5.IsWhole)
  (arg6 : Memref sig .tc .vmem S1024x512 .f32) (harg6 : arg6.IsWhole)
  (arg7 : Memref sig .tc .vmem S1024x512 .bf16) (harg7 : arg7.IsWhole)
  (arg8 : Memref sig .tc .vmem S1024x512 .bf16) (harg8 : arg8.IsWhole)
  (arg9 : Memref sig .tc .vmem S1024x512 .f32) (harg9 : arg9.IsWhole)
  (arg10 : Memref sig .tc .vmem S1024x512 .bf16) (harg10 : arg10.IsWhole)
  (arg11 : Memref sig .tc .vmem S1024x512 .f32) (harg11 : arg11.IsWhole)
  (arg12 : Memref sig .tc .vmem S1024x512 .bf16) (harg12 : arg12.IsWhole)
  (arg13 : Memref sig .tc .vmem S1024x512 .bf16) (harg13 : arg13.IsWhole)
  (arg14 : Memref sig .tc .vmem S1024x512 .bf16) (harg14 : arg14.IsWhole)
  (arg15 : Memref sig .tc .vmem S1024x2048 .bf16) (harg15 : arg15.IsWhole)

set_option maxHeartbeats 1000000 in
/-- At the first block of columns the body normalises the rows, keeps them in the scratch buffer, and stores their product with the block of the weight. -/
theorem runA (hc1 : first i) (hc2 : k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1)
    (x2 : Vec F S1024x2048 .f32) (x3 : Vec F S1x2048 .f32) (x4 : Vec F S2048x512 .bf16) (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ (∃ d, owns (c : Thread nD τ) arg7 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg7 fullShare (k0_pay3 (k0_pay2 x2 x3) x4) ∗ owns (c : Thread nD τ) arg15 fullShare (k0_pay2 x2 x3)) -∗ K ⟨⟩))
      ⊢ wp frame (wpE (defs₀ (F := F)) Variants.none c none) E
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part1_eq_skeleton]
  unfold owns
  iintro ⟨⟨%f2, %hf2, H2⟩, ⟨%f3, %hf3, H3⟩, ⟨%f4, %hf4, H4⟩, ⟨%d7, %f7, -, H7⟩, ⟨%d15, %f15, -, H15⟩, Hk⟩
  obtain rfl := harg2.eq_unread hf2; obtain rfl := harg3.eq_unread hf3; obtain rfl := harg4.eq_unread hf4
  sl_exec (disch := first | sl_exact hc1 | sl_exact hc2 | sl_exact hc3 | sl_exact hc4 | sl_exact hc5 | sl_exact hc6 | sl_exact hc7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H7]
  · iexists _; isplitr; swap; · iexact H7
    ipureintro; unfold runA.sl.v33 runA.sl.H15_1; rw [stored _ _ hz2, loaded _ harg4 _ hz2, View.readCov_full, loaded _ harg2 _ hz2, loaded _ harg3 _ hz2]
  iexists _; isplitr; swap; · iexact H15
  ipureintro; unfold runA.sl.H15_1; rw [stored _ _ hz2, loaded _ harg2 _ hz2, loaded _ harg3 _ hz2]

set_option maxHeartbeats 1000000 in
/-- At the other block of columns of the first result the body stores the product of the kept rows with the block of the weight. -/
theorem runB (hc1 : ¬first i) (hc2 : k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1)
    (x4 : Vec F S2048x512 .bf16) (xs : Vec F S1024x2048 .bf16) (E : Set ℕ) (K : PUnit → sProp (MT nD τ sig Unit (Elt F) ℕ (UR sig nD τ) ℕ)) :
    iprop(owns (c : Thread nD τ) arg4 fullShare x4 ∗ (∃ d, owns (c : Thread nD τ) arg7 fullShare d) ∗ owns (c : Thread nD τ) arg15 fullShare xs
        ∗ (iprop(owns (c : Thread nD τ) arg4 fullShare x4 ∗ owns (c : Thread nD τ) arg7 fullShare (k0_pay3 xs x4) ∗ owns (c : Thread nD τ) arg15 fullShare xs) -∗ K ⟨⟩))
      ⊢ wp frame (wpE (defs₀ (F := F)) Variants.none c none) E
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part1_eq_skeleton]
  unfold owns
  iintro ⟨⟨%f4, %hf4, H4⟩, ⟨%d7, %f7, -, H7⟩, ⟨%f15, %hf15, H15⟩, Hk⟩
  obtain rfl := harg4.eq_unread hf4; obtain rfl := harg15.eq_unread hf15
  sl_exec (disch := first | sl_exact hc1 | sl_exact hc2 | sl_exact hc3 | sl_exact hc4 | sl_exact hc5 | sl_exact hc6 | sl_exact hc7)
  sl_step
  iapply Hk
  isplitl [H4]
  · iexists _; isplitr; · ipureintro; exact harg4.read_unread _
    iexact H4
  isplitl [H7]
  · iexists _; isplitr; swap; · iexact H7
    ipureintro; rw [stored _ _ hz2, loaded _ harg15 _ hz2, loaded _ harg4 _ hz2]
  iexists _; isplitr; · ipureintro; exact harg15.read_unread _
  iexact H15

set_option maxHeartbeats 1000000 in
/-- At the blocks of columns of the second result the body stores the rotated and scaled product. -/
theorem runC (hc1 : ¬first i) (hc2 : ¬k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1)
    (x4 : Vec F S2048x512 .bf16) (x5 : Vec F S1024x512 .f32) (x6 : Vec F S1024x512 .f32) (xs : Vec F S1024x2048 .bf16) (E : Set ℕ) (K : PUnit → sProp (MT nD τ sig Unit (Elt F) ℕ (UR sig nD τ) ℕ)) :
    iprop(owns (c : Thread nD τ) arg4 fullShare x4 ∗ owns (c : Thread nD τ) arg5 fullShare x5 ∗ owns (c : Thread nD τ) arg6 fullShare x6 ∗ (∃ d, owns (c : Thread nD τ) arg8 fullShare d) ∗ owns (c : Thread nD τ) arg15 fullShare xs
        ∗ (iprop(owns (c : Thread nD τ) arg4 fullShare x4 ∗ owns (c : Thread nD τ) arg5 fullShare x5 ∗ owns (c : Thread nD τ) arg6 fullShare x6 ∗ owns (c : Thread nD τ) arg8 fullShare (k0_pay4 xs x4 x5 x6) ∗ owns (c : Thread nD τ) arg15 fullShare xs) -∗ K ⟨⟩))
      ⊢ wp frame (wpE (defs₀ (F := F)) Variants.none c none) E
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part1_eq_skeleton]
  unfold owns
  iintro ⟨⟨%f4, %hf4, H4⟩, ⟨%f5, %hf5, H5⟩, ⟨%f6, %hf6, H6⟩, ⟨%d8, %f8, -, H8⟩, ⟨%f15, %hf15, H15⟩, Hk⟩
  obtain rfl := harg4.eq_unread hf4; obtain rfl := harg5.eq_unread hf5; obtain rfl := harg6.eq_unread hf6; obtain rfl := harg15.eq_unread hf15
  sl_exec (disch := first | sl_exact hc1 | sl_exact hc2 | sl_exact hc3 | sl_exact hc4 | sl_exact hc5 | sl_exact hc6 | sl_exact hc7)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; swap; · iexact H8
    ipureintro; rw [stored _ _ hz2, loaded _ harg15 _ hz2, loaded _ harg4 _ hz2, loaded _ harg5 _ hz2, loaded _ harg6 _ hz2]
  iexists _; isplitr; · ipureintro; exact harg15.read_unread _
  iexact H15

set_option maxHeartbeats 1000000 in
/-- At the blocks of columns of the third and fourth results the body stores the rotated product twice, whole and narrowed. -/
theorem runD (hc1 : ¬first i) (hc2 : ¬k0_cond2 i = 1#1) (hc3 : ¬k0_cond3 i = 1#1) (hc4 : k0_cond4 i = 1#1) (hc5 : ¬k0_cond5 i = 1#1) (hc6 : ¬k0_cond6 i = 1#1) (hc7 : ¬k0_cond7 i = 1#1)
    (x4 : Vec F S2048x512 .bf16) (x5 : Vec F S1024x512 .f32) (x6 : Vec F S1024x512 .f32) (xs : Vec F S1024x2048 .bf16) (E : Set ℕ) (K : PUnit → sProp (MT nD τ sig Unit (Elt F) ℕ (UR sig nD τ) ℕ)) :
    iprop(owns (c : Thread nD τ) arg4 fullShare x4 ∗ owns (c : Thread nD τ) arg5 fullShare x5 ∗ owns (c : Thread nD τ) arg6 fullShare x6 ∗ (∃ d, owns (c : Thread nD τ) arg9 fullShare d) ∗ (∃ d, owns (c : Thread nD τ) arg10 fullShare d) ∗ owns (c : Thread nD τ) arg15 fullShare xs
        ∗ (iprop(owns (c : Thread nD τ) arg4 fullShare x4 ∗ owns (c : Thread nD τ) arg5 fullShare x5 ∗ owns (c : Thread nD τ) arg6 fullShare x6 ∗ owns (c : Thread nD τ) arg9 fullShare (k0_pay5 xs x4 x5 x6) ∗ owns (c : Thread nD τ) arg10 fullShare (k0_pay6 xs x4 x5 x6) ∗ owns (c : Thread nD τ) arg15 fullShare xs) -∗ K ⟨⟩))
      ⊢ wp frame (wpE (defs₀ (F := F)) Variants.none c none) E
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part1_eq_skeleton]
  unfold owns
  iintro ⟨⟨%f4, %hf4, H4⟩, ⟨%f5, %hf5, H5⟩, ⟨%f6, %hf6, H6⟩, ⟨%d9, %f9, -, H9⟩, ⟨%d10, %f10, -, H10⟩, ⟨%f15, %hf15, H15⟩, Hk⟩
  obtain rfl := harg4.eq_unread hf4; obtain rfl := harg5.eq_unread hf5; obtain rfl := harg6.eq_unread hf6; obtain rfl := harg15.eq_unread hf15
  sl_exec (disch := first | sl_exact hc1 | sl_exact hc2 | sl_exact hc3 | sl_exact hc4 | sl_exact hc5 | sl_exact hc6 | sl_exact hc7)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H9]
  · iexists _; isplitr; swap; · iexact H9
    ipureintro; rw [stored _ _ hz2, loaded _ harg15 _ hz2, loaded _ harg4 _ hz2, loaded _ harg5 _ hz2, loaded _ harg6 _ hz2]
  isplitl [H10]
  · iexists _; isplitr; swap; · iexact H10
    ipureintro; rw [stored _ _ hz2, loaded _ harg15 _ hz2, loaded _ harg4 _ hz2, loaded _ harg5 _ hz2, loaded _ harg6 _ hz2]
  iexists _; isplitr; · ipureintro; exact harg15.read_unread _
  iexact H15

set_option maxHeartbeats 1000000 in
/-- At the blocks of columns of the fifth and sixth results the body stores the product twice, whole and narrowed. -/
theorem runE (hc1 : ¬first i) (hc2 : ¬k0_cond2 i = 1#1) (hc3 : ¬k0_cond3 i = 1#1) (hc4 : ¬k0_cond4 i = 1#1) (hc5 : k0_cond5 i = 1#1) (hc6 : ¬k0_cond6 i = 1#1) (hc7 : ¬k0_cond7 i = 1#1)
    (x4 : Vec F S2048x512 .bf16) (xs : Vec F S1024x2048 .bf16) (E : Set ℕ) (K : PUnit → sProp (MT nD τ sig Unit (Elt F) ℕ (UR sig nD τ) ℕ)) :
    iprop(owns (c : Thread nD τ) arg4 fullShare x4 ∗ (∃ d, owns (c : Thread nD τ) arg11 fullShare d) ∗ (∃ d, owns (c : Thread nD τ) arg12 fullShare d) ∗ owns (c : Thread nD τ) arg15 fullShare xs
        ∗ (iprop(owns (c : Thread nD τ) arg4 fullShare x4 ∗ owns (c : Thread nD τ) arg11 fullShare (k0_pay7 xs x4) ∗ owns (c : Thread nD τ) arg12 fullShare (k0_pay8 xs x4) ∗ owns (c : Thread nD τ) arg15 fullShare xs) -∗ K ⟨⟩))
      ⊢ wp frame (wpE (defs₀ (F := F)) Variants.none c none) E
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part1_eq_skeleton]
  unfold owns
  iintro ⟨⟨%f4, %hf4, H4⟩, ⟨%d11, %f11, -, H11⟩, ⟨%d12, %f12, -, H12⟩, ⟨%f15, %hf15, H15⟩, Hk⟩
  obtain rfl := harg4.eq_unread hf4; obtain rfl := harg15.eq_unread hf15
  sl_exec (disch := first | sl_exact hc1 | sl_exact hc2 | sl_exact hc3 | sl_exact hc4 | sl_exact hc5 | sl_exact hc6 | sl_exact hc7)
  sl_step
  iapply Hk
  isplitl [H4]
  · iexists _; isplitr; · ipureintro; exact harg4.read_unread _
    iexact H4
  isplitl [H11]
  · iexists _; isplitr; swap; · iexact H11
    ipureintro; rw [stored _ _ hz2, loaded _ harg15 _ hz2, loaded _ harg4 _ hz2]
  isplitl [H12]
  · iexists _; isplitr; swap; · iexact H12
    ipureintro; rw [stored _ _ hz2, loaded _ harg15 _ hz2, loaded _ harg4 _ hz2]
  iexists _; isplitr; · ipureintro; exact harg15.read_unread _
  iexact H15

set_option maxHeartbeats 1000000 in
/-- At the blocks of columns of the seventh result the body stores the sigmoid of the product. -/
theorem runF (hc1 : ¬first i) (hc2 : ¬k0_cond2 i = 1#1) (hc3 : ¬k0_cond3 i = 1#1) (hc4 : ¬k0_cond4 i = 1#1) (hc5 : ¬k0_cond5 i = 1#1) (hc6 : k0_cond6 i = 1#1) (hc7 : ¬k0_cond7 i = 1#1)
    (x4 : Vec F S2048x512 .bf16) (xs : Vec F S1024x2048 .bf16) (E : Set ℕ) (K : PUnit → sProp (MT nD τ sig Unit (Elt F) ℕ (UR sig nD τ) ℕ)) :
    iprop(owns (c : Thread nD τ) arg4 fullShare x4 ∗ (∃ d, owns (c : Thread nD τ) arg13 fullShare d) ∗ owns (c : Thread nD τ) arg15 fullShare xs
        ∗ (iprop(owns (c : Thread nD τ) arg4 fullShare x4 ∗ owns (c : Thread nD τ) arg13 fullShare (k0_pay9 xs x4) ∗ owns (c : Thread nD τ) arg15 fullShare xs) -∗ K ⟨⟩))
      ⊢ wp frame (wpE (defs₀ (F := F)) Variants.none c none) E
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part1_eq_skeleton]
  unfold owns
  iintro ⟨⟨%f4, %hf4, H4⟩, ⟨%d13, %f13, -, H13⟩, ⟨%f15, %hf15, H15⟩, Hk⟩
  obtain rfl := harg4.eq_unread hf4; obtain rfl := harg15.eq_unread hf15
  sl_exec (disch := first | sl_exact hc1 | sl_exact hc2 | sl_exact hc3 | sl_exact hc4 | sl_exact hc5 | sl_exact hc6 | sl_exact hc7)
  sl_step
  iapply Hk
  isplitl [H4]
  · iexists _; isplitr; · ipureintro; exact harg4.read_unread _
    iexact H4
  isplitl [H13]
  · iexists _; isplitr; swap; · iexact H13
    ipureintro; rw [stored _ _ hz2, loaded _ harg15 _ hz2, loaded _ harg4 _ hz2]
  iexists _; isplitr; · ipureintro; exact harg15.read_unread _
  iexact H15

set_option maxHeartbeats 1000000 in
/-- At the blocks of columns of the eighth result the body stores the sigmoid of the product. -/
theorem runG (hc1 : ¬first i) (hc2 : ¬k0_cond2 i = 1#1) (hc3 : ¬k0_cond3 i = 1#1) (hc4 : ¬k0_cond4 i = 1#1) (hc5 : ¬k0_cond5 i = 1#1) (hc6 : ¬k0_cond6 i = 1#1) (hc7 : k0_cond7 i = 1#1)
    (x4 : Vec F S2048x512 .bf16) (xs : Vec F S1024x2048 .bf16) (E : Set ℕ) (K : PUnit → sProp (MT nD τ sig Unit (Elt F) ℕ (UR sig nD τ) ℕ)) :
    iprop(owns (c : Thread nD τ) arg4 fullShare x4 ∗ (∃ d, owns (c : Thread nD τ) arg14 fullShare d) ∗ owns (c : Thread nD τ) arg15 fullShare xs
        ∗ (iprop(owns (c : Thread nD τ) arg4 fullShare x4 ∗ owns (c : Thread nD τ) arg14 fullShare (k0_pay1 xs x4) ∗ owns (c : Thread nD τ) arg15 fullShare xs) -∗ K ⟨⟩))
      ⊢ wp frame (wpE (defs₀ (F := F)) Variants.none c none) E
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part1_eq_skeleton]
  unfold owns
  iintro ⟨⟨%f4, %hf4, H4⟩, ⟨%d14, %f14, -, H14⟩, ⟨%f15, %hf15, H15⟩, Hk⟩
  obtain rfl := harg4.eq_unread hf4; obtain rfl := harg15.eq_unread hf15
  sl_exec (disch := first | sl_exact hc1 | sl_exact hc2 | sl_exact hc3 | sl_exact hc4 | sl_exact hc5 | sl_exact hc6 | sl_exact hc7)
  sl_step
  iapply Hk
  isplitl [H4]
  · iexists _; isplitr; · ipureintro; exact harg4.read_unread _
    iexact H4
  isplitl [H14]
  · iexists _; isplitr; swap; · iexact H14
    ipureintro; rw [stored _ _ hz2, loaded _ harg15 _ hz2, loaded _ harg4 _ hz2]
  iexists _; isplitr; · ipureintro; exact harg15.read_unread _
  iexact H15

end Cert.Kernel5Ideal.Inproj

end
-- ==== Proof.InprojFrame.lean ====
module

public import proofs.«01_k».proof.Proof.InprojRun
public import Idealize.ShloMosaic.Lib.Claim
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.TableIdle
public import Idealize.ShloMosaic.Lib.Tactic
public import Idealize.ShloMosaic.Lib.VecWindow
public import Idealize.ShloMosaic.Lib.Pipeline.Value

/-! # The projections of the input: the whole run of the kernel

What every buffer of the kernel holds after every point of the grid is stated in closed form: the scratch buffer holds
the normalised rows of the point's block of rows, and each result's buffer the product at the last block of columns of
that result which has been reached.  The body's passes keep to it, so the launch terminates, leaves the arguments
unchanged and every semaphore at zero, and fills each result with the stated blocks. -/

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 0's current buffer at a point, and that it is a whole buffer. -/
abbrev ms_0 (t : Fin cfg0.N) : Memref sig .tc .vmem S1024x2048 .f32 := win0_0.stage (cfg0.slots t 0)
/-- The current buffer of window 0 is a whole buffer. -/
abbrev hs_0 (t : Fin cfg0.N) : (ms_0 t).IsWhole := hstage0_0 ((cfg0.slots t 0).cast nbuf0_0)
/-- Window 1's current buffer at a point, and that it is a whole buffer. -/
abbrev ms_1 (t : Fin cfg0.N) : Memref sig .tc .vmem S1x2048 .f32 := win0_1.stage (cfg0.slots t 1)
/-- The current buffer of window 1 is a whole buffer. -/
abbrev hs_1 (t : Fin cfg0.N) : (ms_1 t).IsWhole := hstage0_1 ((cfg0.slots t 1).cast nbuf0_1)
/-- Window 2's current buffer at a point, and that it is a whole buffer. -/
abbrev ms_2 (t : Fin cfg0.N) : Memref sig .tc .vmem S2048x512 .bf16 := win0_2.stage (cfg0.slots t 2)
/-- The current buffer of window 2 is a whole buffer. -/
abbrev hs_2 (t : Fin cfg0.N) : (ms_2 t).IsWhole := hstage0_2 ((cfg0.slots t 2).cast nbuf0_2)
/-- Window 3's current buffer at a point, and that it is a whole buffer. -/
abbrev ms_3 (t : Fin cfg0.N) : Memref sig .tc .vmem S1024x512 .f32 := win0_3.stage (cfg0.slots t 3)
/-- The current buffer of window 3 is a whole buffer. -/
abbrev hs_3 (t : Fin cfg0.N) : (ms_3 t).IsWhole := hstage0_3 ((cfg0.slots t 3).cast nbuf0_3)
/-- Window 4's current buffer at a point, and that it is a whole buffer. -/
abbrev ms_4 (t : Fin cfg0.N) : Memref sig .tc .vmem S1024x512 .f32 := win0_4.stage (cfg0.slots t 4)
/-- The current buffer of window 4 is a whole buffer. -/
abbrev hs_4 (t : Fin cfg0.N) : (ms_4 t).IsWhole := hstage0_4 ((cfg0.slots t 4).cast nbuf0_4)
/-- Window 5's current buffer at a point, and that it is a whole buffer. -/
abbrev ms_5 (t : Fin cfg0.N) : Memref sig .tc .vmem S1024x512 .bf16 := win0_5.stage (cfg0.slots t 5)
/-- The current buffer of window 5 is a whole buffer. -/
abbrev hs_5 (t : Fin cfg0.N) : (ms_5 t).IsWhole := hstage0_5 ((cfg0.slots t 5).cast nbuf0_5)
/-- Window 6's current buffer at a point, and that it is a whole buffer. -/
abbrev ms_6 (t : Fin cfg0.N) : Memref sig .tc .vmem S1024x512 .bf16 := win0_6.stage (cfg0.slots t 6)
/-- The current buffer of window 6 is a whole buffer. -/
abbrev hs_6 (t : Fin cfg0.N) : (ms_6 t).IsWhole := hstage0_6 ((cfg0.slots t 6).cast nbuf0_6)
/-- Window 7's current buffer at a point, and that it is a whole buffer. -/
abbrev ms_7 (t : Fin cfg0.N) : Memref sig .tc .vmem S1024x512 .f32 := win0_7.stage (cfg0.slots t 7)
/-- The current buffer of window 7 is a whole buffer. -/
abbrev hs_7 (t : Fin cfg0.N) : (ms_7 t).IsWhole := hstage0_7 ((cfg0.slots t 7).cast nbuf0_7)
/-- Window 8's current buffer at a point, and that it is a whole buffer. -/
abbrev ms_8 (t : Fin cfg0.N) : Memref sig .tc .vmem S1024x512 .bf16 := win0_8.stage (cfg0.slots t 8)
/-- The current buffer of window 8 is a whole buffer. -/
abbrev hs_8 (t : Fin cfg0.N) : (ms_8 t).IsWhole := hstage0_8 ((cfg0.slots t 8).cast nbuf0_8)
/-- Window 9's current buffer at a point, and that it is a whole buffer. -/
abbrev ms_9 (t : Fin cfg0.N) : Memref sig .tc .vmem S1024x512 .f32 := win0_9.stage (cfg0.slots t 9)
/-- The current buffer of window 9 is a whole buffer. -/
abbrev hs_9 (t : Fin cfg0.N) : (ms_9 t).IsWhole := hstage0_9 ((cfg0.slots t 9).cast nbuf0_9)
/-- Window 10's current buffer at a point, and that it is a whole buffer. -/
abbrev ms_10 (t : Fin cfg0.N) : Memref sig .tc .vmem S1024x512 .bf16 := win0_10.stage (cfg0.slots t 10)
/-- The current buffer of window 10 is a whole buffer. -/
abbrev hs_10 (t : Fin cfg0.N) : (ms_10 t).IsWhole := hstage0_10 ((cfg0.slots t 10).cast nbuf0_10)
/-- Window 11's current buffer at a point, and that it is a whole buffer. -/
abbrev ms_11 (t : Fin cfg0.N) : Memref sig .tc .vmem S1024x512 .bf16 := win0_11.stage (cfg0.slots t 11)
/-- The current buffer of window 11 is a whole buffer. -/
abbrev hs_11 (t : Fin cfg0.N) : (ms_11 t).IsWhole := hstage0_11 ((cfg0.slots t 11).cast nbuf0_11)
/-- Window 12's current buffer at a point, and that it is a whole buffer. -/
abbrev ms_12 (t : Fin cfg0.N) : Memref sig .tc .vmem S1024x512 .bf16 := win0_12.stage (cfg0.slots t 12)
/-- The current buffer of window 12 is a whole buffer. -/
abbrev hs_12 (t : Fin cfg0.N) : (ms_12 t).IsWhole := hstage0_12 ((cfg0.slots t 12).cast nbuf0_12)
/-- The scratch buffer of the normalised rows. -/
abbrev scr : Memref sig .tc .vmem S1024x2048 .bf16 := Memref.whole cc0_scratch0

/-- The invariant before the first point: the scratch buffer at anything. -/
theorem PhiA_eq (c : Dev nD) :
    (Pipeline.ΦA spec0 c : sProp (MT nD τ sig Unit (Elt F) ℕ (UR sig nD τ) ℕ))
      = iprop(iprop((∃ d, owns (c : Thread nD τ) scr fullShare d)) ∗ (∃ r, prngReg c r)) := by
  unfold Pipeline.ΦA; rw [scopedRest0_eq]; simp only [scr, owns_whole]; try rfl

/-- The point of `t`'s block of rows at block of columns `hi`, or `t` itself if it lies before that. -/
def pt (t : Fin cfg0.N) (hi : ℕ) : Fin cfg0.N :=
  ⟨16 * (t.val / 16) + min (t.val % 16) hi, by have := t.isLt; omega⟩

/-- A point no later than the block of columns asked for is its own. -/
theorem pt_self (t : Fin cfg0.N) (hi : ℕ) (h : t.val % 16 ≤ hi) : pt t hi = t :=
  Fin.ext (by show 16 * (t.val / 16) + min (t.val % 16) hi = t.val; omega)

/-- Past the block of columns asked for, the point before has the same one. -/
theorem pt_pred (t : Fin cfg0.N) (hi : ℕ) (h : hi < t.val % 16) :
    pt ⟨t.val - 1, by have := t.isLt; omega⟩ hi = pt t hi :=
  Fin.ext (by show 16 * ((t.val - 1) / 16) + min ((t.val - 1) % 16) hi = 16 * (t.val / 16) + min (t.val % 16) hi; omega)

/-- The normalised rows of the block of rows of point `t`. -/
def S (c : Dev nD) (t : Fin cfg0.N) : Vec F S1024x2048 .bf16 :=
  k0_pay2 (iblk m c 0 (pt t 0)) (iblk m c 1 (pt t 0))

/-- At the first block of columns the normalised rows are those the body makes there. -/
theorem S_first (c : Dev nD) (t : Fin cfg0.N) (h : t.val % 16 = 0) :
    S m c t = k0_pay2 (iblk m c 0 t) (iblk m c 1 t) := by
  unfold S; rw [pt_self t 0 (by omega)]

/-- At a later block of columns the normalised rows are those of the point before. -/
theorem S_pred (c : Dev nD) (t : Fin cfg0.N) (h : ¬t.val % 16 = 0) (h' : t.val - 1 < cfg0.N) :
    S m c ⟨t.val - 1, h'⟩ = S m c t := by
  unfold S; rw [show pt ⟨t.val - 1, h'⟩ 0 = pt t 0 from pt_pred t 0 (by omega)]

/-- What the body stores into window 5 at point `t`, when it stores into it. -/
def Q5 (c : Dev nD) (t : Fin cfg0.N) : Vec F S1024x512 .bf16 := k0_pay3 (S m c t) (iblk m c 2 t)
/-- What the body stores into window 6 at point `t`, when it stores into it. -/
def Q6 (c : Dev nD) (t : Fin cfg0.N) : Vec F S1024x512 .bf16 := k0_pay4 (S m c t) (iblk m c 2 t) (iblk m c 3 t) (iblk m c 4 t)
/-- What the body stores into window 7 at point `t`, when it stores into it. -/
def Q7 (c : Dev nD) (t : Fin cfg0.N) : Vec F S1024x512 .f32 := k0_pay5 (S m c t) (iblk m c 2 t) (iblk m c 3 t) (iblk m c 4 t)
/-- What the body stores into window 8 at point `t`, when it stores into it. -/
def Q8 (c : Dev nD) (t : Fin cfg0.N) : Vec F S1024x512 .bf16 := k0_pay6 (S m c t) (iblk m c 2 t) (iblk m c 3 t) (iblk m c 4 t)
/-- What the body stores into window 9 at point `t`, when it stores into it. -/
def Q9 (c : Dev nD) (t : Fin cfg0.N) : Vec F S1024x512 .f32 := k0_pay7 (S m c t) (iblk m c 2 t)
/-- What the body stores into window 10 at point `t`, when it stores into it. -/
def Q10 (c : Dev nD) (t : Fin cfg0.N) : Vec F S1024x512 .bf16 := k0_pay8 (S m c t) (iblk m c 2 t)
/-- What the body stores into window 11 at point `t`, when it stores into it. -/
def Q11 (c : Dev nD) (t : Fin cfg0.N) : Vec F S1024x512 .bf16 := k0_pay9 (S m c t) (iblk m c 2 t)
/-- What the body stores into window 12 at point `t`, when it stores into it. -/
def Q12 (c : Dev nD) (t : Fin cfg0.N) : Vec F S1024x512 .bf16 := k0_pay1 (S m c t) (iblk m c 2 t)

/-- The invariant before position `n`: at first the scratch buffer at anything, afterwards at the normalised rows of the
point before. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scr fullShare (S m c ⟨n, hn⟩)) ∗ (∃ r, prngReg c r))

/-- Before the first point, the scratch buffer holds anything. -/
theorem PhiS_zero (c : Dev nD) (n : ℕ) (h : n ≤ cfg0.N) (hz : n = 0) : PhiS m c n h = Pipeline.ΦA spec0 c := by
  subst hz; rfl

/-- After a point, the scratch buffer holds that point's normalised rows. -/
theorem PhiS_succ (c : Dev nD) (n : ℕ) (hn : n < cfg0.N) :
    PhiS m c (n + 1) hn = iprop(iprop(owns (c : Thread nD τ) scr fullShare (S m c ⟨n, hn⟩)) ∗ (∃ r, prngReg c r)) := rfl

/-- Before a point that is not the first, the scratch buffer holds the normalised rows of the point before. -/
theorem PhiS_pos (c : Dev nD) (n : ℕ) (h : n ≤ cfg0.N) (hz : n ≠ 0) :
    PhiS m c n h = iprop(iprop(owns (c : Thread nD τ) scr fullShare (S m c ⟨n - 1, by omega⟩)) ∗ (∃ r, prngReg c r)) := by
  cases n with
  | zero => exact absurd rfl hz
  | succ n => rfl

/-- The contents of every buffer of the kernel after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Q5 m c (pt t 1)
    | ⟨6, _⟩ => Q6 m c (pt t 3)
    | ⟨7, _⟩ => Q7 m c (pt t 5)
    | ⟨8, _⟩ => Q8 m c (pt t 5)
    | ⟨9, _⟩ => Q9 m c (pt t 7)
    | ⟨10, _⟩ => Q10 m c (pt t 7)
    | ⟨11, _⟩ => Q11 m c (pt t 11)
    | ⟨12, _⟩ => Q12 m c (pt t 15)
  Φ t := PhiS m c t.val (Nat.le_of_lt_succ t.isLt)
  q _ := fullShare
  owed _ := 0

/-- Every window's array is what the host's operations left. -/
theorem A_eq (c : Dev nD) (w : Fin cfg0.W) : (dats m 0 c).A w = V m c (Pipeline.arrRef spec0 w) := by
  dsimp only [dats]

/-- What holds of the scratch buffer before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the buffer of window 0 holds after a point. -/
theorem after_0 (c : Dev nD) (t : Fin cfg0.N) : (dats m 0 c).after 0 t = iblk m c 0 t := by dsimp only [dats]
/-- What the buffer of window 1 holds after a point. -/
theorem after_1 (c : Dev nD) (t : Fin cfg0.N) : (dats m 0 c).after 1 t = iblk m c 1 t := by dsimp only [dats]
/-- What the buffer of window 2 holds after a point. -/
theorem after_2 (c : Dev nD) (t : Fin cfg0.N) : (dats m 0 c).after 2 t = iblk m c 2 t := by dsimp only [dats]
/-- What the buffer of window 3 holds after a point. -/
theorem after_3 (c : Dev nD) (t : Fin cfg0.N) : (dats m 0 c).after 3 t = iblk m c 3 t := by dsimp only [dats]
/-- What the buffer of window 4 holds after a point. -/
theorem after_4 (c : Dev nD) (t : Fin cfg0.N) : (dats m 0 c).after 4 t = iblk m c 4 t := by dsimp only [dats]
/-- What the buffer of window 5 holds after a point. -/
theorem after_5 (c : Dev nD) (t : Fin cfg0.N) : (dats m 0 c).after 5 t = Q5 m c (pt t 1) := by dsimp only [dats]
/-- What the buffer of window 6 holds after a point. -/
theorem after_6 (c : Dev nD) (t : Fin cfg0.N) : (dats m 0 c).after 6 t = Q6 m c (pt t 3) := by dsimp only [dats]
/-- What the buffer of window 7 holds after a point. -/
theorem after_7 (c : Dev nD) (t : Fin cfg0.N) : (dats m 0 c).after 7 t = Q7 m c (pt t 5) := by dsimp only [dats]
/-- What the buffer of window 8 holds after a point. -/
theorem after_8 (c : Dev nD) (t : Fin cfg0.N) : (dats m 0 c).after 8 t = Q8 m c (pt t 5) := by dsimp only [dats]
/-- What the buffer of window 9 holds after a point. -/
theorem after_9 (c : Dev nD) (t : Fin cfg0.N) : (dats m 0 c).after 9 t = Q9 m c (pt t 7) := by dsimp only [dats]
/-- What the buffer of window 10 holds after a point. -/
theorem after_10 (c : Dev nD) (t : Fin cfg0.N) : (dats m 0 c).after 10 t = Q10 m c (pt t 7) := by dsimp only [dats]
/-- What the buffer of window 11 holds after a point. -/
theorem after_11 (c : Dev nD) (t : Fin cfg0.N) : (dats m 0 c).after 11 t = Q11 m c (pt t 11) := by dsimp only [dats]
/-- What the buffer of window 12 holds after a point. -/
theorem after_12 (c : Dev nD) (t : Fin cfg0.N) : (dats m 0 c).after 12 t = Q12 m c (pt t 15) := by dsimp only [dats]

/-- What the buffer of window 0 holds when the body starts at a point. -/
theorem before_0 (c : Dev nD) (t : Fin cfg0.N) (d) : (dats m 0 c).before 0 t d = iblk m c 0 t :=
  before0_0_of m (dats m 0 c) (A_eq m c 0) (after_0 m c) t d
/-- What the buffer of window 1 holds when the body starts at a point. -/
theorem before_1 (c : Dev nD) (t : Fin cfg0.N) (d) : (dats m 0 c).before 1 t d = iblk m c 1 t :=
  before0_1_of m (dats m 0 c) (A_eq m c 1) (after_1 m c) t d
/-- What the buffer of window 2 holds when the body starts at a point. -/
theorem before_2 (c : Dev nD) (t : Fin cfg0.N) (d) : (dats m 0 c).before 2 t d = iblk m c 2 t :=
  before0_2_of m (dats m 0 c) (A_eq m c 2) (after_2 m c) t d
/-- What the buffer of window 3 holds when the body starts at a point. -/
theorem before_3 (c : Dev nD) (t : Fin cfg0.N) (d) : (dats m 0 c).before 3 t d = iblk m c 3 t :=
  before0_3_of m (dats m 0 c) (A_eq m c 3) (after_3 m c) t d
/-- What the buffer of window 4 holds when the body starts at a point. -/
theorem before_4 (c : Dev nD) (t : Fin cfg0.N) (d) : (dats m 0 c).before 4 t d = iblk m c 4 t :=
  before0_4_of m (dats m 0 c) (A_eq m c 4) (after_4 m c) t d
/-- What the body has to leave in the buffer of window 0. -/
theorem leaves_0 (c : Dev nD) (t : Fin cfg0.N) :
    (dats m 0 c).leavesExact 0 t = owns (c : Thread nD τ) (ms_0 t) fullShare (iblk m c 0 t) := by
  unfold Dat.leavesExact; rw [show cfg0.idle 0 (cfg0.grid.coords t) = false from rfl, after_0]
/-- What the body has to leave in the buffer of window 1. -/
theorem leaves_1 (c : Dev nD) (t : Fin cfg0.N) :
    (dats m 0 c).leavesExact 1 t = owns (c : Thread nD τ) (ms_1 t) fullShare (iblk m c 1 t) := by
  unfold Dat.leavesExact; rw [show cfg0.idle 1 (cfg0.grid.coords t) = false from rfl, after_1]
/-- What the body has to leave in the buffer of window 2. -/
theorem leaves_2 (c : Dev nD) (t : Fin cfg0.N) :
    (dats m 0 c).leavesExact 2 t = owns (c : Thread nD τ) (ms_2 t) fullShare (iblk m c 2 t) := by
  unfold Dat.leavesExact; rw [show cfg0.idle 2 (cfg0.grid.coords t) = false from rfl, after_2]
/-- What the body has to leave in the buffer of window 3. -/
theorem leaves_3 (c : Dev nD) (t : Fin cfg0.N) :
    (dats m 0 c).leavesExact 3 t = owns (c : Thread nD τ) (ms_3 t) fullShare (iblk m c 3 t) := by
  unfold Dat.leavesExact; rw [show cfg0.idle 3 (cfg0.grid.coords t) = false from rfl, after_3]
/-- What the body has to leave in the buffer of window 4. -/
theorem leaves_4 (c : Dev nD) (t : Fin cfg0.N) :
    (dats m 0 c).leavesExact 4 t = owns (c : Thread nD τ) (ms_4 t) fullShare (iblk m c 4 t) := by
  unfold Dat.leavesExact; rw [show cfg0.idle 4 (cfg0.grid.coords t) = false from rfl, after_4]

/-! ## Window 5: stored into at the blocks of columns from 0 to 1 -/

/-- The points at which the body does not store into window 5. -/
theorem idle_5 : ∀ t : Fin cfg0.N, cfg0.idle 5 (grid0.coords t) = !decide (0 ≤ t.val % 16 ∧ t.val % 16 ≤ 1) := by
  decide +kernel

/-- Its buffer holds nothing the body has stored before the first of these and since the last write-back. -/
theorem fresh_5 (t : Fin cfg0.N) : cfg0.fresh 5 t.val = decide (t.val % 16 ≤ 1) :=
  Pipeline.Cfg.fresh_tab cfg0 5 (fun n => decide (n % 16 ≤ 1)) rfl (by decide +kernel) t.val (Nat.le_of_lt t.isLt)

/-- Where it is written back without having been stored into, the body has stored into it before. -/
theorem back_5 : ∀ t : Fin cfg0.N, cfg0.idle 5 (grid0.coords t) = true → (cfg0.win 5).flush t = true → 1 < t.val % 16 := by
  decide +kernel

/-- Where the body does not store into window 5, its buffer holds what it held at the point before. -/
theorem carry_5 (c : Dev nD) (t : Fin cfg0.N) (_ : t.val ≠ 0) (_ : cfg0.idle 5 (grid0.coords t) = true)
    (hf : cfg0.fresh 5 t.val = false) : (dats m 0 c).after 5 t = (dats m 0 c).after 5 ⟨t.val - 1, by omega⟩ := by
  rw [fresh_5, decide_eq_false_iff_not] at hf
  rw [after_5, after_5]
  exact congrArg (Q5 m c) (pt_pred t 1 (by omega)).symm

/-- Away from these blocks of columns its buffer is left as it was. -/
theorem keep_5 (c : Dev nD) (t : Fin cfg0.N) (h : ¬(0 ≤ t.val % 16 ∧ t.val % 16 ≤ 1)) :
    (iprop(∃ d, owns (c : Thread nD τ) (ms_5 t) fullShare ((dats m 0 c).before 5 t d)) : sProp (MT nD τ sig Unit (Elt F) ℕ (UR sig nD τ) ℕ))
      ⊢ (dats m 0 c).leavesExact 5 t := by
  have hi : cfg0.idle 5 (cfg0.grid.coords t) = true := by
    rw [show cfg0.idle 5 (cfg0.grid.coords t) = _ from idle_5 t, decide_eq_false h]; rfl
  cases hf : (cfg0.win 5).flush t with
  | false =>
    rw [Dat.leavesExact_idle (dats m 0 c) 5 t hi hf]
  | true =>
    have hb := back_5 t hi hf
    have hr : cfg0.fresh 5 t.val = false := by rw [fresh_5, decide_eq_false (by omega)]
    unfold Dat.leavesExact; rw [hi, hf]
    iintro ⟨%d, H⟩
    rw [Dat.before_out_traj (dats m 0 c) 5 rfl (fun _ _ => rfl) (carry_5 m c) t.val t rfl d,
      if_neg (by rw [hr]; exact Bool.false_ne_true), ← carry_5 m c t (by omega) hi hr]
    iexact H

/-- At these blocks of columns its buffer is left at what the body stores. -/
theorem live_5 (c : Dev nD) (t : Fin cfg0.N) (h : 0 ≤ t.val % 16 ∧ t.val % 16 ≤ 1) :
    (owns (c : Thread nD τ) (ms_5 t) fullShare (k0_pay3 (S m c t) (iblk m c 2 t)) : sProp (MT nD τ sig Unit (Elt F) ℕ (UR sig nD τ) ℕ))
      ⊢ (dats m 0 c).leavesExact 5 t := by
  have hi : cfg0.idle 5 (cfg0.grid.coords t) = false := by
    rw [show cfg0.idle 5 (cfg0.grid.coords t) = _ from idle_5 t, decide_eq_true h]; rfl
  unfold Dat.leavesExact; rw [hi, after_5, pt_self t 1 (by omega)]
  exact Idealize.SL.BI.Entails.refl _

/-! ## Window 6: stored into at the blocks of columns from 2 to 3 -/

/-- The points at which the body does not store into window 6. -/
theorem idle_6 : ∀ t : Fin cfg0.N, cfg0.idle 6 (grid0.coords t) = !decide (2 ≤ t.val % 16 ∧ t.val % 16 ≤ 3) := by
  decide +kernel

/-- Its buffer holds nothing the body has stored before the first of these and since the last write-back. -/
theorem fresh_6 (t : Fin cfg0.N) : cfg0.fresh 6 t.val = decide (t.val % 16 ≤ 3) :=
  Pipeline.Cfg.fresh_tab cfg0 6 (fun n => decide (n % 16 ≤ 3)) rfl (by decide +kernel) t.val (Nat.le_of_lt t.isLt)

/-- Where it is written back without having been stored into, the body has stored into it before. -/
theorem back_6 : ∀ t : Fin cfg0.N, cfg0.idle 6 (grid0.coords t) = true → (cfg0.win 6).flush t = true → 3 < t.val % 16 := by
  decide +kernel

/-- Where the body does not store into window 6, its buffer holds what it held at the point before. -/
theorem carry_6 (c : Dev nD) (t : Fin cfg0.N) (_ : t.val ≠ 0) (_ : cfg0.idle 6 (grid0.coords t) = true)
    (hf : cfg0.fresh 6 t.val = false) : (dats m 0 c).after 6 t = (dats m 0 c).after 6 ⟨t.val - 1, by omega⟩ := by
  rw [fresh_6, decide_eq_false_iff_not] at hf
  rw [after_6, after_6]
  exact congrArg (Q6 m c) (pt_pred t 3 (by omega)).symm

/-- Away from these blocks of columns its buffer is left as it was. -/
theorem keep_6 (c : Dev nD) (t : Fin cfg0.N) (h : ¬(2 ≤ t.val % 16 ∧ t.val % 16 ≤ 3)) :
    (iprop(∃ d, owns (c : Thread nD τ) (ms_6 t) fullShare ((dats m 0 c).before 6 t d)) : sProp (MT nD τ sig Unit (Elt F) ℕ (UR sig nD τ) ℕ))
      ⊢ (dats m 0 c).leavesExact 6 t := by
  have hi : cfg0.idle 6 (cfg0.grid.coords t) = true := by
    rw [show cfg0.idle 6 (cfg0.grid.coords t) = _ from idle_6 t, decide_eq_false h]; rfl
  cases hf : (cfg0.win 6).flush t with
  | false =>
    rw [Dat.leavesExact_idle (dats m 0 c) 6 t hi hf]
  | true =>
    have hb := back_6 t hi hf
    have hr : cfg0.fresh 6 t.val = false := by rw [fresh_6, decide_eq_false (by omega)]
    unfold Dat.leavesExact; rw [hi, hf]
    iintro ⟨%d, H⟩
    rw [Dat.before_out_traj (dats m 0 c) 6 rfl (fun _ _ => rfl) (carry_6 m c) t.val t rfl d,
      if_neg (by rw [hr]; exact Bool.false_ne_true), ← carry_6 m c t (by omega) hi hr]
    iexact H

/-- At these blocks of columns its buffer is left at what the body stores. -/
theorem live_6 (c : Dev nD) (t : Fin cfg0.N) (h : 2 ≤ t.val % 16 ∧ t.val % 16 ≤ 3) :
    (owns (c : Thread nD τ) (ms_6 t) fullShare (k0_pay4 (S m c t) (iblk m c 2 t) (iblk m c 3 t) (iblk m c 4 t)) : sProp (MT nD τ sig Unit (Elt F) ℕ (UR sig nD τ) ℕ))
      ⊢ (dats m 0 c).leavesExact 6 t := by
  have hi : cfg0.idle 6 (cfg0.grid.coords t) = false := by
    rw [show cfg0.idle 6 (cfg0.grid.coords t) = _ from idle_6 t, decide_eq_true h]; rfl
  unfold Dat.leavesExact; rw [hi, after_6, pt_self t 3 (by omega)]
  exact Idealize.SL.BI.Entails.refl _

/-! ## Window 7: stored into at the blocks of columns from 4 to 5 -/

/-- The points at which the body does not store into window 7. -/
theorem idle_7 : ∀ t : Fin cfg0.N, cfg0.idle 7 (grid0.coords t) = !decide (4 ≤ t.val % 16 ∧ t.val % 16 ≤ 5) := by
  decide +kernel

/-- Its buffer holds nothing the body has stored before the first of these and since the last write-back. -/
theorem fresh_7 (t : Fin cfg0.N) : cfg0.fresh 7 t.val = decide (t.val % 16 ≤ 5) :=
  Pipeline.Cfg.fresh_tab cfg0 7 (fun n => decide (n % 16 ≤ 5)) rfl (by decide +kernel) t.val (Nat.le_of_lt t.isLt)

/-- Where it is written back without having been stored into, the body has stored into it before. -/
theorem back_7 : ∀ t : Fin cfg0.N, cfg0.idle 7 (grid0.coords t) = true → (cfg0.win 7).flush t = true → 5 < t.val % 16 := by
  decide +kernel

/-- Where the body does not store into window 7, its buffer holds what it held at the point before. -/
theorem carry_7 (c : Dev nD) (t : Fin cfg0.N) (_ : t.val ≠ 0) (_ : cfg0.idle 7 (grid0.coords t) = true)
    (hf : cfg0.fresh 7 t.val = false) : (dats m 0 c).after 7 t = (dats m 0 c).after 7 ⟨t.val - 1, by omega⟩ := by
  rw [fresh_7, decide_eq_false_iff_not] at hf
  rw [after_7, after_7]
  exact congrArg (Q7 m c) (pt_pred t 5 (by omega)).symm

/-- Away from these blocks of columns its buffer is left as it was. -/
theorem keep_7 (c : Dev nD) (t : Fin cfg0.N) (h : ¬(4 ≤ t.val % 16 ∧ t.val % 16 ≤ 5)) :
    (iprop(∃ d, owns (c : Thread nD τ) (ms_7 t) fullShare ((dats m 0 c).before 7 t d)) : sProp (MT nD τ sig Unit (Elt F) ℕ (UR sig nD τ) ℕ))
      ⊢ (dats m 0 c).leavesExact 7 t := by
  have hi : cfg0.idle 7 (cfg0.grid.coords t) = true := by
    rw [show cfg0.idle 7 (cfg0.grid.coords t) = _ from idle_7 t, decide_eq_false h]; rfl
  cases hf : (cfg0.win 7).flush t with
  | false =>
    rw [Dat.leavesExact_idle (dats m 0 c) 7 t hi hf]
  | true =>
    have hb := back_7 t hi hf
    have hr : cfg0.fresh 7 t.val = false := by rw [fresh_7, decide_eq_false (by omega)]
    unfold Dat.leavesExact; rw [hi, hf]
    iintro ⟨%d, H⟩
    rw [Dat.before_out_traj (dats m 0 c) 7 rfl (fun _ _ => rfl) (carry_7 m c) t.val t rfl d,
      if_neg (by rw [hr]; exact Bool.false_ne_true), ← carry_7 m c t (by omega) hi hr]
    iexact H

/-- At these blocks of columns its buffer is left at what the body stores. -/
theorem live_7 (c : Dev nD) (t : Fin cfg0.N) (h : 4 ≤ t.val % 16 ∧ t.val % 16 ≤ 5) :
    (owns (c : Thread nD τ) (ms_7 t) fullShare (k0_pay5 (S m c t) (iblk m c 2 t) (iblk m c 3 t) (iblk m c 4 t)) : sProp (MT nD τ sig Unit (Elt F) ℕ (UR sig nD τ) ℕ))
      ⊢ (dats m 0 c).leavesExact 7 t := by
  have hi : cfg0.idle 7 (cfg0.grid.coords t) = false := by
    rw [show cfg0.idle 7 (cfg0.grid.coords t) = _ from idle_7 t, decide_eq_true h]; rfl
  unfold Dat.leavesExact; rw [hi, after_7, pt_self t 5 (by omega)]
  exact Idealize.SL.BI.Entails.refl _

/-! ## Window 8: stored into at the blocks of columns from 4 to 5 -/

/-- The points at which the body does not store into window 8. -/
theorem idle_8 : ∀ t : Fin cfg0.N, cfg0.idle 8 (grid0.coords t) = !decide (4 ≤ t.val % 16 ∧ t.val % 16 ≤ 5) := by
  decide +kernel

/-- Its buffer holds nothing the body has stored before the first of these and since the last write-back. -/
theorem fresh_8 (t : Fin cfg0.N) : cfg0.fresh 8 t.val = decide (t.val % 16 ≤ 5) :=
  Pipeline.Cfg.fresh_tab cfg0 8 (fun n => decide (n % 16 ≤ 5)) rfl (by decide +kernel) t.val (Nat.le_of_lt t.isLt)

/-- Where it is written back without having been stored into, the body has stored into it before. -/
theorem back_8 : ∀ t : Fin cfg0.N, cfg0.idle 8 (grid0.coords t) = true → (cfg0.win 8).flush t = true → 5 < t.val % 16 := by
  decide +kernel

/-- Where the body does not store into window 8, its buffer holds what it held at the point before. -/
theorem carry_8 (c : Dev nD) (t : Fin cfg0.N) (_ : t.val ≠ 0) (_ : cfg0.idle 8 (grid0.coords t) = true)
    (hf : cfg0.fresh 8 t.val = false) : (dats m 0 c).after 8 t = (dats m 0 c).after 8 ⟨t.val - 1, by omega⟩ := by
  rw [fresh_8, decide_eq_false_iff_not] at hf
  rw [after_8, after_8]
  exact congrArg (Q8 m c) (pt_pred t 5 (by omega)).symm

/-- Away from these blocks of columns its buffer is left as it was. -/
theorem keep_8 (c : Dev nD) (t : Fin cfg0.N) (h : ¬(4 ≤ t.val % 16 ∧ t.val % 16 ≤ 5)) :
    (iprop(∃ d, owns (c : Thread nD τ) (ms_8 t) fullShare ((dats m 0 c).before 8 t d)) : sProp (MT nD τ sig Unit (Elt F) ℕ (UR sig nD τ) ℕ))
      ⊢ (dats m 0 c).leavesExact 8 t := by
  have hi : cfg0.idle 8 (cfg0.grid.coords t) = true := by
    rw [show cfg0.idle 8 (cfg0.grid.coords t) = _ from idle_8 t, decide_eq_false h]; rfl
  cases hf : (cfg0.win 8).flush t with
  | false =>
    rw [Dat.leavesExact_idle (dats m 0 c) 8 t hi hf]
  | true =>
    have hb := back_8 t hi hf
    have hr : cfg0.fresh 8 t.val = false := by rw [fresh_8, decide_eq_false (by omega)]
    unfold Dat.leavesExact; rw [hi, hf]
    iintro ⟨%d, H⟩
    rw [Dat.before_out_traj (dats m 0 c) 8 rfl (fun _ _ => rfl) (carry_8 m c) t.val t rfl d,
      if_neg (by rw [hr]; exact Bool.false_ne_true), ← carry_8 m c t (by omega) hi hr]
    iexact H

/-- At these blocks of columns its buffer is left at what the body stores. -/
theorem live_8 (c : Dev nD) (t : Fin cfg0.N) (h : 4 ≤ t.val % 16 ∧ t.val % 16 ≤ 5) :
    (owns (c : Thread nD τ) (ms_8 t) fullShare (k0_pay6 (S m c t) (iblk m c 2 t) (iblk m c 3 t) (iblk m c 4 t)) : sProp (MT nD τ sig Unit (Elt F) ℕ (UR sig nD τ) ℕ))
      ⊢ (dats m 0 c).leavesExact 8 t := by
  have hi : cfg0.idle 8 (cfg0.grid.coords t) = false := by
    rw [show cfg0.idle 8 (cfg0.grid.coords t) = _ from idle_8 t, decide_eq_true h]; rfl
  unfold Dat.leavesExact; rw [hi, after_8, pt_self t 5 (by omega)]
  exact Idealize.SL.BI.Entails.refl _

/-! ## Window 9: stored into at the blocks of columns from 6 to 7 -/

/-- The points at which the body does not store into window 9. -/
theorem idle_9 : ∀ t : Fin cfg0.N, cfg0.idle 9 (grid0.coords t) = !decide (6 ≤ t.val % 16 ∧ t.val % 16 ≤ 7) := by
  decide +kernel

/-- Its buffer holds nothing the body has stored before the first of these and since the last write-back. -/
theorem fresh_9 (t : Fin cfg0.N) : cfg0.fresh 9 t.val = decide (t.val % 16 ≤ 7) :=
  Pipeline.Cfg.fresh_tab cfg0 9 (fun n => decide (n % 16 ≤ 7)) rfl (by decide +kernel) t.val (Nat.le_of_lt t.isLt)

/-- Where it is written back without having been stored into, the body has stored into it before. -/
theorem back_9 : ∀ t : Fin cfg0.N, cfg0.idle 9 (grid0.coords t) = true → (cfg0.win 9).flush t = true → 7 < t.val % 16 := by
  decide +kernel

/-- Where the body does not store into window 9, its buffer holds what it held at the point before. -/
theorem carry_9 (c : Dev nD) (t : Fin cfg0.N) (_ : t.val ≠ 0) (_ : cfg0.idle 9 (grid0.coords t) = true)
    (hf : cfg0.fresh 9 t.val = false) : (dats m 0 c).after 9 t = (dats m 0 c).after 9 ⟨t.val - 1, by omega⟩ := by
  rw [fresh_9, decide_eq_false_iff_not] at hf
  rw [after_9, after_9]
  exact congrArg (Q9 m c) (pt_pred t 7 (by omega)).symm

/-- Away from these blocks of columns its buffer is left as it was. -/
theorem keep_9 (c : Dev nD) (t : Fin cfg0.N) (h : ¬(6 ≤ t.val % 16 ∧ t.val % 16 ≤ 7)) :
    (iprop(∃ d, owns (c : Thread nD τ) (ms_9 t) fullShare ((dats m 0 c).before 9 t d)) : sProp (MT nD τ sig Unit (Elt F) ℕ (UR sig nD τ) ℕ))
      ⊢ (dats m 0 c).leavesExact 9 t := by
  have hi : cfg0.idle 9 (cfg0.grid.coords t) = true := by
    rw [show cfg0.idle 9 (cfg0.grid.coords t) = _ from idle_9 t, decide_eq_false h]; rfl
  cases hf : (cfg0.win 9).flush t with
  | false =>
    rw [Dat.leavesExact_idle (dats m 0 c) 9 t hi hf]
  | true =>
    have hb := back_9 t hi hf
    have hr : cfg0.fresh 9 t.val = false := by rw [fresh_9, decide_eq_false (by omega)]
    unfold Dat.leavesExact; rw [hi, hf]
    iintro ⟨%d, H⟩
    rw [Dat.before_out_traj (dats m 0 c) 9 rfl (fun _ _ => rfl) (carry_9 m c) t.val t rfl d,
      if_neg (by rw [hr]; exact Bool.false_ne_true), ← carry_9 m c t (by omega) hi hr]
    iexact H

/-- At these blocks of columns its buffer is left at what the body stores. -/
theorem live_9 (c : Dev nD) (t : Fin cfg0.N) (h : 6 ≤ t.val % 16 ∧ t.val % 16 ≤ 7) :
    (owns (c : Thread nD τ) (ms_9 t) fullShare (k0_pay7 (S m c t) (iblk m c 2 t)) : sProp (MT nD τ sig Unit (Elt F) ℕ (UR sig nD τ) ℕ))
      ⊢ (dats m 0 c).leavesExact 9 t := by
  have hi : cfg0.idle 9 (cfg0.grid.coords t) = false := by
    rw [show cfg0.idle 9 (cfg0.grid.coords t) = _ from idle_9 t, decide_eq_true h]; rfl
  unfold Dat.leavesExact; rw [hi, after_9, pt_self t 7 (by omega)]
  exact Idealize.SL.BI.Entails.refl _

/-! ## Window 10: stored into at the blocks of columns from 6 to 7 -/

/-- The points at which the body does not store into window 10. -/
theorem idle_10 : ∀ t : Fin cfg0.N, cfg0.idle 10 (grid0.coords t) = !decide (6 ≤ t.val % 16 ∧ t.val % 16 ≤ 7) := by
  decide +kernel

/-- Its buffer holds nothing the body has stored before the first of these and since the last write-back. -/
theorem fresh_10 (t : Fin cfg0.N) : cfg0.fresh 10 t.val = decide (t.val % 16 ≤ 7) :=
  Pipeline.Cfg.fresh_tab cfg0 10 (fun n => decide (n % 16 ≤ 7)) rfl (by decide +kernel) t.val (Nat.le_of_lt t.isLt)

/-- Where it is written back without having been stored into, the body has stored into it before. -/
theorem back_10 : ∀ t : Fin cfg0.N, cfg0.idle 10 (grid0.coords t) = true → (cfg0.win 10).flush t = true → 7 < t.val % 16 := by
  decide +kernel

/-- Where the body does not store into window 10, its buffer holds what it held at the point before. -/
theorem carry_10 (c : Dev nD) (t : Fin cfg0.N) (_ : t.val ≠ 0) (_ : cfg0.idle 10 (grid0.coords t) = true)
    (hf : cfg0.fresh 10 t.val = false) : (dats m 0 c).after 10 t = (dats m 0 c).after 10 ⟨t.val - 1, by omega⟩ := by
  rw [fresh_10, decide_eq_false_iff_not] at hf
  rw [after_10, after_10]
  exact congrArg (Q10 m c) (pt_pred t 7 (by omega)).symm

/-- Away from these blocks of columns its buffer is left as it was. -/
theorem keep_10 (c : Dev nD) (t : Fin cfg0.N) (h : ¬(6 ≤ t.val % 16 ∧ t.val % 16 ≤ 7)) :
    (iprop(∃ d, owns (c : Thread nD τ) (ms_10 t) fullShare ((dats m 0 c).before 10 t d)) : sProp (MT nD τ sig Unit (Elt F) ℕ (UR sig nD τ) ℕ))
      ⊢ (dats m 0 c).leavesExact 10 t := by
  have hi : cfg0.idle 10 (cfg0.grid.coords t) = true := by
    rw [show cfg0.idle 10 (cfg0.grid.coords t) = _ from idle_10 t, decide_eq_false h]; rfl
  cases hf : (cfg0.win 10).flush t with
  | false =>
    rw [Dat.leavesExact_idle (dats m 0 c) 10 t hi hf]
  | true =>
    have hb := back_10 t hi hf
    have hr : cfg0.fresh 10 t.val = false := by rw [fresh_10, decide_eq_false (by omega)]
    unfold Dat.leavesExact; rw [hi, hf]
    iintro ⟨%d, H⟩
    rw [Dat.before_out_traj (dats m 0 c) 10 rfl (fun _ _ => rfl) (carry_10 m c) t.val t rfl d,
      if_neg (by rw [hr]; exact Bool.false_ne_true), ← carry_10 m c t (by omega) hi hr]
    iexact H

/-- At these blocks of columns its buffer is left at what the body stores. -/
theorem live_10 (c : Dev nD) (t : Fin cfg0.N) (h : 6 ≤ t.val % 16 ∧ t.val % 16 ≤ 7) :
    (owns (c : Thread nD τ) (ms_10 t) fullShare (k0_pay8 (S m c t) (iblk m c 2 t)) : sProp (MT nD τ sig Unit (Elt F) ℕ (UR sig nD τ) ℕ))
      ⊢ (dats m 0 c).leavesExact 10 t := by
  have hi : cfg0.idle 10 (cfg0.grid.coords t) = false := by
    rw [show cfg0.idle 10 (cfg0.grid.coords t) = _ from idle_10 t, decide_eq_true h]; rfl
  unfold Dat.leavesExact; rw [hi, after_10, pt_self t 7 (by omega)]
  exact Idealize.SL.BI.Entails.refl _

/-! ## Window 11: stored into at the blocks of columns from 8 to 11 -/

/-- The points at which the body does not store into window 11. -/
theorem idle_11 : ∀ t : Fin cfg0.N, cfg0.idle 11 (grid0.coords t) = !decide (8 ≤ t.val % 16 ∧ t.val % 16 ≤ 11) := by
  decide +kernel

/-- Its buffer holds nothing the body has stored before the first of these and since the last write-back. -/
theorem fresh_11 (t : Fin cfg0.N) : cfg0.fresh 11 t.val = decide (t.val % 16 ≤ 11) :=
  Pipeline.Cfg.fresh_tab cfg0 11 (fun n => decide (n % 16 ≤ 11)) rfl (by decide +kernel) t.val (Nat.le_of_lt t.isLt)

/-- Where it is written back without having been stored into, the body has stored into it before. -/
theorem back_11 : ∀ t : Fin cfg0.N, cfg0.idle 11 (grid0.coords t) = true → (cfg0.win 11).flush t = true → 11 < t.val % 16 := by
  decide +kernel

/-- Where the body does not store into window 11, its buffer holds what it held at the point before. -/
theorem carry_11 (c : Dev nD) (t : Fin cfg0.N) (_ : t.val ≠ 0) (_ : cfg0.idle 11 (grid0.coords t) = true)
    (hf : cfg0.fresh 11 t.val = false) : (dats m 0 c).after 11 t = (dats m 0 c).after 11 ⟨t.val - 1, by omega⟩ := by
  rw [fresh_11, decide_eq_false_iff_not] at hf
  rw [after_11, after_11]
  exact congrArg (Q11 m c) (pt_pred t 11 (by omega)).symm

/-- Away from these blocks of columns its buffer is left as it was. -/
theorem keep_11 (c : Dev nD) (t : Fin cfg0.N) (h : ¬(8 ≤ t.val % 16 ∧ t.val % 16 ≤ 11)) :
    (iprop(∃ d, owns (c : Thread nD τ) (ms_11 t) fullShare ((dats m 0 c).before 11 t d)) : sProp (MT nD τ sig Unit (Elt F) ℕ (UR sig nD τ) ℕ))
      ⊢ (dats m 0 c).leavesExact 11 t := by
  have hi : cfg0.idle 11 (cfg0.grid.coords t) = true := by
    rw [show cfg0.idle 11 (cfg0.grid.coords t) = _ from idle_11 t, decide_eq_false h]; rfl
  cases hf : (cfg0.win 11).flush t with
  | false =>
    rw [Dat.leavesExact_idle (dats m 0 c) 11 t hi hf]
  | true =>
    have hb := back_11 t hi hf
    have hr : cfg0.fresh 11 t.val = false := by rw [fresh_11, decide_eq_false (by omega)]
    unfold Dat.leavesExact; rw [hi, hf]
    iintro ⟨%d, H⟩
    rw [Dat.before_out_traj (dats m 0 c) 11 rfl (fun _ _ => rfl) (carry_11 m c) t.val t rfl d,
      if_neg (by rw [hr]; exact Bool.false_ne_true), ← carry_11 m c t (by omega) hi hr]
    iexact H

/-- At these blocks of columns its buffer is left at what the body stores. -/
theorem live_11 (c : Dev nD) (t : Fin cfg0.N) (h : 8 ≤ t.val % 16 ∧ t.val % 16 ≤ 11) :
    (owns (c : Thread nD τ) (ms_11 t) fullShare (k0_pay9 (S m c t) (iblk m c 2 t)) : sProp (MT nD τ sig Unit (Elt F) ℕ (UR sig nD τ) ℕ))
      ⊢ (dats m 0 c).leavesExact 11 t := by
  have hi : cfg0.idle 11 (cfg0.grid.coords t) = false := by
    rw [show cfg0.idle 11 (cfg0.grid.coords t) = _ from idle_11 t, decide_eq_true h]; rfl
  unfold Dat.leavesExact; rw [hi, after_11, pt_self t 11 (by omega)]
  exact Idealize.SL.BI.Entails.refl _

/-! ## Window 12: stored into at the blocks of columns from 12 to 15 -/

/-- The points at which the body does not store into window 12. -/
theorem idle_12 : ∀ t : Fin cfg0.N, cfg0.idle 12 (grid0.coords t) = !decide (12 ≤ t.val % 16 ∧ t.val % 16 ≤ 15) := by
  decide +kernel

/-- Its buffer holds nothing the body has stored before the first of these and since the last write-back. -/
theorem fresh_12 (t : Fin cfg0.N) : cfg0.fresh 12 t.val = decide (t.val % 16 ≤ 15) :=
  Pipeline.Cfg.fresh_tab cfg0 12 (fun n => decide (n % 16 ≤ 15)) rfl (by decide +kernel) t.val (Nat.le_of_lt t.isLt)

/-- Where it is written back without having been stored into, the body has stored into it before. -/
theorem back_12 : ∀ t : Fin cfg0.N, cfg0.idle 12 (grid0.coords t) = true → (cfg0.win 12).flush t = true → 15 < t.val % 16 := by
  decide +kernel

/-- Where the body does not store into window 12, its buffer holds what it held at the point before. -/
theorem carry_12 (c : Dev nD) (t : Fin cfg0.N) (_ : t.val ≠ 0) (_ : cfg0.idle 12 (grid0.coords t) = true)
    (hf : cfg0.fresh 12 t.val = false) : (dats m 0 c).after 12 t = (dats m 0 c).after 12 ⟨t.val - 1, by omega⟩ := by
  rw [fresh_12, decide_eq_false_iff_not] at hf
  rw [after_12, after_12]
  exact congrArg (Q12 m c) (pt_pred t 15 (by omega)).symm

/-- Away from these blocks of columns its buffer is left as it was. -/
theorem keep_12 (c : Dev nD) (t : Fin cfg0.N) (h : ¬(12 ≤ t.val % 16 ∧ t.val % 16 ≤ 15)) :
    (iprop(∃ d, owns (c : Thread nD τ) (ms_12 t) fullShare ((dats m 0 c).before 12 t d)) : sProp (MT nD τ sig Unit (Elt F) ℕ (UR sig nD τ) ℕ))
      ⊢ (dats m 0 c).leavesExact 12 t := by
  have hi : cfg0.idle 12 (cfg0.grid.coords t) = true := by
    rw [show cfg0.idle 12 (cfg0.grid.coords t) = _ from idle_12 t, decide_eq_false h]; rfl
  cases hf : (cfg0.win 12).flush t with
  | false =>
    rw [Dat.leavesExact_idle (dats m 0 c) 12 t hi hf]
  | true =>
    have hb := back_12 t hi hf
    have hr : cfg0.fresh 12 t.val = false := by rw [fresh_12, decide_eq_false (by omega)]
    unfold Dat.leavesExact; rw [hi, hf]
    iintro ⟨%d, H⟩
    rw [Dat.before_out_traj (dats m 0 c) 12 rfl (fun _ _ => rfl) (carry_12 m c) t.val t rfl d,
      if_neg (by rw [hr]; exact Bool.false_ne_true), ← carry_12 m c t (by omega) hi hr]
    iexact H

/-- At these blocks of columns its buffer is left at what the body stores. -/
theorem live_12 (c : Dev nD) (t : Fin cfg0.N) (h : 12 ≤ t.val % 16 ∧ t.val % 16 ≤ 15) :
    (owns (c : Thread nD τ) (ms_12 t) fullShare (k0_pay1 (S m c t) (iblk m c 2 t)) : sProp (MT nD τ sig Unit (Elt F) ℕ (UR sig nD τ) ℕ))
      ⊢ (dats m 0 c).leavesExact 12 t := by
  have hi : cfg0.idle 12 (cfg0.grid.coords t) = false := by
    rw [show cfg0.idle 12 (cfg0.grid.coords t) = _ from idle_12 t, decide_eq_true h]; rfl
  unfold Dat.leavesExact; rw [hi, after_12, pt_self t 15 (by omega)]
  exact Idealize.SL.BI.Entails.refl _

/-! ## The body at a point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The body at the first block of columns. -/
theorem bodyA (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl,
    show (dats m 0 c).Φ t.succ = PhiS m c (t.val + 1) t.isLt from rfl, PhiS_succ, PhiS_castSucc m c t]
  rw [S_first m c t h]
  by_cases hz : t.val = 0
  · rw [PhiS_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) _ _ _ _ _ _ _ _ _ _ _ _ _ _ _ _ _ _ _ _ _ _ _ _ _ _ _ _ ((first_iff t).mpr (by omega)) ((cond2_iff t).mpr (by omega)) (fun h => by have := (cond3_iff t).mp h; omega) (fun h => by have := (cond4_iff t).mp h; omega) (fun h => by have := (cond5_iff t).mp h; omega) (fun h => by have := (cond6_iff t).mp h; omega) (fun h => by have := (cond7_iff t).mp h; omega) (iblk m c 0 t) (iblk m c 1 t) (iblk m c 2 t) Set.univ _)
    isplitl [H0]; · iexact H0
    isplitl [H1]; · iexact H1
    isplitl [H2]; · iexact H2
    isplitl [H5]; · iexists _; iexact H5
    isplitl [HS]; · iexact HS
    iintro ⟨H0, H1, H2, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (live_5 m c t (by omega)); rw [S_first m c t h]; iexact H5
    isplitl [H6]; · iapply (keep_6 m c t (by omega)); iexists _; iexact H6
    isplitl [H7]; · iapply (keep_7 m c t (by omega)); iexists _; iexact H7
    isplitl [H8]; · iapply (keep_8 m c t (by omega)); iexists _; iexact H8
    isplitl [H9]; · iapply (keep_9 m c t (by omega)); iexists _; iexact H9
    isplitl [H10]; · iapply (keep_10 m c t (by omega)); iexists _; iexact H10
    isplitl [H11]; · iapply (keep_11 m c t (by omega)); iexists _; iexact H11
    iapply (keep_12 m c t (by omega)); iexists _; iexact H12
  · rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) _ _ _ _ _ _ _ _ _ _ _ _ _ _ _ _ _ _ _ _ _ _ _ _ _ _ _ _ ((first_iff t).mpr (by omega)) ((cond2_iff t).mpr (by omega)) (fun h => by have := (cond3_iff t).mp h; omega) (fun h => by have := (cond4_iff t).mp h; omega) (fun h => by have := (cond5_iff t).mp h; omega) (fun h => by have := (cond6_iff t).mp h; omega) (fun h => by have := (cond7_iff t).mp h; omega) (iblk m c 0 t) (iblk m c 1 t) (iblk m c 2 t) Set.univ _)
    isplitl [H0]; · iexact H0
    isplitl [H1]; · iexact H1
    isplitl [H2]; · iexact H2
    isplitl [H5]; · iexists _; iexact H5
    isplitl [HS]; · iexists _; iexact HS
    iintro ⟨H0, H1, H2, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (live_5 m c t (by omega)); rw [S_first m c t h]; iexact H5
    isplitl [H6]; · iapply (keep_6 m c t (by omega)); iexists _; iexact H6
    isplitl [H7]; · iapply (keep_7 m c t (by omega)); iexists _; iexact H7
    isplitl [H8]; · iapply (keep_8 m c t (by omega)); iexists _; iexact H8
    isplitl [H9]; · iapply (keep_9 m c t (by omega)); iexists _; iexact H9
    isplitl [H10]; · iapply (keep_10 m c t (by omega)); iexists _; iexact H10
    isplitl [H11]; · iapply (keep_11 m c t (by omega)); iexists _; iexact H11
    iapply (keep_12 m c t (by omega)); iexists _; iexact H12

/-- The body at the second block of columns. -/
theorem bodyB (c : Dev nD) (t : Fin cfg0.N) (h : ¬t.val % 16 = 0) (h' : 0 ≤ t.val % 16 ∧ t.val % 16 ≤ 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl,
    show (dats m 0 c).Φ t.succ = PhiS m c (t.val + 1) t.isLt from rfl, PhiS_succ, PhiS_castSucc m c t]
  rw [PhiS_pos m c _ _ (by omega), S_pred m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runB c (grid0.coords t) _ _ _ _ _ _ _ _ _ _ _ _ _ _ _ _ _ _ _ _ _ _ _ _ _ _ _ _ (fun h => by have := (first_iff t).mp h; omega) ((cond2_iff t).mpr (by omega)) (fun h => by have := (cond3_iff t).mp h; omega) (fun h => by have := (cond4_iff t).mp h; omega) (fun h => by have := (cond5_iff t).mp h; omega) (fun h => by have := (cond6_iff t).mp h; omega) (fun h => by have := (cond7_iff t).mp h; omega) (iblk m c 2 t) (S m c t) Set.univ _)
  isplitl [H2]; · iexact H2
  isplitl [H5]; · iexists _; iexact H5
  isplitl [HS]; · iexact HS
  iintro ⟨H2, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (live_5 m c t (by omega)); iexact H5
  isplitl [H6]; · iapply (keep_6 m c t (by omega)); iexists _; iexact H6
  isplitl [H7]; · iapply (keep_7 m c t (by omega)); iexists _; iexact H7
  isplitl [H8]; · iapply (keep_8 m c t (by omega)); iexists _; iexact H8
  isplitl [H9]; · iapply (keep_9 m c t (by omega)); iexists _; iexact H9
  isplitl [H10]; · iapply (keep_10 m c t (by omega)); iexists _; iexact H10
  isplitl [H11]; · iapply (keep_11 m c t (by omega)); iexists _; iexact H11
  iapply (keep_12 m c t (by omega)); iexists _; iexact H12

/-- The body at the blocks of columns of the queries. -/
theorem bodyC (c : Dev nD) (t : Fin cfg0.N) (h : ¬t.val % 16 = 0) (h' : 2 ≤ t.val % 16 ∧ t.val % 16 ≤ 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl,
    show (dats m 0 c).Φ t.succ = PhiS m c (t.val + 1) t.isLt from rfl, PhiS_succ, PhiS_castSucc m c t]
  rw [PhiS_pos m c _ _ (by omega), S_pred m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runC c (grid0.coords t) _ _ _ _ _ _ _ _ _ _ _ _ _ _ _ _ _ _ _ _ _ _ _ _ _ _ _ _ (fun h => by have := (first_iff t).mp h; omega) (fun h => by have := (cond2_iff t).mp h; omega) ((cond3_iff t).mpr (by omega)) (fun h => by have := (cond4_iff t).mp h; omega) (fun h => by have := (cond5_iff t).mp h; omega) (fun h => by have := (cond6_iff t).mp h; omega) (fun h => by have := (cond7_iff t).mp h; omega) (iblk m c 2 t) (iblk m c 3 t) (iblk m c 4 t) (S m c t) Set.univ _)
  isplitl [H2]; · iexact H2
  isplitl [H3]; · iexact H3
  isplitl [H4]; · iexact H4
  isplitl [H6]; · iexists _; iexact H6
  isplitl [HS]; · iexact HS
  iintro ⟨H2, H3, H4, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (keep_5 m c t (by omega)); iexists _; iexact H5
  isplitl [H6]; · iapply (live_6 m c t (by omega)); iexact H6
  isplitl [H7]; · iapply (keep_7 m c t (by omega)); iexists _; iexact H7
  isplitl [H8]; · iapply (keep_8 m c t (by omega)); iexists _; iexact H8
  isplitl [H9]; · iapply (keep_9 m c t (by omega)); iexists _; iexact H9
  isplitl [H10]; · iapply (keep_10 m c t (by omega)); iexists _; iexact H10
  isplitl [H11]; · iapply (keep_11 m c t (by omega)); iexists _; iexact H11
  iapply (keep_12 m c t (by omega)); iexists _; iexact H12

/-- The body at the blocks of columns of the keys. -/
theorem bodyD (c : Dev nD) (t : Fin cfg0.N) (h : ¬t.val % 16 = 0) (h' : 4 ≤ t.val % 16 ∧ t.val % 16 ≤ 5) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl,
    show (dats m 0 c).Φ t.succ = PhiS m c (t.val + 1) t.isLt from rfl, PhiS_succ, PhiS_castSucc m c t]
  rw [PhiS_pos m c _ _ (by omega), S_pred m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runD c (grid0.coords t) _ _ _ _ _ _ _ _ _ _ _ _ _ _ _ _ _ _ _ _ _ _ _ _ _ _ _ _ (fun h => by have := (first_iff t).mp h; omega) (fun h => by have := (cond2_iff t).mp h; omega) (fun h => by have := (cond3_iff t).mp h; omega) ((cond4_iff t).mpr (by omega)) (fun h => by have := (cond5_iff t).mp h; omega) (fun h => by have := (cond6_iff t).mp h; omega) (fun h => by have := (cond7_iff t).mp h; omega) (iblk m c 2 t) (iblk m c 3 t) (iblk m c 4 t) (S m c t) Set.univ _)
  isplitl [H2]; · iexact H2
  isplitl [H3]; · iexact H3
  isplitl [H4]; · iexact H4
  isplitl [H7]; · iexists _; iexact H7
  isplitl [H8]; · iexists _; iexact H8
  isplitl [HS]; · iexact HS
  iintro ⟨H2, H3, H4, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (keep_5 m c t (by omega)); iexists _; iexact H5
  isplitl [H6]; · iapply (keep_6 m c t (by omega)); iexists _; iexact H6
  isplitl [H7]; · iapply (live_7 m c t (by omega)); iexact H7
  isplitl [H8]; · iapply (live_8 m c t (by omega)); iexact H8
  isplitl [H9]; · iapply (keep_9 m c t (by omega)); iexists _; iexact H9
  isplitl [H10]; · iapply (keep_10 m c t (by omega)); iexists _; iexact H10
  isplitl [H11]; · iapply (keep_11 m c t (by omega)); iexists _; iexact H11
  iapply (keep_12 m c t (by omega)); iexists _; iexact H12

/-- The body at the blocks of columns of the values. -/
theorem bodyE (c : Dev nD) (t : Fin cfg0.N) (h : ¬t.val % 16 = 0) (h' : 6 ≤ t.val % 16 ∧ t.val % 16 ≤ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl,
    show (dats m 0 c).Φ t.succ = PhiS m c (t.val + 1) t.isLt from rfl, PhiS_succ, PhiS_castSucc m c t]
  rw [PhiS_pos m c _ _ (by omega), S_pred m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runE c (grid0.coords t) _ _ _ _ _ _ _ _ _ _ _ _ _ _ _ _ _ _ _ _ _ _ _ _ _ _ _ _ (fun h => by have := (first_iff t).mp h; omega) (fun h => by have := (cond2_iff t).mp h; omega) (fun h => by have := (cond3_iff t).mp h; omega) (fun h => by have := (cond4_iff t).mp h; omega) ((cond5_iff t).mpr (by omega)) (fun h => by have := (cond6_iff t).mp h; omega) (fun h => by have := (cond7_iff t).mp h; omega) (iblk m c 2 t) (S m c t) Set.univ _)
  isplitl [H2]; · iexact H2
  isplitl [H9]; · iexists _; iexact H9
  isplitl [H10]; · iexists _; iexact H10
  isplitl [HS]; · iexact HS
  iintro ⟨H2, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (keep_5 m c t (by omega)); iexists _; iexact H5
  isplitl [H6]; · iapply (keep_6 m c t (by omega)); iexists _; iexact H6
  isplitl [H7]; · iapply (keep_7 m c t (by omega)); iexists _; iexact H7
  isplitl [H8]; · iapply (keep_8 m c t (by omega)); iexists _; iexact H8
  isplitl [H9]; · iapply (live_9 m c t (by omega)); iexact H9
  isplitl [H10]; · iapply (live_10 m c t (by omega)); iexact H10
  isplitl [H11]; · iapply (keep_11 m c t (by omega)); iexists _; iexact H11
  iapply (keep_12 m c t (by omega)); iexists _; iexact H12

/-- The body at the blocks of columns of the first gate. -/
theorem bodyF (c : Dev nD) (t : Fin cfg0.N) (h : ¬t.val % 16 = 0) (h' : 8 ≤ t.val % 16 ∧ t.val % 16 ≤ 11) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl,
    show (dats m 0 c).Φ t.succ = PhiS m c (t.val + 1) t.isLt from rfl, PhiS_succ, PhiS_castSucc m c t]
  rw [PhiS_pos m c _ _ (by omega), S_pred m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runF c (grid0.coords t) _ _ _ _ _ _ _ _ _ _ _ _ _ _ _ _ _ _ _ _ _ _ _ _ _ _ _ _ (fun h => by have := (first_iff t).mp h; omega) (fun h => by have := (cond2_iff t).mp h; omega) (fun h => by have := (cond3_iff t).mp h; omega) (fun h => by have := (cond4_iff t).mp h; omega) (fun h => by have := (cond5_iff t).mp h; omega) ((cond6_iff t).mpr (by omega)) (fun h => by have := (cond7_iff t).mp h; omega) (iblk m c 2 t) (S m c t) Set.univ _)
  isplitl [H2]; · iexact H2
  isplitl [H11]; · iexists _; iexact H11
  isplitl [HS]; · iexact HS
  iintro ⟨H2, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (keep_5 m c t (by omega)); iexists _; iexact H5
  isplitl [H6]; · iapply (keep_6 m c t (by omega)); iexists _; iexact H6
  isplitl [H7]; · iapply (keep_7 m c t (by omega)); iexists _; iexact H7
  isplitl [H8]; · iapply (keep_8 m c t (by omega)); iexists _; iexact H8
  isplitl [H9]; · iapply (keep_9 m c t (by omega)); iexists _; iexact H9
  isplitl [H10]; · iapply (keep_10 m c t (by omega)); iexists _; iexact H10
  isplitl [H11]; · iapply (live_11 m c t (by omega)); iexact H11
  iapply (keep_12 m c t (by omega)); iexists _; iexact H12

/-- The body at the blocks of columns of the second gate. -/
theorem bodyG (c : Dev nD) (t : Fin cfg0.N) (h : ¬t.val % 16 = 0) (h' : 12 ≤ t.val % 16 ∧ t.val % 16 ≤ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl,
    show (dats m 0 c).Φ t.succ = PhiS m c (t.val + 1) t.isLt from rfl, PhiS_succ, PhiS_castSucc m c t]
  rw [PhiS_pos m c _ _ (by omega), S_pred m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runG c (grid0.coords t) _ _ _ _ _ _ _ _ _ _ _ _ _ _ _ _ _ _ _ _ _ _ _ _ _ _ _ _ (fun h => by have := (first_iff t).mp h; omega) (fun h => by have := (cond2_iff t).mp h; omega) (fun h => by have := (cond3_iff t).mp h; omega) (fun h => by have := (cond4_iff t).mp h; omega) (fun h => by have := (cond5_iff t).mp h; omega) (fun h => by have := (cond6_iff t).mp h; omega) ((cond7_iff t).mpr (by omega)) (iblk m c 2 t) (S m c t) Set.univ _)
  isplitl [H2]; · iexact H2
  isplitl [H12]; · iexists _; iexact H12
  isplitl [HS]; · iexact HS
  iintro ⟨H2, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (keep_5 m c t (by omega)); iexists _; iexact H5
  isplitl [H6]; · iapply (keep_6 m c t (by omega)); iexists _; iexact H6
  isplitl [H7]; · iapply (keep_7 m c t (by omega)); iexists _; iexact H7
  isplitl [H8]; · iapply (keep_8 m c t (by omega)); iexists _; iexact H8
  isplitl [H9]; · iapply (keep_9 m c t (by omega)); iexists _; iexact H9
  isplitl [H10]; · iapply (keep_10 m c t (by omega)); iexists _; iexact H10
  isplitl [H11]; · iapply (keep_11 m c t (by omega)); iexists _; iexact H11
  iapply (live_12 m c t (by omega)); iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact bodyA m c t h0
  by_cases h1 : t.val % 16 ≤ 1
  · exact bodyB m c t h0 (by omega)
  by_cases h2 : t.val % 16 ≤ 3
  · exact bodyC m c t h0 (by omega)
  by_cases h3 : t.val % 16 ≤ 5
  · exact bodyD m c t h0 (by omega)
  by_cases h4 : t.val % 16 ≤ 7
  · exact bodyE m c t h0 (by omega)
  by_cases h5 : t.val % 16 ≤ 11
  · exact bodyF m c t h0 (by omega)
  exact bodyG m c t h0 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body keeps to the stated contents at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

-- `θ_run_frame_track`'s implicit arguments are found by unifying its conclusion with this one, which takes unfolding plain
-- definitions in a metavariable's type
set_option backward.isDefEq.respectTransparency.types false in
/-- The launch: every run terminates with the arrays at the stated contents and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run of the program terminates, leaves the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel5Ideal.Inproj

end
-- ==== Proof.InprojPay.lean ====
module

public import proofs.«01_k».proof.Proof.Rms
public import proofs.«01_k».proof.Proof.Gen.Kernel5Ideal.Skeleton
public import Idealize.ShloMosaic.Lib.Pipeline.ValueKit
public import Idealize.ShloMosaic.Lib.Pointwise
public import Idealize.ShloMosaic.Lib.Claim

/-! The blocks the input projection stores, entry by entry, from the blocks it loads. -/

@[expose] public section

set_option maxRecDepth 16384

noncomputable section

open Idealize.ShloMosaic Idealize.ShloMosaic.TcCoe Idealize.SL.Sem
open Cert.Rms

namespace Cert.Kernel5Ideal.Inproj

open Cert.Kernel5Ideal Cert.Kernel5Ideal.Gen

/-- The column of a block that is paired with column `d`: 32 to the right in the first half of a head, 32 to the left in the second. -/
def mate (d : Fin 512) : Fin 512 :=
  if h : d.val % 64 < 32 then ⟨d.val + 32, by omega⟩ else ⟨d.val - 32, by omega⟩

/-- A column's lane within its head is in the first half exactly when its number is. -/
theorem lane_lt : ∀ d : Fin 512, (IntOp.cmpi .slt (IntOp.andi (BitVec.ofNat 32 d.val) 63#32) 32#32 : BitVec 1) = if d.val % 64 < 32 then 1#1 else 0#1 := by
  decide +kernel

/-- An entry of the normalised block. -/
theorem pay2_apply (x : Vec Ideal S1024x2048 .f32) (g : Vec Ideal S1x2048 .f32) (r : Fin 1024) (d : Fin 2048) :
    k0_pay2 x g (ix2 r d) = rms (fun k => x (ix2 r k)) (fun k => g (ix2 0 k)) d := by
  pointwise [k0_pay2]
  rfl

variable (a : Vec Ideal S1024x2048 .bf16) (w : Vec Ideal S2048x512 .bf16) (ct st : Vec Ideal S1024x512 .f32)

/-- An entry of the product. -/
theorem pay7_apply (r : Fin 1024) (d : Fin 512) : k0_pay7 a w (ix2 r d) = ∑ k : Fin 2048, a (ix2 r k) * w (ix2 k d) := by
  pointwise [k0_pay7]

/-- An entry of the product, stored narrower. -/
theorem pay3_apply (r : Fin 1024) (d : Fin 512) : k0_pay3 a w (ix2 r d) = ∑ k : Fin 2048, a (ix2 r k) * w (ix2 k d) := by
  pointwise [k0_pay3]

/-- The same of the values' columns. -/
theorem pay8_apply (r : Fin 1024) (d : Fin 512) : k0_pay8 a w (ix2 r d) = ∑ k : Fin 2048, a (ix2 r k) * w (ix2 k d) :=
  pay7_apply a w r d

/-- An entry of a gate. -/
theorem pay9_apply (r : Fin 1024) (d : Fin 512) : k0_pay9 a w (ix2 r d) = Rms.logistic (∑ k : Fin 2048, a (ix2 r k) * w (ix2 k d)) := by
  pointwise [k0_pay9]
  unfold Cert.Rms.logistic
  simp only [Ideal.ofBits_one_f32]

/-- An entry of the other gate. -/
theorem pay1_apply (r : Fin 1024) (d : Fin 512) : k0_pay1 a w (ix2 r d) = Rms.logistic (∑ k : Fin 2048, a (ix2 r k) * w (ix2 k d)) :=
  pay9_apply a w r d

/-- An entry of the rotated product. -/
theorem pay5_apply (r : Fin 1024) (d : Fin 512) : k0_pay5 a w ct st (ix2 r d) =
    (∑ k : Fin 2048, a (ix2 r k) * w (ix2 k d)) * ct (ix2 r d) + (∑ k : Fin 2048, a (ix2 r k) * w (ix2 k (mate d))) * st (ix2 r d) := by
  pointwise [k0_pay5]
  refine congrArg₂ (· + ·) rfl (congrArg₂ (· * ·) ?_ rfl)
  have hd := d.isLt
  rw [lane_lt d]
  unfold mate
  by_cases h : d.val % 64 < 32
  · rw [dif_pos h, if_pos h]
    refine Eq.trans (b := ∑ k : Fin 2048, a (ix2 r k) * w (ix2 k ⟨(d.val + 512 - 480) % 512, by omega⟩)) rfl ?_
    refine Finset.sum_congr rfl fun k _ => ?_
    congr 3
    apply Fin.ext
    show (d.val + 512 - 480) % 512 = d.val + 32
    omega
  · rw [dif_neg h, if_neg h]
    refine Eq.trans (b := ∑ k : Fin 2048, a (ix2 r k) * w (ix2 k ⟨(d.val + 512 - 32) % 512, by omega⟩)) rfl ?_
    refine Finset.sum_congr rfl fun k _ => ?_
    congr 3
    apply Fin.ext
    show (d.val + 512 - 32) % 512 = d.val - 32
    omega

/-- The same, stored narrower. -/
theorem pay6_apply (r : Fin 1024) (d : Fin 512) : k0_pay6 a w ct st (ix2 r d) =
    (∑ k : Fin 2048, a (ix2 r k) * w (ix2 k d)) * ct (ix2 r d) + (∑ k : Fin 2048, a (ix2 r k) * w (ix2 k (mate d))) * st (ix2 r d) :=
  pay5_apply a w ct st r d

/-- An entry of the rotated and scaled product. -/
theorem pay4_apply (r : Fin 1024) (d : Fin 512) : k0_pay4 a w ct st (ix2 r d) =
    ((∑ k : Fin 2048, a (ix2 r k) * w (ix2 k d)) * ct (ix2 r d) + (∑ k : Fin 2048, a (ix2 r k) * w (ix2 k (mate d))) * st (ix2 r d))
      * Ideal.ofBits .f32 0x3E000000#32 :=
  congrArg (· * Ideal.ofBits .f32 0x3E000000#32) (pay5_apply a w ct st r d)

end Cert.Kernel5Ideal.Inproj
-- ==== Proof.InprojTable.lean ====
module

public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Pipeline.ValueKit
public import Idealize.ShloMosaic.Lib.Pointwise
public import Idealize.ShloMosaic.Lib.Claim

/-! The arrays the input projection loads its blocks from, entry by entry. -/

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen

variable (m : (ℓ : Loc nD τ sig) → Buf (Elt Ideal) ℓ) (c : Dev nD)

/-- The host's operations in three stretches. -/
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- What the first stretch leaves. -/
abbrev V₀ (c : Dev nD) : Valuation τ sig (Elt Ideal) := StableHlo.after hostOps0 (fun b => m (c, b))

/-- What the host's operations leave, in three steps. -/
theorem V_split (b : Ref sig .tc) : V m c b = StableHlo.after hostOps0_2 (StableHlo.after hostOps0_1 (V₀ m c)) b := by
  show StableHlo.after (hostOps0 ++ (hostOps0_1 ++ (hostOps0_2 ++ []))) _ _ = _
  rw [after_append, after_append, List.append_nil]

/-- The rows of the input, laid end to end. -/
theorem x_entry (r : Fin 32768) (d : Fin 2048) : (V m c main_v0 : S32768x2048.Idx → EReal) (ix2 r d) =
    m ((c : Thread nD τ).loc main_arg0) (ix3 ⟨r.val / 8192, by omega⟩ ⟨r.val % 8192, by omega⟩ d) := by
  rw [V_split]
  entry_read
  pointwise

/-- The gain. -/
theorem g_entry (d : Fin 2048) : (V m c main_v31 : S1x2048.Idx → EReal) (ix2 0 d) = m ((c : Thread nD τ).loc main_arg1) (ix2 0 d) := by
  rw [V_split]
  entry_read
  pointwise

/-- The weight. -/
theorem w_entry (k : Fin 2048) (d : Fin 8192) : (V m c main_v33 : S2048x8192.Idx → EReal) (ix2 k d) = m ((c : Thread nD τ).loc main_arg2) (ix3 0 k d) := by
  rw [V_split]
  entry_read
  pointwise

/-- The remainder by 8192 of the positions below 8192, as the host computes it. -/
theorem remainder_pos : ∀ p : Fin 8192,
    (Scalar.select (IntOp.andi (IntOp.cmpi .ne (IntOp.cmpi .slt (IntOp.remsi .host (BitVec.ofNat 32 p.val) 8192#32) 0#32) (IntOp.cmpi .slt 8192#32 0#32))
      (IntOp.cmpi .ne (IntOp.remsi .host (BitVec.ofNat 32 p.val) 8192#32) 0#32)) (IntOp.addi (IntOp.remsi .host (BitVec.ofNat 32 p.val) 8192#32) 8192#32)
      (IntOp.remsi .host (BitVec.ofNat 32 p.val) 8192#32) : BitVec 32) = BitVec.ofNat 32 p.val := by
  decide +kernel

/-- The positions, as the second stretch leaves them. -/
theorem pos_entry (p : Fin 8192) : (StableHlo.after hostOps0_1 (V₀ m c) main_v10 : S8192.Idx → BitVec 32) (ix1 p) = BitVec.ofNat 32 p.val := by
  entry_read
  refine Eq.trans ?_ (remainder_pos p)
  rfl

/-- What a position is multiplied by at a lane: a power of the base. -/
def freq (k : Fin 32) : EReal :=
  Ideal.pow (Ideal.ofBits .f32 0x461C4000#32)
    (Ideal.div (-FloatOps.sitofp (F := Ideal) .f32 (BitVec.ofNat 32 k.val) * Ideal.ofBits .f32 0x40000000#32) (Ideal.ofBits .f32 0x42800000#32))

/-- The angle of a position at a lane. -/
def angle (p : Fin 8192) (k : Fin 32) : EReal :=
  FloatOps.sitofp (F := Ideal) .f32 (BitVec.ofNat 32 p.val) * freq k

/-- The factors of the lanes, as the second stretch leaves them. -/
theorem freq_entry (k : Fin 32) : (StableHlo.after hostOps0_1 (V₀ m c) main_v8 : S32.Idx → EReal) (ix1 k) = freq k := by
  entry_read
  pointwise
  unfold freq
  rfl

/-- The lane, within half a head, of a column. -/
def lane (e : Fin 512) : Fin 32 := ⟨e.val % 32, by omega⟩

/-- The cosines. -/
theorem cos_entry (p : Fin 8192) (e : Fin 512) : (V m c main_v24 : S8192x512.Idx → EReal) (ix2 p e) = Ideal.cos (angle p (lane e)) := by
  rw [V_split]
  have hσ := pos_entry m c p
  have hf := freq_entry m c (lane e)
  generalize StableHlo.after hostOps0_1 (V₀ m c) = σ at hσ hf ⊢
  entry_read
  pointwise
  have he := e.isLt
  have l : ∀ (n : ℕ) (hn : n < 32), n = e.val % 32 → (⟨n, hn⟩ : Fin 32) = lane e := fun n hn h => Fin.ext h
  by_cases h : e.val % 64 < 32
  · rw [dif_pos h, l _ _ (by omega)]
    refine congrArg Ideal.cos (congrArg₂ (· * ·) (congrArg (FloatOps.sitofp (F := Ideal) .f32) ?_) hf)
    refine Eq.trans ?_ hσ
    exact BitVec.zero_add _
  · rw [dif_neg h, l _ _ (by omega)]
    refine congrArg Ideal.cos (congrArg₂ (· * ·) (congrArg (FloatOps.sitofp (F := Ideal) .f32) ?_) hf)
    refine Eq.trans ?_ hσ
    exact BitVec.zero_add _

/-- The sines, negated in the first half of a head. -/
theorem sin_entry (p : Fin 8192) (e : Fin 512) : (V m c main_v29 : S8192x512.Idx → EReal) (ix2 p e) =
    if e.val % 64 < 32 then -Ideal.sin (angle p (lane e)) else Ideal.sin (angle p (lane e)) := by
  rw [V_split]
  have hσ := pos_entry m c p
  have hf := freq_entry m c (lane e)
  generalize StableHlo.after hostOps0_1 (V₀ m c) = σ at hσ hf ⊢
  entry_read
  pointwise
  have he := e.isLt
  have l : ∀ (n : ℕ) (hn : n < 32), n = e.val % 32 → (⟨n, hn⟩ : Fin 32) = lane e := fun n hn h => Fin.ext h
  by_cases h : e.val % 64 < 32
  · rw [dif_pos h, if_pos h, l _ _ (by omega)]
    have A : ∀ y : EReal, y = angle p (lane e) → -Ideal.sin y = -Ideal.sin (angle p (lane e)) := fun y hy => congrArg (fun z => -Ideal.sin z) hy
    refine A _ (congrArg₂ (· * ·) (congrArg (FloatOps.sitofp (F := Ideal) .f32) ?_) hf)
    refine Eq.trans ?_ hσ
    exact BitVec.zero_add _
  · refine Eq.trans ?_ (if_neg h).symm
    refine (dif_neg h).trans ?_
    rw [l _ _ (by omega)]
    have A : ∀ y : EReal, y = angle p (lane e) → Ideal.sin y = Ideal.sin (angle p (lane e)) := fun y hy => congrArg (fun z => Ideal.sin z) hy
    refine A _ (congrArg₂ (· * ·) (congrArg (FloatOps.sitofp (F := Ideal) .f32) ?_) hf)
    refine Eq.trans ?_ hσ
    exact BitVec.zero_add _

end Cert.Kernel5Ideal.Inproj
-- ==== Proof.Inproj.lean ====
module

public import proofs.«01_k».proof.Proof.Rms
public import proofs.«01_k».proof.Proof.InprojPay
public import proofs.«01_k».proof.Proof.InprojTable
public import proofs.«01_k».proof.Proof.InprojFrame
public import Idealize.ShloMosaic.Lib.Pipeline.ValueKit
public import Idealize.ShloMosaic.Lib.Pointwise
public import Idealize.ShloMosaic.Lib.Claim

/-! The eight arrays the input projection leaves, from its arguments. -/

@[expose] public section

set_option maxRecDepth 16384

noncomputable section

open Idealize.ShloMosaic Idealize.ShloMosaic.TcCoe Idealize.SL.Sem
open Cert.Rms

namespace Cert.Kernel5Ideal.Inproj

open Cert.Kernel5Ideal Cert.Kernel5Ideal.Gen

/-- An entry of the projection: the normalised row times a column of the weight. -/
def proj (x : S4x8192x2048.Idx → EReal) (g : S1x2048.Idx → EReal) (w : S1x2048x8192.Idx → EReal) (r : Fin 32768) (n : ℕ) : EReal :=
  ∑ k : Fin 2048, rms (fun k => x (ix3 ⟨r.val / 8192, by omega⟩ ⟨r.val % 8192, by omega⟩ k)) (fun k => g (ix2 0 k)) k
    * w (ix3 0 k ⟨n % 8192, by omega⟩)

/-- The column a column is paired with by the rotation. -/
def mateN (d : ℕ) : ℕ := if d % 64 < 32 then d + 32 else d - 32

/-- The angle of a row at a column. -/
def ang (r : Fin 32768) (d : ℕ) : EReal := angle ⟨r.val % 8192, by omega⟩ ⟨d % 32, by omega⟩

/-- An entry of the rotated projection, its columns counted from `lo`. -/
def rot (x : S4x8192x2048.Idx → EReal) (g : S1x2048.Idx → EReal) (w : S1x2048x8192.Idx → EReal) (lo : ℕ) (r : Fin 32768) (d : ℕ) : EReal :=
  proj x g w r (lo + d) * Ideal.cos (ang r d)
    + proj x g w r (lo + mateN d) * (if d % 64 < 32 then -Ideal.sin (ang r d) else Ideal.sin (ang r d))

variable (m : (ℓ : Loc nD τ sig) → Buf (Elt Ideal) ℓ) (c : Dev nD)

/-- The rows a point takes of the input. -/
theorem idx_0 : ∀ t : Fin cfg0.N, win0_0.index t = ![t.val / 16, 0] := by decide +kernel

/-- A point takes the whole gain. -/
theorem idx_1 : ∀ t : Fin cfg0.N, win0_1.index t = ![0, 0] := by decide +kernel

/-- The columns a point takes of the weight. -/
theorem idx_2 : ∀ t : Fin cfg0.N, win0_2.index t = ![0, t.val % 16] := by decide +kernel

/-- The rows a point takes of the cosines. -/
theorem idx_3 : ∀ t : Fin cfg0.N, win0_3.index t = ![t.val / 16 % 8, 0] := by decide +kernel

/-- The rows a point takes of the sines. -/
theorem idx_4 : ∀ t : Fin cfg0.N, win0_4.index t = ![t.val / 16 % 8, 0] := by decide +kernel

/-- The block of the result a point writes. -/
theorem idx_5 : ∀ t : Fin cfg0.N, win0_5.index t = ![t.val / 16, min (t.val % 16 - 0) 1] := by decide +kernel

/-- No point before block of columns 0 writes this result back. -/
theorem flush_5 : ∀ t : Fin cfg0.N, (cfg0.win 5).flush t = true → 0 ≤ t.val % 16 := by decide +kernel

/-- The blocks cover the result. -/
theorem covers_5 : (cfg0.win 5).Covers := by decide +kernel

/-- The block of the result a point writes. -/
theorem idx_6 : ∀ t : Fin cfg0.N, win0_6.index t = ![t.val / 16, min (t.val % 16 - 2) 1] := by decide +kernel

/-- No point before block of columns 2 writes this result back. -/
theorem flush_6 : ∀ t : Fin cfg0.N, (cfg0.win 6).flush t = true → 2 ≤ t.val % 16 := by decide +kernel

/-- The blocks cover the result. -/
theorem covers_6 : (cfg0.win 6).Covers := by decide +kernel

/-- The block of the result a point writes. -/
theorem idx_7 : ∀ t : Fin cfg0.N, win0_7.index t = ![t.val / 16, min (t.val % 16 - 4) 1] := by decide +kernel

/-- No point before block of columns 4 writes this result back. -/
theorem flush_7 : ∀ t : Fin cfg0.N, (cfg0.win 7).flush t = true → 4 ≤ t.val % 16 := by decide +kernel

/-- The blocks cover the result. -/
theorem covers_7 : (cfg0.win 7).Covers := by decide +kernel

/-- The block of the result a point writes. -/
theorem idx_8 : ∀ t : Fin cfg0.N, win0_8.index t = ![t.val / 16, min (t.val % 16 - 4) 1] := by decide +kernel

/-- No point before block of columns 4 writes this result back. -/
theorem flush_8 : ∀ t : Fin cfg0.N, (cfg0.win 8).flush t = true → 4 ≤ t.val % 16 := by decide +kernel

/-- The blocks cover the result. -/
theorem covers_8 : (cfg0.win 8).Covers := by decide +kernel

/-- The block of the result a point writes. -/
theorem idx_9 : ∀ t : Fin cfg0.N, win0_9.index t = ![t.val / 16, min (t.val % 16 - 6) 1] := by decide +kernel

/-- No point before block of columns 6 writes this result back. -/
theorem flush_9 : ∀ t : Fin cfg0.N, (cfg0.win 9).flush t = true → 6 ≤ t.val % 16 := by decide +kernel

/-- The blocks cover the result. -/
theorem covers_9 : (cfg0.win 9).Covers := by decide +kernel

/-- The block of the result a point writes. -/
theorem idx_10 : ∀ t : Fin cfg0.N, win0_10.index t = ![t.val / 16, min (t.val % 16 - 6) 1] := by decide +kernel

/-- No point before block of columns 6 writes this result back. -/
theorem flush_10 : ∀ t : Fin cfg0.N, (cfg0.win 10).flush t = true → 6 ≤ t.val % 16 := by decide +kernel

/-- The blocks cover the result. -/
theorem covers_10 : (cfg0.win 10).Covers := by decide +kernel

/-- The block of the result a point writes. -/
theorem idx_11 : ∀ t : Fin cfg0.N, win0_11.index t = ![t.val / 16, min (t.val % 16 - 8) 3] := by decide +kernel

/-- No point before block of columns 8 writes this result back. -/
theorem flush_11 : ∀ t : Fin cfg0.N, (cfg0.win 11).flush t = true → 8 ≤ t.val % 16 := by decide +kernel

/-- The blocks cover the result. -/
theorem covers_11 : (cfg0.win 11).Covers := by decide +kernel

/-- The block of the result a point writes. -/
theorem idx_12 : ∀ t : Fin cfg0.N, win0_12.index t = ![t.val / 16, min (t.val % 16 - 12) 3] := by decide +kernel

/-- No point before block of columns 12 writes this result back. -/
theorem flush_12 : ∀ t : Fin cfg0.N, (cfg0.win 12).flush t = true → 12 ≤ t.val % 16 := by decide +kernel

/-- The blocks cover the result. -/
theorem covers_12 : (cfg0.win 12).Covers := by decide +kernel

/-- The grid has 512 points. -/
theorem pt_lt (t : Fin cfg0.N) : t.val < 512 := t.isLt

/-- An entry of the input's block. -/
theorem read_0 (t : Fin cfg0.N) (p : Fin 1024) (k : Fin 2048) :
    (iblk m c 0 t : Vec Ideal S1024x2048 .f32) (ix2 p k) = (V m c main_v0 : S32768x2048.Idx → EReal)
      (ix2 ⟨1024 * (t.val / 16) + p.val, by have := pt_lt t; omega⟩ k) := by
  blk_ext [iblk, idx_0 t]

/-- An entry of the gain's block. -/
theorem read_1 (t : Fin cfg0.N) (k : Fin 2048) :
    (iblk m c 1 t : Vec Ideal S1x2048 .f32) (ix2 0 k) = (V m c main_v31 : S1x2048.Idx → EReal) (ix2 0 k) := by
  blk_ext [iblk, idx_1 t]

/-- An entry of the weight's block. -/
theorem read_2 (t : Fin cfg0.N) (k : Fin 2048) (e : Fin 512) :
    (iblk m c 2 t : Vec Ideal S2048x512 .bf16) (ix2 k e) = (V m c main_v33 : S2048x8192.Idx → EReal)
      (ix2 k ⟨512 * (t.val % 16) + e.val, by omega⟩) := by
  blk_ext [iblk, idx_2 t]

/-- An entry of the cosines' block. -/
theorem read_3 (t : Fin cfg0.N) (p : Fin 1024) (e : Fin 512) :
    (iblk m c 3 t : Vec Ideal S1024x512 .f32) (ix2 p e) = (V m c main_v24 : S8192x512.Idx → EReal)
      (ix2 ⟨1024 * (t.val / 16 % 8) + p.val, by omega⟩ e) := by
  blk_ext [iblk, idx_3 t]

/-- An entry of the sines' block. -/
theorem read_4 (t : Fin cfg0.N) (p : Fin 1024) (e : Fin 512) :
    (iblk m c 4 t : Vec Ideal S1024x512 .f32) (ix2 p e) = (V m c main_v29 : S8192x512.Idx → EReal)
      (ix2 ⟨1024 * (t.val / 16 % 8) + p.val, by omega⟩ e) := by
  blk_ext [iblk, idx_4 t]

/-- The row of a point's block at offset `p`. -/
def row (t : Fin cfg0.N) (p : Fin 1024) : Fin 32768 := ⟨1024 * (t.val / 16) + p.val, by have := pt_lt t; omega⟩

/-- An entry of the normalised rows. -/
theorem S_apply (t : Fin cfg0.N) (p : Fin 1024) (k : Fin 2048) : S m c t (ix2 p k) =
    rms (fun k => (m ((c : Thread nD τ).loc main_arg0) : S4x8192x2048.Idx → EReal)
      (ix3 ⟨(row t p).val / 8192, by have := (row t p).isLt; omega⟩ ⟨(row t p).val % 8192, by omega⟩ k))
      (fun k => (m ((c : Thread nD τ).loc main_arg1) : S1x2048.Idx → EReal) (ix2 0 k)) k := by
  unfold S
  have ht := pt_lt t
  have hr : ∀ h, (⟨1024 * ((pt t 0).val / 16) + p.val, h⟩ : Fin 32768) = row t p := fun h =>
    Fin.ext (by show 1024 * ((16 * (t.val / 16) + min (t.val % 16) 0) / 16) + p.val = 1024 * (t.val / 16) + p.val; omega)
  rw [pay2_apply]
  simp only [read_0, read_1]
  simp only [hr]
  exact congrFun (congrArg₂ rms (funext fun k => x_entry m c _ k) (funext fun k => g_entry m c k)) k

/-- An entry of a point's product. -/
theorem prod_apply (t : Fin cfg0.N) (p : Fin 1024) (e : Fin 512) (n : ℕ) (hn : n = 512 * (t.val % 16) + e.val) :
    (∑ k : Fin 2048, S m c t (ix2 p k) * (iblk m c 2 t : Vec Ideal S2048x512 .bf16) (ix2 k e)) = proj (m ((c : Thread nD τ).loc main_arg0)) (m ((c : Thread nD τ).loc main_arg1)) (m ((c : Thread nD τ).loc main_arg2)) (row t p) n := by
  unfold proj
  refine Finset.sum_congr rfl fun k _ => ?_
  have he := e.isLt
  have hc : ∀ h, (⟨512 * (t.val % 16) + e.val, h⟩ : Fin 8192) = ⟨n % 8192, by omega⟩ := fun h =>
    Fin.ext (by show 512 * (t.val % 16) + e.val = n % 8192; omega)
  rw [S_apply, read_2, w_entry, hc]

/-- An entry of a point's rotated product. -/
theorem rot_apply (t : Fin cfg0.N) (p : Fin 1024) (e : Fin 512) (lo d : ℕ) (hd : lo + d = 512 * (t.val % 16) + e.val) (h : d % 512 = e.val) :
    (∑ k : Fin 2048, S m c t (ix2 p k) * (iblk m c 2 t : Vec Ideal S2048x512 .bf16) (ix2 k e)) * (iblk m c 3 t : Vec Ideal S1024x512 .f32) (ix2 p e)
      + (∑ k : Fin 2048, S m c t (ix2 p k) * (iblk m c 2 t : Vec Ideal S2048x512 .bf16) (ix2 k (mate e))) * (iblk m c 4 t : Vec Ideal S1024x512 .f32) (ix2 p e)
      = rot (m ((c : Thread nD τ).loc main_arg0)) (m ((c : Thread nD τ).loc main_arg1)) (m ((c : Thread nD τ).loc main_arg2)) lo (row t p) d := by
  unfold rot
  have ht := pt_lt t
  have he := e.isLt
  have hp := p.isLt
  have hm : lo + mateN d = 512 * (t.val % 16) + (mate e).val := by
    unfold mateN mate
    by_cases h' : e.val % 64 < 32
    · rw [dif_pos h', if_pos (by omega)]
      show lo + (d + 32) = 512 * (t.val % 16) + (e.val + 32)
      omega
    · rw [dif_neg h', if_neg (by omega)]
      show lo + (d - 32) = 512 * (t.val % 16) + (e.val - 32)
      omega
  have hang : ∀ h, angle ⟨1024 * (t.val / 16 % 8) + p.val, h⟩ (lane e) = ang (row t p) d := fun h => by
    unfold ang lane
    congr 1
    · apply Fin.ext
      show 1024 * (t.val / 16 % 8) + p.val = (1024 * (t.val / 16) + p.val) % 8192
      omega
    · apply Fin.ext
      show e.val % 32 = d % 32
      omega
  rw [prod_apply m c t p e _ hd, prod_apply m c t p (mate e) _ hm, read_3, read_4, cos_entry, sin_entry, hang]
  by_cases h' : e.val % 64 < 32
  · rw [if_pos h', if_pos (by omega)]
  · rw [if_neg h', if_neg (by omega)]

/-- A point's row of blocks is that of the point its result was stored at. -/
theorem row_pt (t : Fin cfg0.N) (hi : ℕ) (p : Fin 1024) : row (pt t hi) p = row t p :=
  Fin.ext (by show 1024 * ((16 * (t.val / 16) + min (t.val % 16) hi) / 16) + p.val = 1024 * (t.val / 16) + p.val; omega)

/-- And its block of columns is the later of the two. -/
theorem col_pt (t : Fin cfg0.N) (hi : ℕ) : (pt t hi).val % 16 = min (t.val % 16) hi := by
  show (16 * (t.val / 16) + min (t.val % 16) hi) % 16 = _
  omega

/-- The scanned branch's input. -/
def result_5 (i : S32768x1024.Idx) : EReal :=
  proj (m ((c : Thread nD τ).loc main_arg0)) (m ((c : Thread nD τ).loc main_arg1)) (m ((c : Thread nD τ).loc main_arg2)) (i 0) (i 1).val

/-- The block of it a point writes back, entry by entry. -/
theorem block_5 (t : Fin cfg0.N) (h : 0 ≤ t.val % 16) (p : Fin 1024) (e : Fin 512) :
    Q5 m c (pt t 1) (ix2 p e) = result_5 m c (ix2 (row t p) ⟨512 * min (t.val % 16 - 0) 1 + e.val, by omega⟩) := by
  have he := e.isLt
  unfold Q5
  rw [pay3_apply]
  rw [prod_apply m c (pt t 1) p e (512 * min (t.val % 16 - 0) 1 + e.val) (by rw [col_pt]; omega)]
  rw [row_pt]
  rfl

/-- After the run it is what was named. -/
theorem final_5 : (dats m 0 c).arrAt 5 cfg0.N = result_5 m c := by
  refine (dats m 0 c).arrAt_eq_of_covers 5 (result_5 m c) covers_5 fun t hf y => ?_
  have hlo := flush_5 t hf
  blk_simp
  rw [after_5]
  have hy : y = ix2 (y 0) (y 1) := by
    funext a
    match a with
    | ⟨0, _⟩ => rfl
    | ⟨1, _⟩ => rfl
  refine Eq.trans ?_ ((block_5 m c t hlo (y 0) (y 1)).trans ?_)
  · congr 1
    blk_ext
  · congr 1
    blk_ext [idx_5 t, row]

/-- The queries. -/
def result_6 (i : S32768x1024.Idx) : EReal :=
  rot (m ((c : Thread nD τ).loc main_arg0)) (m ((c : Thread nD τ).loc main_arg1)) (m ((c : Thread nD τ).loc main_arg2)) 1024 (i 0) (i 1).val * Ideal.ofBits .f32 0x3E000000#32

/-- The block of it a point writes back, entry by entry. -/
theorem block_6 (t : Fin cfg0.N) (h : 2 ≤ t.val % 16) (p : Fin 1024) (e : Fin 512) :
    Q6 m c (pt t 3) (ix2 p e) = result_6 m c (ix2 (row t p) ⟨512 * min (t.val % 16 - 2) 1 + e.val, by omega⟩) := by
  have he := e.isLt
  unfold Q6
  rw [pay4_apply]
  rw [rot_apply m c (pt t 3) p e 1024 (512 * min (t.val % 16 - 2) 1 + e.val) (by rw [col_pt]; omega) (by omega)]
  rw [row_pt]
  rfl

/-- After the run it is what was named. -/
theorem final_6 : (dats m 0 c).arrAt 6 cfg0.N = result_6 m c := by
  refine (dats m 0 c).arrAt_eq_of_covers 6 (result_6 m c) covers_6 fun t hf y => ?_
  have hlo := flush_6 t hf
  blk_simp
  rw [after_6]
  have hy : y = ix2 (y 0) (y 1) := by
    funext a
    match a with
    | ⟨0, _⟩ => rfl
    | ⟨1, _⟩ => rfl
  refine Eq.trans ?_ ((block_6 m c t hlo (y 0) (y 1)).trans ?_)
  · congr 1
    blk_ext
  · congr 1
    blk_ext [idx_6 t, row]

/-- The keys. -/
def result_7 (i : S32768x1024.Idx) : EReal :=
  rot (m ((c : Thread nD τ).loc main_arg0)) (m ((c : Thread nD τ).loc main_arg1)) (m ((c : Thread nD τ).loc main_arg2)) 2048 (i 0) (i 1).val

/-- The block of it a point writes back, entry by entry. -/
theorem block_7 (t : Fin cfg0.N) (h : 4 ≤ t.val % 16) (p : Fin 1024) (e : Fin 512) :
    Q7 m c (pt t 5) (ix2 p e) = result_7 m c (ix2 (row t p) ⟨512 * min (t.val % 16 - 4) 1 + e.val, by omega⟩) := by
  have he := e.isLt
  unfold Q7
  rw [pay5_apply]
  rw [rot_apply m c (pt t 5) p e 2048 (512 * min (t.val % 16 - 4) 1 + e.val) (by rw [col_pt]; omega) (by omega)]
  rw [row_pt]
  rfl

/-- After the run it is what was named. -/
theorem final_7 : (dats m 0 c).arrAt 7 cfg0.N = result_7 m c := by
  refine (dats m 0 c).arrAt_eq_of_covers 7 (result_7 m c) covers_7 fun t hf y => ?_
  have hlo := flush_7 t hf
  blk_simp
  rw [after_7]
  have hy : y = ix2 (y 0) (y 1) := by
    funext a
    match a with
    | ⟨0, _⟩ => rfl
    | ⟨1, _⟩ => rfl
  refine Eq.trans ?_ ((block_7 m c t hlo (y 0) (y 1)).trans ?_)
  · congr 1
    blk_ext
  · congr 1
    blk_ext [idx_7 t, row]

/-- The keys, narrower. -/
def result_8 (i : S32768x1024.Idx) : EReal :=
  rot (m ((c : Thread nD τ).loc main_arg0)) (m ((c : Thread nD τ).loc main_arg1)) (m ((c : Thread nD τ).loc main_arg2)) 2048 (i 0) (i 1).val

/-- The block of it a point writes back, entry by entry. -/
theorem block_8 (t : Fin cfg0.N) (h : 4 ≤ t.val % 16) (p : Fin 1024) (e : Fin 512) :
    Q8 m c (pt t 5) (ix2 p e) = result_8 m c (ix2 (row t p) ⟨512 * min (t.val % 16 - 4) 1 + e.val, by omega⟩) := by
  have he := e.isLt
  unfold Q8
  rw [pay6_apply]
  rw [rot_apply m c (pt t 5) p e 2048 (512 * min (t.val % 16 - 4) 1 + e.val) (by rw [col_pt]; omega) (by omega)]
  rw [row_pt]
  rfl

/-- After the run it is what was named. -/
theorem final_8 : (dats m 0 c).arrAt 8 cfg0.N = result_8 m c := by
  refine (dats m 0 c).arrAt_eq_of_covers 8 (result_8 m c) covers_8 fun t hf y => ?_
  have hlo := flush_8 t hf
  blk_simp
  rw [after_8]
  have hy : y = ix2 (y 0) (y 1) := by
    funext a
    match a with
    | ⟨0, _⟩ => rfl
    | ⟨1, _⟩ => rfl
  refine Eq.trans ?_ ((block_8 m c t hlo (y 0) (y 1)).trans ?_)
  · congr 1
    blk_ext
  · congr 1
    blk_ext [idx_8 t, row]

/-- The values. -/
def result_9 (i : S32768x1024.Idx) : EReal :=
  proj (m ((c : Thread nD τ).loc main_arg0)) (m ((c : Thread nD τ).loc main_arg1)) (m ((c : Thread nD τ).loc main_arg2)) (i 0) (3072 + (i 1).val)

/-- The block of it a point writes back, entry by entry. -/
theorem block_9 (t : Fin cfg0.N) (h : 6 ≤ t.val % 16) (p : Fin 1024) (e : Fin 512) :
    Q9 m c (pt t 7) (ix2 p e) = result_9 m c (ix2 (row t p) ⟨512 * min (t.val % 16 - 6) 1 + e.val, by omega⟩) := by
  have he := e.isLt
  unfold Q9
  rw [pay7_apply]
  rw [prod_apply m c (pt t 7) p e (3072 + (512 * min (t.val % 16 - 6) 1 + e.val)) (by rw [col_pt]; omega)]
  rw [row_pt]
  rfl

/-- After the run it is what was named. -/
theorem final_9 : (dats m 0 c).arrAt 9 cfg0.N = result_9 m c := by
  refine (dats m 0 c).arrAt_eq_of_covers 9 (result_9 m c) covers_9 fun t hf y => ?_
  have hlo := flush_9 t hf
  blk_simp
  rw [after_9]
  have hy : y = ix2 (y 0) (y 1) := by
    funext a
    match a with
    | ⟨0, _⟩ => rfl
    | ⟨1, _⟩ => rfl
  refine Eq.trans ?_ ((block_9 m c t hlo (y 0) (y 1)).trans ?_)
  · congr 1
    blk_ext
  · congr 1
    blk_ext [idx_9 t, row]

/-- The values, narrower. -/
def result_10 (i : S32768x1024.Idx) : EReal :=
  proj (m ((c : Thread nD τ).loc main_arg0)) (m ((c : Thread nD τ).loc main_arg1)) (m ((c : Thread nD τ).loc main_arg2)) (i 0) (3072 + (i 1).val)

/-- The block of it a point writes back, entry by entry. -/
theorem block_10 (t : Fin cfg0.N) (h : 6 ≤ t.val % 16) (p : Fin 1024) (e : Fin 512) :
    Q10 m c (pt t 7) (ix2 p e) = result_10 m c (ix2 (row t p) ⟨512 * min (t.val % 16 - 6) 1 + e.val, by omega⟩) := by
  have he := e.isLt
  unfold Q10
  rw [pay8_apply]
  rw [prod_apply m c (pt t 7) p e (3072 + (512 * min (t.val % 16 - 6) 1 + e.val)) (by rw [col_pt]; omega)]
  rw [row_pt]
  rfl

/-- After the run it is what was named. -/
theorem final_10 : (dats m 0 c).arrAt 10 cfg0.N = result_10 m c := by
  refine (dats m 0 c).arrAt_eq_of_covers 10 (result_10 m c) covers_10 fun t hf y => ?_
  have hlo := flush_10 t hf
  blk_simp
  rw [after_10]
  have hy : y = ix2 (y 0) (y 1) := by
    funext a
    match a with
    | ⟨0, _⟩ => rfl
    | ⟨1, _⟩ => rfl
  refine Eq.trans ?_ ((block_10 m c t hlo (y 0) (y 1)).trans ?_)
  · congr 1
    blk_ext
  · congr 1
    blk_ext [idx_10 t, row]

/-- The first gate. -/
def result_11 (i : S32768x2048.Idx) : EReal :=
  Rms.logistic (proj (m ((c : Thread nD τ).loc main_arg0)) (m ((c : Thread nD τ).loc main_arg1)) (m ((c : Thread nD τ).loc main_arg2)) (i 0) (4096 + (i 1).val))

/-- The block of it a point writes back, entry by entry. -/
theorem block_11 (t : Fin cfg0.N) (h : 8 ≤ t.val % 16) (p : Fin 1024) (e : Fin 512) :
    Q11 m c (pt t 11) (ix2 p e) = result_11 m c (ix2 (row t p) ⟨512 * min (t.val % 16 - 8) 3 + e.val, by omega⟩) := by
  have he := e.isLt
  unfold Q11
  rw [pay9_apply]
  rw [prod_apply m c (pt t 11) p e (4096 + (512 * min (t.val % 16 - 8) 3 + e.val)) (by rw [col_pt]; omega)]
  rw [row_pt]
  rfl

/-- After the run it is what was named. -/
theorem final_11 : (dats m 0 c).arrAt 11 cfg0.N = result_11 m c := by
  refine (dats m 0 c).arrAt_eq_of_covers 11 (result_11 m c) covers_11 fun t hf y => ?_
  have hlo := flush_11 t hf
  blk_simp
  rw [after_11]
  have hy : y = ix2 (y 0) (y 1) := by
    funext a
    match a with
    | ⟨0, _⟩ => rfl
    | ⟨1, _⟩ => rfl
  refine Eq.trans ?_ ((block_11 m c t hlo (y 0) (y 1)).trans ?_)
  · congr 1
    blk_ext
  · congr 1
    blk_ext [idx_11 t, row]

/-- The second gate. -/
def result_12 (i : S32768x2048.Idx) : EReal :=
  Rms.logistic (proj (m ((c : Thread nD τ).loc main_arg0)) (m ((c : Thread nD τ).loc main_arg1)) (m ((c : Thread nD τ).loc main_arg2)) (i 0) (6144 + (i 1).val))

/-- The block of it a point writes back, entry by entry. -/
theorem block_12 (t : Fin cfg0.N) (h : 12 ≤ t.val % 16) (p : Fin 1024) (e : Fin 512) :
    Q12 m c (pt t 15) (ix2 p e) = result_12 m c (ix2 (row t p) ⟨512 * min (t.val % 16 - 12) 3 + e.val, by omega⟩) := by
  have he := e.isLt
  unfold Q12
  rw [pay1_apply]
  rw [prod_apply m c (pt t 15) p e (6144 + (512 * min (t.val % 16 - 12) 3 + e.val)) (by rw [col_pt]; omega)]
  rw [row_pt]
  rfl

/-- After the run it is what was named. -/
theorem final_12 : (dats m 0 c).arrAt 12 cfg0.N = result_12 m c := by
  refine (dats m 0 c).arrAt_eq_of_covers 12 (result_12 m c) covers_12 fun t hf y => ?_
  have hlo := flush_12 t hf
  blk_simp
  rw [after_12]
  have hy : y = ix2 (y 0) (y 1) := by
    funext a
    match a with
    | ⟨0, _⟩ => rfl
    | ⟨1, _⟩ => rfl
  refine Eq.trans ?_ ((block_12 m c t hlo (y 0) (y 1)).trans ?_)
  · congr 1
    blk_ext
  · congr 1
    blk_ext [idx_12 t, row]

set_option maxHeartbeats 4000000 in
/-- After every run each result array is what was named, and the arguments are as they were. -/
theorem run_blocks (ρ : Dev nD → PrngReg) : θ_run defs (onTc (τ := τ) (main (F := Ideal))) ⟨m, fun _ => 0, ρ⟩ (fun r => ∀ c : Dev nD,
      r.2.mem ((c.tc : Thread nD τ).loc main_v34_0) = result_5 m c
      ∧ r.2.mem ((c.tc : Thread nD τ).loc main_v34_1) = result_6 m c
      ∧ r.2.mem ((c.tc : Thread nD τ).loc main_v34_2) = result_7 m c
      ∧ r.2.mem ((c.tc : Thread nD τ).loc main_v34_3) = result_8 m c
      ∧ r.2.mem ((c.tc : Thread nD τ).loc main_v34_4) = result_9 m c
      ∧ r.2.mem ((c.tc : Thread nD τ).loc main_v34_5) = result_10 m c
      ∧ r.2.mem ((c.tc : Thread nD τ).loc main_v34_6) = result_11 m c
      ∧ r.2.mem ((c.tc : Thread nD τ).loc main_v34_7) = result_12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  obtain ⟨h1, h2⟩ := h c
  have e5 : r.2.mem ((c.tc : Thread nD τ).loc main_v34_0) = result_5 m c := (h1 5).trans (final_5 m c)
  have e6 : r.2.mem ((c.tc : Thread nD τ).loc main_v34_1) = result_6 m c := (h1 6).trans (final_6 m c)
  have e7 : r.2.mem ((c.tc : Thread nD τ).loc main_v34_2) = result_7 m c := (h1 7).trans (final_7 m c)
  have e8 : r.2.mem ((c.tc : Thread nD τ).loc main_v34_3) = result_8 m c := (h1 8).trans (final_8 m c)
  have e9 : r.2.mem ((c.tc : Thread nD τ).loc main_v34_4) = result_9 m c := (h1 9).trans (final_9 m c)
  have e10 : r.2.mem ((c.tc : Thread nD τ).loc main_v34_5) = result_10 m c := (h1 10).trans (final_10 m c)
  have e11 : r.2.mem ((c.tc : Thread nD τ).loc main_v34_6) = result_11 m c := (h1 11).trans (final_11 m c)
  have e12 : r.2.mem ((c.tc : Thread nD τ).loc main_v34_7) = result_12 m c := (h1 12).trans (final_12 m c)
  have a0 : r.2.mem ((c.tc : Thread nD τ).loc main_arg0) = m ((c.tc : Thread nD τ).loc main_arg0) :=
    (h2 main_arg0 (Pipeline.mem_restRefs_of main_arg0 (by decide) (by decide))).trans (V_main_arg0 m c)
  have a1 : r.2.mem ((c.tc : Thread nD τ).loc main_arg1) = m ((c.tc : Thread nD τ).loc main_arg1) :=
    (h2 main_arg1 (Pipeline.mem_restRefs_of main_arg1 (by decide) (by decide))).trans (V_main_arg1 m c)
  have a2 : r.2.mem ((c.tc : Thread nD τ).loc main_arg2) = m ((c.tc : Thread nD τ).loc main_arg2) :=
    (h2 main_arg2 (Pipeline.mem_restRefs_of main_arg2 (by decide) (by decide))).trans (V_main_arg2 m c)
  exact ⟨e5, e6, e7, e8, e9, e10, e11, e12, a0, a1, a2⟩

end Cert.Kernel5Ideal.Inproj
-- ==== Proof.InprojRef.lean ====
module

public import proofs.«01_k».proof.Defs
public import proofs.«01_k».proof.Proof.Inproj
public import proofs.«01_k».proof.Proof.Gen.Reference5Ideal.Read
public import Idealize.ShloMosaic.Lib.IdealHost

/-! The input projection: the reference's arrays, and that the kernel leaves the same. -/

@[expose] public section

set_option maxRecDepth 16384

noncomputable section

open Idealize.ShloMosaic Idealize.ShloMosaic.TcCoe Idealize.SL.Sem

namespace Cert.Reference5Ideal.Inproj

open Cert.Reference5Ideal Cert.Reference5Ideal.Gen Cert.Reference5Ideal.Read Cert.Kernel5Ideal.Inproj Cert.Rms

variable (x : S4x8192x2048.Idx → EReal) (g : S1x2048.Idx → EReal) (w : S1x2048x8192.Idx → EReal)

/-- An index of an array of rank three from its coordinates. -/
theorem ix3_eta {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl

/-- An entry of the gain. -/
theorem gain_ref (b : Fin 4) (t : Fin 8192) (k : Fin 2048) : val_main_v12 (F := Ideal) g (ix3 b t k) = g (ix2 0 k) := by
  rw [val_main_v12_apply, val_main_v11_apply, val_main_v10_apply]
  have hk := k.isLt
  refine congrArg g ?_
  funext a
  apply Fin.ext
  match a with
  | ⟨0, _⟩ => rfl
  | ⟨1, _⟩ => show k.val % 2048 = k.val; omega

/-- An entry of the normalised input. -/
theorem norm_ref (b : Fin 4) (t : Fin 8192) (k : Fin 2048) :
    val_main_v13 (F := Ideal) x g (ix3 b t k) = rms (fun k => x (ix3 b t k)) (fun k => g (ix2 0 k)) k := by
  rw [val_main_v13_apply, val_main_v9_apply, gain_ref, val_main_v8_apply, val_main_v7_apply, val_main_v6_apply, val_main_v5_apply, val_main_v4_apply,
    val_main_v3_apply, val_main_v2_apply, val_main_v1_apply]
  rw [show (val_main_cst (F := Ideal)) (Shape.Idx.first h_S_) = (0 : EReal) from Ideal.ofBits_zero_f32, zero_add]
  have e : ∀ j : Fin 2048, val_main_v0 (F := Ideal) x (idx_main_v1 (idx_main_v2 (idx_main_v8 (ix3 b t k))) j) = x (ix3 b t j) * x (ix3 b t j) :=
    fun j => by
      refine (congrArg (val_main_v0 (F := Ideal) x) (ix3_eta _)).trans ?_
      show val_main_v0 (F := Ideal) x (ix3 b t j) = _
      rw [val_main_v0_apply]
      rfl
  rw [Finset.sum_congr rfl fun j _ => e j]
  rfl

/-- An entry of the weight. -/
theorem weight_ref (k : Fin 2048) (n : Fin 8192) : val_main_v14 (F := Ideal) w (ix2 k n) = w (ix3 0 k n) := by
  rw [val_main_v14_apply]
  have hk := k.isLt
  have hn := n.isLt
  refine congrArg w ?_
  funext a
  apply Fin.ext
  match a with
  | ⟨0, _⟩ => rfl
  | ⟨1, _⟩ => show (k.val * 8192 + n.val) / 8192 % 2048 = k.val; omega
  | ⟨2, _⟩ => show (k.val * 8192 + n.val) % 8192 = n.val; omega

/-- An entry of the projection, its row counted through all sequences. -/
theorem proj_ref (i : S4x8192x8192.Idx) (r : Fin 32768) (n : ℕ) (hr : r.val = (i 0).val * 8192 + (i 1).val) (hn : n = (i 2).val) :
    val_main_v15 (F := Ideal) x g w i = proj x g w r n := by
  have h0 : (i 0).val < 4 := (i 0).isLt
  have h1 : (i 1).val < 8192 := (i 1).isLt
  have h2 : (i 2).val < 8192 := (i 2).isLt
  rw [val_main_v15_apply]
  unfold proj
  have eb : (⟨r.val / 8192, by omega⟩ : Fin 4) = i 0 := Fin.ext (by show r.val / 8192 = (i 0).val; omega)
  have et : (⟨r.val % 8192, by omega⟩ : Fin 8192) = i 1 := Fin.ext (by show r.val % 8192 = (i 1).val; omega)
  have en : (⟨n % 8192, by omega⟩ : Fin 8192) = i 2 := Fin.ext (by show n % 8192 = (i 2).val; omega)
  rw [eb, et, en]
  refine Finset.sum_congr rfl fun k _ => congrArg₂ (· * ·) ?_ ?_
  · exact (congrArg (val_main_v13 (F := Ideal) x g) (ix3_eta (lidx_main_v15 i k))).trans (norm_ref x g (i 0) (i 1) k)
  · refine (congrArg (val_main_v14 (F := Ideal) w) ?_).trans (weight_ref w k (i 2))
    funext a
    match a with
    | ⟨0, _⟩ => rfl
    | ⟨1, _⟩ => rfl

/-- The angle of a position and a frequency. -/
theorem angle_ref (i : S8192x32.Idx) : val_main_v36 (F := Ideal) i = angle (i 0) (i 1) := by
  rw [val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply]
  rfl

/-- The cosine of an entry's angle. -/
theorem cos_ref (i : S8192x1x1x32.Idx) : val_main_v38 (F := Ideal) i = Ideal.cos (angle (i 0) (i 3)) := by
  rw [val_main_v38_apply, val_main_v37_apply, angle_ref]
  rfl

/-- The sine of an entry's angle. -/
theorem sin_ref (i : S8192x1x1x32.Idx) : val_main_v40 (F := Ideal) i = Ideal.sin (angle (i 0) (i 3)) := by
  rw [val_main_v40_apply, val_main_v39_apply, angle_ref]
  rfl

/-- The rotation's angle from an index's position and lane. -/
theorem ang_eq (r : Fin 32768) (d : ℕ) (p : Fin 8192) (k : Fin 32) (hr : r.val % 8192 = p.val) (hd : d % 32 = k.val) : ang r d = angle p k := by
  unfold ang
  have e : (⟨r.val % 8192, by omega⟩ : Fin 8192) = p := Fin.ext hr
  have e' : (⟨d % 32, by omega⟩ : Fin 32) = k := Fin.ext hd
  rw [e, e']

/-- The first lanes of a rotated group. -/
theorem rot_low (lo : ℕ) (r : Fin 32768) (d : ℕ) (p : Fin 8192) (k : Fin 32) (hr : r.val % 8192 = p.val) (hd : d % 64 = k.val) :
    rot x g w lo r d = proj x g w r (lo + d) * Ideal.cos (angle p k) - proj x g w r (lo + (d + 32)) * Ideal.sin (angle p k) := by
  have hk := k.isLt
  unfold rot mateN
  rw [ang_eq r d p k hr (by omega), if_pos (by omega), if_pos (by omega), sub_eq_add_neg, mul_neg]

/-- The last lanes of a rotated group. -/
theorem rot_high (lo : ℕ) (r : Fin 32768) (d : ℕ) (p : Fin 8192) (k : Fin 32) (hr : r.val % 8192 = p.val) (hd : d % 64 = 32 + k.val) :
    rot x g w lo r d = proj x g w r (lo + d) * Ideal.cos (angle p k) + proj x g w r (lo + (d - 32)) * Ideal.sin (angle p k) := by
  have hk := k.isLt
  unfold rot mateN
  rw [ang_eq r d p k hr (by omega)]
  have h : ¬ d % 64 < 32 := by omega
  simp only [h, if_false]

/-- The row of an entry, from its flat place. -/
theorem row_of (b t h s e : ℕ) (ht : t < 8192) (hh : h < 8) (hs : s < 2) (he : e < 64) :
    ((((b * 8192 + t) * 8 + h) * 2 + s) * 64 + e) / 8388608 * 8192 + ((((b * 8192 + t) * 8 + h) * 2 + s) * 64 + e) / 1024 % 8192 = b * 8192 + t := by
  have e1 : ((((b * 8192 + t) * 8 + h) * 2 + s) * 64 + e) / 1024 = b * 8192 + t := by omega
  have e2 : ((((b * 8192 + t) * 8 + h) * 2 + s) * 64 + e) / 8388608 = b := by omega
  rw [e1, e2]
  omega

/-- The column of an entry, from its flat place. -/
theorem col_of (b t h s e : ℕ) (hh : h < 8) (hs : s < 2) (he : e < 64) :
    ((((b * 8192 + t) * 8 + h) * 2 + s) * 64 + e) % 1024 = (h * 2 + s) * 64 + e := by
  omega

/-- An entry of the rotated queries, its row counted through all sequences and its column through all heads. -/
theorem rope_q (j : S4x8192x8x2x64.Idx) (r : Fin 32768) (d : ℕ) (hr : r.val = (j 0).val * 8192 + (j 1).val)
    (hd : d = ((j 2).val * 2 + (j 3).val) * 64 + (j 4).val) :
    val_main_v58 (F := Ideal) x g w j = rot x g w 1024 r d := by
  have h0 : (j 0).val < 4 := (j 0).isLt
  have h1 : (j 1).val < 8192 := (j 1).isLt
  have h2 : (j 2).val < 8 := (j 2).isLt
  have h3 : (j 3).val < 2 := (j 3).isLt
  have h4 : (j 4).val < 64 := (j 4).isLt
  unfold val_main_v58
  by_cases h : (j 4).val < 32
  · have e : d % 64 = (j 4).val := by omega
    refine (concatenate_pair_apply_left (s₁ := S4x8192x8x2x32) 4 _ _ _ j rfl (ix5 (j 0) (j 1) (j 2) (j 3) ⟨(j 4).val, h⟩) (fun b => ?_)).trans ?_
    · match b with
      | ⟨0, _⟩ => rfl
      | ⟨1, _⟩ => rfl
      | ⟨2, _⟩ => rfl
      | ⟨3, _⟩ => rfl
      | ⟨4, _⟩ => rfl
    rw [rot_low x g w 1024 r d (j 1) ⟨(j 4).val, h⟩ (by omega) e]
    rw [val_main_v50_apply, val_main_v46_apply, val_main_v49_apply, val_main_v45_apply, val_main_v48_apply, val_main_v44_apply, val_main_v47_apply,
      cos_ref, sin_ref, val_main_v42_apply, val_main_v43_apply, val_main_v41_apply, val_main_v41_apply, val_main_v17_apply, val_main_v17_apply]
    refine congrArg₂ (· - ·) (congrArg₂ (· * ·) (proj_ref x g w _ _ _ ?_ ?_) rfl) (congrArg₂ (· * ·) (proj_ref x g w _ _ _ ?_ ?_) rfl)
    · show r.val = (((((j 0).val * 8192 + (j 1).val) * 8 + (j 2).val) * 2 + (j 3).val) * 64 + ((j 4).val)) / 8388608 * 8192 + (((((j 0).val * 8192 + (j 1).val) * 8 + (j 2).val) * 2 + (j 3).val) * 64 + ((j 4).val)) / 1024 % 8192
      exact hr.trans (row_of _ _ _ _ _ h1 h2 h3 (by omega)).symm
    · show 1024 + d = 1024 + (((((j 0).val * 8192 + (j 1).val) * 8 + (j 2).val) * 2 + (j 3).val) * 64 + ((j 4).val)) % 1024
      rw [col_of _ _ _ _ _ h2 h3 (by omega)]
      omega
    · show r.val = (((((j 0).val * 8192 + (j 1).val) * 8 + (j 2).val) * 2 + (j 3).val) * 64 + (32 + (j 4).val)) / 8388608 * 8192 + (((((j 0).val * 8192 + (j 1).val) * 8 + (j 2).val) * 2 + (j 3).val) * 64 + (32 + (j 4).val)) / 1024 % 8192
      exact hr.trans (row_of _ _ _ _ _ h1 h2 h3 (by omega)).symm
    · show 1024 + (d + 32) = 1024 + (((((j 0).val * 8192 + (j 1).val) * 8 + (j 2).val) * 2 + (j 3).val) * 64 + (32 + (j 4).val)) % 1024
      rw [col_of _ _ _ _ _ h2 h3 (by omega)]
      omega
  · have hs : (j 4).val - 32 < 32 := by omega
    have e : d % 64 = 32 + ((j 4).val - 32) := by omega
    refine (concatenate_pair_apply_right (s₁ := S4x8192x8x2x32) (s₂ := S4x8192x8x2x32) 4 _ _ _ j rfl rfl
      (ix5 (j 0) (j 1) (j 2) (j 3) ⟨(j 4).val - 32, hs⟩) (fun b hb => ?_) ?_).trans ?_
    · match b, hb with
      | ⟨0, _⟩, _ => rfl
      | ⟨1, _⟩, _ => rfl
      | ⟨2, _⟩, _ => rfl
      | ⟨3, _⟩, _ => rfl
      | ⟨4, _⟩, hb => exact absurd rfl hb
    · show (j 4).val - 32 + 32 = (j 4).val
      omega
    rw [rot_high x g w 1024 r d (j 1) ⟨(j 4).val - 32, hs⟩ (by omega) e]
    rw [val_main_v57_apply, val_main_v53_apply, val_main_v56_apply, val_main_v52_apply, val_main_v55_apply, val_main_v51_apply, val_main_v54_apply,
      cos_ref, sin_ref, val_main_v42_apply, val_main_v43_apply, val_main_v41_apply, val_main_v41_apply, val_main_v17_apply, val_main_v17_apply]
    refine congrArg₂ (· + ·) (congrArg₂ (· * ·) (proj_ref x g w _ _ _ ?_ ?_) rfl) (congrArg₂ (· * ·) (proj_ref x g w _ _ _ ?_ ?_) rfl)
    · show r.val = (((((j 0).val * 8192 + (j 1).val) * 8 + (j 2).val) * 2 + (j 3).val) * 64 + (32 + ((j 4).val - 32))) / 8388608 * 8192 + (((((j 0).val * 8192 + (j 1).val) * 8 + (j 2).val) * 2 + (j 3).val) * 64 + (32 + ((j 4).val - 32))) / 1024 % 8192
      exact hr.trans (row_of _ _ _ _ _ h1 h2 h3 (by omega)).symm
    · show 1024 + d = 1024 + (((((j 0).val * 8192 + (j 1).val) * 8 + (j 2).val) * 2 + (j 3).val) * 64 + (32 + ((j 4).val - 32))) % 1024
      rw [col_of _ _ _ _ _ h2 h3 (by omega)]
      omega
    · show r.val = (((((j 0).val * 8192 + (j 1).val) * 8 + (j 2).val) * 2 + (j 3).val) * 64 + ((j 4).val - 32)) / 8388608 * 8192 + (((((j 0).val * 8192 + (j 1).val) * 8 + (j 2).val) * 2 + (j 3).val) * 64 + ((j 4).val - 32)) / 1024 % 8192
      exact hr.trans (row_of _ _ _ _ _ h1 h2 h3 (by omega)).symm
    · show 1024 + (d - 32) = 1024 + (((((j 0).val * 8192 + (j 1).val) * 8 + (j 2).val) * 2 + (j 3).val) * 64 + ((j 4).val - 32)) % 1024
      rw [col_of _ _ _ _ _ h2 h3 (by omega)]
      omega

/-- An entry of the rotated keys, its row counted through all sequences and its column through all heads. -/
theorem rope_k (j : S4x8192x8x2x64.Idx) (r : Fin 32768) (d : ℕ) (hr : r.val = (j 0).val * 8192 + (j 1).val)
    (hd : d = ((j 2).val * 2 + (j 3).val) * 64 + (j 4).val) :
    val_main_v78 (F := Ideal) x g w j = rot x g w 2048 r d := by
  have h0 : (j 0).val < 4 := (j 0).isLt
  have h1 : (j 1).val < 8192 := (j 1).isLt
  have h2 : (j 2).val < 8 := (j 2).isLt
  have h3 : (j 3).val < 2 := (j 3).isLt
  have h4 : (j 4).val < 64 := (j 4).isLt
  unfold val_main_v78
  by_cases h : (j 4).val < 32
  · have e : d % 64 = (j 4).val := by omega
    refine (concatenate_pair_apply_left (s₁ := S4x8192x8x2x32) 4 _ _ _ j rfl (ix5 (j 0) (j 1) (j 2) (j 3) ⟨(j 4).val, h⟩) (fun b => ?_)).trans ?_
    · match b with
      | ⟨0, _⟩ => rfl
      | ⟨1, _⟩ => rfl
      | ⟨2, _⟩ => rfl
      | ⟨3, _⟩ => rfl
      | ⟨4, _⟩ => rfl
    rw [rot_low x g w 2048 r d (j 1) ⟨(j 4).val, h⟩ (by omega) e]
    rw [val_main_v70_apply, val_main_v66_apply, val_main_v69_apply, val_main_v65_apply, val_main_v68_apply, val_main_v64_apply, val_main_v67_apply,
      cos_ref, sin_ref, val_main_v62_apply, val_main_v63_apply, val_main_v61_apply, val_main_v61_apply, val_main_v18_apply, val_main_v18_apply]
    refine congrArg₂ (· - ·) (congrArg₂ (· * ·) (proj_ref x g w _ _ _ ?_ ?_) rfl) (congrArg₂ (· * ·) (proj_ref x g w _ _ _ ?_ ?_) rfl)
    · show r.val = (((((j 0).val * 8192 + (j 1).val) * 8 + (j 2).val) * 2 + (j 3).val) * 64 + ((j 4).val)) / 8388608 * 8192 + (((((j 0).val * 8192 + (j 1).val) * 8 + (j 2).val) * 2 + (j 3).val) * 64 + ((j 4).val)) / 1024 % 8192
      exact hr.trans (row_of _ _ _ _ _ h1 h2 h3 (by omega)).symm
    · show 2048 + d = 2048 + (((((j 0).val * 8192 + (j 1).val) * 8 + (j 2).val) * 2 + (j 3).val) * 64 + ((j 4).val)) % 1024
      rw [col_of _ _ _ _ _ h2 h3 (by omega)]
      omega
    · show r.val = (((((j 0).val * 8192 + (j 1).val) * 8 + (j 2).val) * 2 + (j 3).val) * 64 + (32 + (j 4).val)) / 8388608 * 8192 + (((((j 0).val * 8192 + (j 1).val) * 8 + (j 2).val) * 2 + (j 3).val) * 64 + (32 + (j 4).val)) / 1024 % 8192
      exact hr.trans (row_of _ _ _ _ _ h1 h2 h3 (by omega)).symm
    · show 2048 + (d + 32) = 2048 + (((((j 0).val * 8192 + (j 1).val) * 8 + (j 2).val) * 2 + (j 3).val) * 64 + (32 + (j 4).val)) % 1024
      rw [col_of _ _ _ _ _ h2 h3 (by omega)]
      omega
  · have hs : (j 4).val - 32 < 32 := by omega
    have e : d % 64 = 32 + ((j 4).val - 32) := by omega
    refine (concatenate_pair_apply_right (s₁ := S4x8192x8x2x32) (s₂ := S4x8192x8x2x32) 4 _ _ _ j rfl rfl
      (ix5 (j 0) (j 1) (j 2) (j 3) ⟨(j 4).val - 32, hs⟩) (fun b hb => ?_) ?_).trans ?_
    · match b, hb with
      | ⟨0, _⟩, _ => rfl
      | ⟨1, _⟩, _ => rfl
      | ⟨2, _⟩, _ => rfl
      | ⟨3, _⟩, _ => rfl
      | ⟨4, _⟩, hb => exact absurd rfl hb
    · show (j 4).val - 32 + 32 = (j 4).val
      omega
    rw [rot_high x g w 2048 r d (j 1) ⟨(j 4).val - 32, hs⟩ (by omega) e]
    rw [val_main_v77_apply, val_main_v73_apply, val_main_v76_apply, val_main_v72_apply, val_main_v75_apply, val_main_v71_apply, val_main_v74_apply,
      cos_ref, sin_ref, val_main_v62_apply, val_main_v63_apply, val_main_v61_apply, val_main_v61_apply, val_main_v18_apply, val_main_v18_apply]
    refine congrArg₂ (· + ·) (congrArg₂ (· * ·) (proj_ref x g w _ _ _ ?_ ?_) rfl) (congrArg₂ (· * ·) (proj_ref x g w _ _ _ ?_ ?_) rfl)
    · show r.val = (((((j 0).val * 8192 + (j 1).val) * 8 + (j 2).val) * 2 + (j 3).val) * 64 + (32 + ((j 4).val - 32))) / 8388608 * 8192 + (((((j 0).val * 8192 + (j 1).val) * 8 + (j 2).val) * 2 + (j 3).val) * 64 + (32 + ((j 4).val - 32))) / 1024 % 8192
      exact hr.trans (row_of _ _ _ _ _ h1 h2 h3 (by omega)).symm
    · show 2048 + d = 2048 + (((((j 0).val * 8192 + (j 1).val) * 8 + (j 2).val) * 2 + (j 3).val) * 64 + (32 + ((j 4).val - 32))) % 1024
      rw [col_of _ _ _ _ _ h2 h3 (by omega)]
      omega
    · show r.val = (((((j 0).val * 8192 + (j 1).val) * 8 + (j 2).val) * 2 + (j 3).val) * 64 + ((j 4).val - 32)) / 8388608 * 8192 + (((((j 0).val * 8192 + (j 1).val) * 8 + (j 2).val) * 2 + (j 3).val) * 64 + ((j 4).val - 32)) / 1024 % 8192
      exact hr.trans (row_of _ _ _ _ _ h1 h2 h3 (by omega)).symm
    · show 2048 + (d - 32) = 2048 + (((((j 0).val * 8192 + (j 1).val) * 8 + (j 2).val) * 2 + (j 3).val) * 64 + ((j 4).val - 32)) % 1024
      rw [col_of _ _ _ _ _ h2 h3 (by omega)]
      omega

/-- An entry of the first piece. -/
theorem u_ref (i : S32768x1024.Idx) : val_main_v79 (F := Ideal) x g w i = proj x g w (i 0) (i 1).val := by
  have h0 : (i 0).val < 32768 := (i 0).isLt
  have h1 : (i 1).val < 1024 := (i 1).isLt
  rw [val_main_v79_apply, val_main_v16_apply]
  refine proj_ref x g w _ _ _ ?_ ?_
  · show (i 0).val = ((i 0).val * 1024 + (i 1).val) / 8388608 * 8192 + ((i 0).val * 1024 + (i 1).val) / 1024 % 8192
    omega
  · show (i 1).val = ((i 0).val * 1024 + (i 1).val) % 1024
    omega

/-- An entry of the rotated queries, laid flat. -/
theorem q_ref (i : S32768x1024.Idx) : val_main_v81 (F := Ideal) x g w i = rot x g w 1024 (i 0) (i 1).val * Ideal.ofBits .f32 0x3E000000#32 := by
  have h0 : (i 0).val < 32768 := (i 0).isLt
  have h1 : (i 1).val < 1024 := (i 1).isLt
  rw [val_main_v81_apply]
  rw [val_main_v60_apply, val_main_v59_apply]
  refine congrArg₂ (· * ·) (rope_q x g w _ _ _ ?_ ?_) rfl
  · show (i 0).val = ((i 0).val * 1024 + (i 1).val) / 8388608 * 8192 + ((i 0).val * 1024 + (i 1).val) / 1024 % 8192
    omega
  · show (i 1).val = (((i 0).val * 1024 + (i 1).val) / 128 % 8 * 2 + ((i 0).val * 1024 + (i 1).val) / 64 % 2) * 64 + ((i 0).val * 1024 + (i 1).val) % 64
    omega

/-- An entry of the rotated keys, laid flat. -/
theorem k_ref (i : S32768x1024.Idx) : val_main_v83 (F := Ideal) x g w i = rot x g w 2048 (i 0) (i 1).val := by
  have h0 : (i 0).val < 32768 := (i 0).isLt
  have h1 : (i 1).val < 1024 := (i 1).isLt
  rw [val_main_v83_apply]
  refine rope_k x g w _ _ _ ?_ ?_
  · show (i 0).val = ((i 0).val * 1024 + (i 1).val) / 8388608 * 8192 + ((i 0).val * 1024 + (i 1).val) / 1024 % 8192
    omega
  · show (i 1).val = (((i 0).val * 1024 + (i 1).val) / 128 % 8 * 2 + ((i 0).val * 1024 + (i 1).val) / 64 % 2) * 64 + ((i 0).val * 1024 + (i 1).val) % 64
    omega

/-- An entry of the rotated keys, laid flat. -/
theorem k_ref_small (i : S32768x1024.Idx) : val_main_v84 (F := Ideal) x g w i = rot x g w 2048 (i 0) (i 1).val := by
  have h0 : (i 0).val < 32768 := (i 0).isLt
  have h1 : (i 1).val < 1024 := (i 1).isLt
  rw [val_main_v84_apply]
  refine rope_k x g w _ _ _ ?_ ?_
  · show (i 0).val = ((i 0).val * 1024 + (i 1).val) / 8388608 * 8192 + ((i 0).val * 1024 + (i 1).val) / 1024 % 8192
    omega
  · show (i 1).val = (((i 0).val * 1024 + (i 1).val) / 128 % 8 * 2 + ((i 0).val * 1024 + (i 1).val) / 64 % 2) * 64 + ((i 0).val * 1024 + (i 1).val) % 64
    omega

/-- An entry of the values. -/
theorem v_ref (i : S32768x1024.Idx) : val_main_v86 (F := Ideal) x g w i = proj x g w (i 0) (3072 + (i 1).val) := by
  have h0 : (i 0).val < 32768 := (i 0).isLt
  have h1 : (i 1).val < 1024 := (i 1).isLt
  rw [val_main_v86_apply, val_main_v19_apply]
  refine proj_ref x g w _ _ _ ?_ ?_
  · show (i 0).val = ((i 0).val * 1024 + (i 1).val) / 8388608 * 8192 + ((i 0).val * 1024 + (i 1).val) / 1024 % 8192
    omega
  · show 3072 + (i 1).val = 3072 + ((i 0).val * 1024 + (i 1).val) % 1024
    omega

/-- An entry of the values. -/
theorem v_ref_small (i : S32768x1024.Idx) : val_main_v87 (F := Ideal) x g w i = proj x g w (i 0) (3072 + (i 1).val) := by
  have h0 : (i 0).val < 32768 := (i 0).isLt
  have h1 : (i 1).val < 1024 := (i 1).isLt
  rw [val_main_v87_apply, val_main_v19_apply]
  refine proj_ref x g w _ _ _ ?_ ?_
  · show (i 0).val = ((i 0).val * 1024 + (i 1).val) / 8388608 * 8192 + ((i 0).val * 1024 + (i 1).val) / 1024 % 8192
    omega
  · show 3072 + (i 1).val = 3072 + ((i 0).val * 1024 + (i 1).val) % 1024
    omega

/-- An entry of the first gate. -/
theorem sig_a_ref (i : S32768x2048.Idx) : val_main_v95 (F := Ideal) x g w i = Cert.Rms.logistic (proj x g w (i 0) (4096 + (i 1).val)) := by
  have h0 : (i 0).val < 32768 := (i 0).isLt
  have h1 : (i 1).val < 2048 := (i 1).isLt
  rw [val_main_v95_apply, val_main_v94_apply, val_main_v93_apply, val_main_v92_apply, val_main_v91_apply, val_main_v90_apply, val_main_v89_apply]
  have e : ∀ k, k = idx_main_v95 i → val_main_v20 (F := Ideal) x g w k = proj x g w (i 0) (4096 + (i 1).val) := by
    rintro k rfl
    rw [val_main_v20_apply]
    refine proj_ref x g w _ _ _ ?_ ?_
    · show (i 0).val = ((i 0).val * 2048 + (i 1).val) / 16777216 * 8192 + ((i 0).val * 2048 + (i 1).val) / 2048 % 8192
      omega
    · show 4096 + (i 1).val = 4096 + ((i 0).val * 2048 + (i 1).val) % 2048
      omega
  rw [e _ rfl]
  show Ideal.div (Ideal.ofBits .f32 0x3F800000#32) (Ideal.ofBits .f32 0x3F800000#32 + Ideal.exp (-proj x g w (i 0) (4096 + (i 1).val))) = _
  unfold Cert.Rms.logistic
  rw [Ideal.ofBits_one_f32, zero_sub]

/-- An entry of the second gate. -/
theorem sig_b_ref (i : S32768x2048.Idx) : val_main_v103 (F := Ideal) x g w i = Cert.Rms.logistic (proj x g w (i 0) (6144 + (i 1).val)) := by
  have h0 : (i 0).val < 32768 := (i 0).isLt
  have h1 : (i 1).val < 2048 := (i 1).isLt
  rw [val_main_v103_apply, val_main_v102_apply, val_main_v101_apply, val_main_v100_apply, val_main_v99_apply, val_main_v98_apply, val_main_v97_apply]
  have e : ∀ k, k = idx_main_v103 i → val_main_v21 (F := Ideal) x g w k = proj x g w (i 0) (6144 + (i 1).val) := by
    rintro k rfl
    rw [val_main_v21_apply]
    refine proj_ref x g w _ _ _ ?_ ?_
    · show (i 0).val = ((i 0).val * 2048 + (i 1).val) / 16777216 * 8192 + ((i 0).val * 2048 + (i 1).val) / 2048 % 8192
      omega
    · show 6144 + (i 1).val = 6144 + ((i 0).val * 2048 + (i 1).val) % 2048
      omega
  rw [e _ rfl]
  show Ideal.div (Ideal.ofBits .f32 0x3F800000#32) (Ideal.ofBits .f32 0x3F800000#32 + Ideal.exp (-proj x g w (i 0) (6144 + (i 1).val))) = _
  unfold Cert.Rms.logistic
  rw [Ideal.ofBits_one_f32, zero_sub]

end Cert.Reference5Ideal.Inproj

namespace Cert.Proof

/-- The reference's run changes none of its arguments and leaves no signal. -/
theorem reference5_frame : Cert.quiescent_Reference5Ideal (hReference5Ideal := Cert.Reference5Ideal.Gen.facts) :=
  fun m ρ _ => (θ_run Cert.Reference5Ideal.defs _ _).mono
    (fun r h => ⟨fun c => (h c).2.2.2.2.2.2.2.2, sem_eq_zero_of_no_sems (by decide) r.2⟩) (Cert.Reference5Ideal.Value.run m ρ)

/-- Idealized input projection and reference agree. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Inproj.result_5 m c, fun c => Cert.Kernel5Ideal.Inproj.result_6 m c,
    fun c => Cert.Kernel5Ideal.Inproj.result_7 m c, fun c => Cert.Kernel5Ideal.Inproj.result_8 m c,
    fun c => Cert.Kernel5Ideal.Inproj.result_9 m c, fun c => Cert.Kernel5Ideal.Inproj.result_10 m c,
    fun c => Cert.Kernel5Ideal.Inproj.result_11 m c, fun c => Cert.Kernel5Ideal.Inproj.result_12 m c, ?_, ?_⟩
  · exact Cert.Kernel5Ideal.Inproj.run_blocks m g
  · refine (θ_run Cert.Reference5Ideal.defs _ _).mono (fun r h c => ?_) (Cert.Reference5Ideal.Value.run m' g')
    obtain ⟨e0, e1, e2⟩ := hargs c
    obtain ⟨r0, r1, r2, r3, r4, r5, r6, r7, ra⟩ := h c
    refine ⟨r0.trans ((Cert.Reference5Ideal.Read.val_main_v80_eq _ _ _).trans ?_),
      r1.trans ((Cert.Reference5Ideal.Read.val_main_v82_eq _ _).trans ?_),
      r2.trans ((Cert.Reference5Ideal.Read.val_main_v83_eq _ _).trans ?_),
      r3.trans ((Cert.Reference5Ideal.Read.val_main_v85_eq _ _).trans ?_),
      r4.trans ((Cert.Reference5Ideal.Read.val_main_v86_eq _ _ _).trans ?_),
      r5.trans ((Cert.Reference5Ideal.Read.val_main_v88_eq _ _ _).trans ?_),
      r6.trans ((Cert.Reference5Ideal.Read.val_main_v96_eq _ _ _).trans ?_),
      r7.trans ((Cert.Reference5Ideal.Read.val_main_v104_eq _ _ _).trans ?_), ra⟩
    · rw [e0, e1, e2]
      exact funext fun i => Cert.Reference5Ideal.Inproj.u_ref _ _ _ i
    · rw [e0, e1, e2]
      exact funext fun i => Cert.Reference5Ideal.Inproj.q_ref _ _ _ i
    · rw [e0, e1, e2]
      exact funext fun i => Cert.Reference5Ideal.Inproj.k_ref _ _ _ i
    · rw [e0, e1, e2]
      exact funext fun i => Cert.Reference5Ideal.Inproj.k_ref_small _ _ _ i
    · rw [e0, e1, e2]
      exact funext fun i => Cert.Reference5Ideal.Inproj.v_ref _ _ _ i
    · rw [e0, e1, e2]
      exact funext fun i => Cert.Reference5Ideal.Inproj.v_ref_small _ _ _ i
    · rw [e0, e1, e2]
      exact funext fun i => Cert.Reference5Ideal.Inproj.sig_a_ref _ _ _ i
    · rw [e0, e1, e2]
      exact funext fun i => Cert.Reference5Ideal.Inproj.sig_b_ref _ _ _ i

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Algebraic
public import proofs.«01_k».proof.Proof.GluRef
public import proofs.«01_k».proof.Proof.MergeRef
public import proofs.«01_k».proof.Proof.PleRef
public import proofs.«01_k».proof.Proof.PleSRef
public import proofs.«01_k».proof.Proof.InprojFrame
public import proofs.«01_k».proof.Proof.InprojFrameBits
public import proofs.«01_k».proof.Proof.InprojRef
public import Idealize.ShloMosaic.Adequacy
public import Idealize.ShloMosaic.Init

@[expose] public section

noncomputable section

namespace Cert.Proof

open Idealize.ShloMosaic Idealize.SL.Sem Cert.Kernel

/-- A run of the reference ends with its arguments unchanged and every semaphore at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run m ρ)

/-- The frames, the named constant, and the equality of the results. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_inputs.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Inproj.frame m ρ, fun m ρ _ => Cert.Kernel5Ideal.Inproj.frame m ρ, reference5_frame,
    fun m ρ _ => Cert.Kernel6.Gen.frame m ρ, fun m ρ _ => Cert.Kernel6Ideal.Gen.frame m ρ, reference6_frame,
    IdealRules.named_const.statement Cert.KernelIdeal.κ "mask" .f32 0xF149F2CA#32 ⊥ rfl, algebraic,
    trivial, algebraic2, trivial, algebraic3, trivial, algebraic4, trivial, algebraic5, trivial, algebraic6⟩

end Cert.Proof

end
